-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attention_inputs_finite [hPre_attention_inputs_finite : Cert.Pre_attention_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_attention_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_attention_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_attention_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_attention_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_attention_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attention_inputs_finite [hPre_attention_inputs_finite : Cert.Pre_attention_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_attention_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_attention_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_attention_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_attention_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterReferenceIdeal (m : (ℓ : Loc Cert.RouterReferenceIdeal.nD Cert.RouterReferenceIdeal.τ Cert.RouterReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_inproj_inputs_finite [hPre_inproj_inputs_finite : Cert.Pre_inproj_inputs_finite.Facts] (m : (ℓ : Loc Cert.InprojIdeal.nD Cert.InprojIdeal.τ Cert.InprojIdeal.sig) → Buf (Elt Ideal) ℓ) : Prop :=
  ∀ c : Dev Cert.InprojIdeal.nD,
    (Cert.Pre_inproj_inputs_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7))).1 = (fun _ => 1#1)
    ∧ (Cert.Pre_inproj_inputs_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7))).2 = (fun _ => 1#1)

def Pre_InprojReferenceIdeal (m : (ℓ : Loc Cert.InprojReferenceIdeal.nD Cert.InprojReferenceIdeal.τ Cert.InprojReferenceIdeal.sig) → Buf (Elt Ideal) ℓ) : Prop :=
  True

def Pre_InprojReferenceIdeal_inproj_inputs_finite [hPre_inproj_inputs_finite : Cert.Pre_inproj_inputs_finite.Facts] (m : (ℓ : Loc Cert.InprojReferenceIdeal.nD Cert.InprojReferenceIdeal.τ Cert.InprojReferenceIdeal.sig) → Buf (Elt Ideal) ℓ) : Prop :=
  ∀ c : Dev Cert.InprojReferenceIdeal.nD,
    (Cert.Pre_inproj_inputs_finite.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4)) (m ((c.tc : Thread Cert.InprojReferenceIdeal.nD Cert.InprojReferenceIdeal.τ).loc Cert.InprojReferenceIdeal.main_arg5)) (m ((c.tc : Thread Cert.InprojReferenceIdeal.nD Cert.InprojReferenceIdeal.τ).loc Cert.InprojReferenceIdeal.main_arg6)) (m ((c.tc : Thread Cert.InprojReferenceIdeal.nD Cert.InprojReferenceIdeal.τ).loc Cert.InprojReferenceIdeal.main_arg7))).1 = (fun _ => 1#1)
    ∧ (Cert.Pre_inproj_inputs_finite.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4)) (m ((c.tc : Thread Cert.InprojReferenceIdeal.nD Cert.InprojReferenceIdeal.τ).loc Cert.InprojReferenceIdeal.main_arg5)) (m ((c.tc : Thread Cert.InprojReferenceIdeal.nD Cert.InprojReferenceIdeal.τ).loc Cert.InprojReferenceIdeal.main_arg6)) (m ((c.tc : Thread Cert.InprojReferenceIdeal.nD Cert.InprojReferenceIdeal.τ).loc Cert.InprojReferenceIdeal.main_arg7))).2 = (fun _ => 1#1)

def Pre_Filter (m : (ℓ : Loc Cert.Filter.nD Cert.Filter.τ Cert.Filter.sig) → Buf (Elt Bits) ℓ) : Prop :=
  True

def Pre_FilterIdeal (m : (ℓ : Loc Cert.FilterIdeal.nD Cert.FilterIdeal.τ Cert.FilterIdeal.sig) → Buf (Elt Ideal) ℓ) : Prop :=
  True

def Pre_FilterIdeal_filter_inputs_finite [hPre_filter_inputs_finite : Cert.Pre_filter_inputs_finite.Facts] (m : (ℓ : Loc Cert.FilterIdeal.nD Cert.FilterIdeal.τ Cert.FilterIdeal.sig) → Buf (Elt Ideal) ℓ) : Prop :=
  ∀ c : Dev Cert.FilterIdeal.nD,
    (Cert.Pre_filter_inputs_finite.fn (F := Ideal) (m ((c.tc : Thread Cert.FilterIdeal.nD Cert.FilterIdeal.τ).loc Cert.FilterIdeal.main_arg0)) (m ((c.tc : Thread Cert.FilterIdeal.nD Cert.FilterIdeal.τ).loc Cert.FilterIdeal.main_arg1)) (m ((c.tc : Thread Cert.FilterIdeal.nD Cert.FilterIdeal.τ).loc Cert.FilterIdeal.main_arg2)) (m ((c.tc : Thread Cert.FilterIdeal.nD Cert.FilterIdeal.τ).loc Cert.FilterIdeal.main_arg3)) (m ((c.tc : Thread Cert.FilterIdeal.nD Cert.FilterIdeal.τ).loc Cert.FilterIdeal.main_arg4)) (m ((c.tc : Thread Cert.FilterIdeal.nD Cert.FilterIdeal.τ).loc Cert.FilterIdeal.main_arg5)) (m ((c.tc : Thread Cert.FilterIdeal.nD Cert.FilterIdeal.τ).loc Cert.FilterIdeal.main_arg6)) (m ((c.tc : Thread Cert.FilterIdeal.nD Cert.FilterIdeal.τ).loc Cert.FilterIdeal.main_arg7)) (m ((c.tc : Thread Cert.FilterIdeal.nD Cert.FilterIdeal.τ).loc Cert.FilterIdeal.main_arg8))) = (fun _ => 1#1)

def Pre_FilterReferenceIdeal (m : (ℓ : Loc Cert.FilterReferenceIdeal.nD Cert.FilterReferenceIdeal.τ Cert.FilterReferenceIdeal.sig) → Buf (Elt Ideal) ℓ) : Prop :=
  True

def Pre_FilterReferenceIdeal_filter_inputs_finite [hPre_filter_inputs_finite : Cert.Pre_filter_inputs_finite.Facts] (m : (ℓ : Loc Cert.FilterReferenceIdeal.nD Cert.FilterReferenceIdeal.τ Cert.FilterReferenceIdeal.sig) → Buf (Elt Ideal) ℓ) : Prop :=
  ∀ c : Dev Cert.FilterReferenceIdeal.nD,
    (Cert.Pre_filter_inputs_finite.fn (F := Ideal) (m ((c.tc : Thread Cert.FilterReferenceIdeal.nD Cert.FilterReferenceIdeal.τ).loc Cert.FilterReferenceIdeal.main_arg0)) (m ((c.tc : Thread Cert.FilterReferenceIdeal.nD Cert.FilterReferenceIdeal.τ).loc Cert.FilterReferenceIdeal.main_arg1)) (m ((c.tc : Thread Cert.FilterReferenceIdeal.nD Cert.FilterReferenceIdeal.τ).loc Cert.FilterReferenceIdeal.main_arg2)) (m ((c.tc : Thread Cert.FilterReferenceIdeal.nD Cert.FilterReferenceIdeal.τ).loc Cert.FilterReferenceIdeal.main_arg3)) (m ((c.tc : Thread Cert.FilterReferenceIdeal.nD Cert.FilterReferenceIdeal.τ).loc Cert.FilterReferenceIdeal.main_arg4)) (m ((c.tc : Thread Cert.FilterReferenceIdeal.nD Cert.FilterReferenceIdeal.τ).loc Cert.FilterReferenceIdeal.main_arg5)) (m ((c.tc : Thread Cert.FilterReferenceIdeal.nD Cert.FilterReferenceIdeal.τ).loc Cert.FilterReferenceIdeal.main_arg6)) (m ((c.tc : Thread Cert.FilterReferenceIdeal.nD Cert.FilterReferenceIdeal.τ).loc Cert.FilterReferenceIdeal.main_arg7)) (m ((c.tc : Thread Cert.FilterReferenceIdeal.nD Cert.FilterReferenceIdeal.τ).loc Cert.FilterReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_attention_inputs_finite [hKernelIdeal : Cert.KernelIdeal.Facts] [hPre_attention_inputs_finite : Cert.Pre_attention_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_attention_inputs_finite [hReferenceIdeal : Cert.ReferenceIdeal.Facts] [hPre_attention_inputs_finite : Cert.Pre_attention_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attention_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5)
      ∧ r.2.mem ((c.tc : Thread Cert.Router.nD Cert.Router.τ).loc Cert.Router.main_arg6) = m ((c.tc : Thread Cert.Router.nD Cert.Router.τ).loc Cert.Router.main_arg6)
      ∧ r.2.mem ((c.tc : Thread Cert.Router.nD Cert.Router.τ).loc Cert.Router.main_arg7) = m ((c.tc : Thread Cert.Router.nD Cert.Router.τ).loc Cert.Router.main_arg7)
      ∧ r.2.mem ((c.tc : Thread Cert.Router.nD Cert.Router.τ).loc Cert.Router.main_arg8) = m ((c.tc : Thread Cert.Router.nD Cert.Router.τ).loc Cert.Router.main_arg8))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7)
      ∧ r.2.mem ((c.tc : Thread Cert.RouterIdeal.nD Cert.RouterIdeal.τ).loc Cert.RouterIdeal.main_arg8) = m ((c.tc : Thread Cert.RouterIdeal.nD Cert.RouterIdeal.τ).loc Cert.RouterIdeal.main_arg8))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3)
      ∧ r.2.mem ((c.tc : Thread Cert.RouterReferenceIdeal.nD Cert.RouterReferenceIdeal.τ).loc Cert.RouterReferenceIdeal.main_arg4) = m ((c.tc : Thread Cert.RouterReferenceIdeal.nD Cert.RouterReferenceIdeal.τ).loc Cert.RouterReferenceIdeal.main_arg4)
      ∧ r.2.mem ((c.tc : Thread Cert.RouterReferenceIdeal.nD Cert.RouterReferenceIdeal.τ).loc Cert.RouterReferenceIdeal.main_arg5) = m ((c.tc : Thread Cert.RouterReferenceIdeal.nD Cert.RouterReferenceIdeal.τ).loc Cert.RouterReferenceIdeal.main_arg5)
      ∧ r.2.mem ((c.tc : Thread Cert.RouterReferenceIdeal.nD Cert.RouterReferenceIdeal.τ).loc Cert.RouterReferenceIdeal.main_arg6) = m ((c.tc : Thread Cert.RouterReferenceIdeal.nD Cert.RouterReferenceIdeal.τ).loc Cert.RouterReferenceIdeal.main_arg6)
      ∧ r.2.mem ((c.tc : Thread Cert.RouterReferenceIdeal.nD Cert.RouterReferenceIdeal.τ).loc Cert.RouterReferenceIdeal.main_arg7) = m ((c.tc : Thread Cert.RouterReferenceIdeal.nD Cert.RouterReferenceIdeal.τ).loc Cert.RouterReferenceIdeal.main_arg7)
      ∧ r.2.mem ((c.tc : Thread Cert.RouterReferenceIdeal.nD Cert.RouterReferenceIdeal.τ).loc Cert.RouterReferenceIdeal.main_arg8) = m ((c.tc : Thread Cert.RouterReferenceIdeal.nD Cert.RouterReferenceIdeal.τ).loc Cert.RouterReferenceIdeal.main_arg8))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ r.2.sem = fun _ => 0)

def quiescent_InprojIdeal_pre_inproj_inputs_finite [hInprojIdeal : Cert.InprojIdeal.Facts] [hPre_inproj_inputs_finite : Cert.Pre_inproj_inputs_finite.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_inproj_inputs_finite m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7))
      ∧ r.2.sem = fun _ => 0)

def quiescent_InprojReferenceIdeal_pre_inproj_inputs_finite [hInprojReferenceIdeal : Cert.InprojReferenceIdeal.Facts] [hPre_inproj_inputs_finite : Cert.Pre_inproj_inputs_finite.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal_inproj_inputs_finite m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7))
      ∧ r.2.sem = fun _ => 0)

def quiescent_Filter [hFilter : Cert.Filter.Facts] : Prop :=
  ∀ (m : (ℓ : Loc Cert.Filter.nD Cert.Filter.τ Cert.Filter.sig) → Buf (Elt Bits) ℓ) (g : Dev Cert.Filter.nD → PrngReg), Pre_Filter m →
    θ_run (Cert.Filter.defs (F := Bits)) (onTc (τ := Cert.Filter.τ) (Cert.Filter.main (F := Bits))) ⟨m, fun _ => 0, g⟩ (fun r => (∀ c : Dev Cert.Filter.nD,
      r.2.mem ((c.tc : Thread Cert.Filter.nD Cert.Filter.τ).loc Cert.Filter.main_arg0) = m ((c.tc : Thread Cert.Filter.nD Cert.Filter.τ).loc Cert.Filter.main_arg0)
      ∧ r.2.mem ((c.tc : Thread Cert.Filter.nD Cert.Filter.τ).loc Cert.Filter.main_arg1) = m ((c.tc : Thread Cert.Filter.nD Cert.Filter.τ).loc Cert.Filter.main_arg1)
      ∧ r.2.mem ((c.tc : Thread Cert.Filter.nD Cert.Filter.τ).loc Cert.Filter.main_arg2) = m ((c.tc : Thread Cert.Filter.nD Cert.Filter.τ).loc Cert.Filter.main_arg2)
      ∧ r.2.mem ((c.tc : Thread Cert.Filter.nD Cert.Filter.τ).loc Cert.Filter.main_arg3) = m ((c.tc : Thread Cert.Filter.nD Cert.Filter.τ).loc Cert.Filter.main_arg3)
      ∧ r.2.mem ((c.tc : Thread Cert.Filter.nD Cert.Filter.τ).loc Cert.Filter.main_arg4) = m ((c.tc : Thread Cert.Filter.nD Cert.Filter.τ).loc Cert.Filter.main_arg4)
      ∧ r.2.mem ((c.tc : Thread Cert.Filter.nD Cert.Filter.τ).loc Cert.Filter.main_arg5) = m ((c.tc : Thread Cert.Filter.nD Cert.Filter.τ).loc Cert.Filter.main_arg5)
      ∧ r.2.mem ((c.tc : Thread Cert.Filter.nD Cert.Filter.τ).loc Cert.Filter.main_arg6) = m ((c.tc : Thread Cert.Filter.nD Cert.Filter.τ).loc Cert.Filter.main_arg6)
      ∧ r.2.mem ((c.tc : Thread Cert.Filter.nD Cert.Filter.τ).loc Cert.Filter.main_arg7) = m ((c.tc : Thread Cert.Filter.nD Cert.Filter.τ).loc Cert.Filter.main_arg7)
      ∧ r.2.mem ((c.tc : Thread Cert.Filter.nD Cert.Filter.τ).loc Cert.Filter.main_arg8) = m ((c.tc : Thread Cert.Filter.nD Cert.Filter.τ).loc Cert.Filter.main_arg8))
      ∧ r.2.sem = fun _ => 0)

def quiescent_FilterIdeal [hFilterIdeal : Cert.FilterIdeal.Facts] : Prop :=
  ∀ (m : (ℓ : Loc Cert.FilterIdeal.nD Cert.FilterIdeal.τ Cert.FilterIdeal.sig) → Buf (Elt Ideal) ℓ) (g : Dev Cert.FilterIdeal.nD → PrngReg), Pre_FilterIdeal m →
    θ_run (Cert.FilterIdeal.defs (F := Ideal)) (onTc (τ := Cert.FilterIdeal.τ) (Cert.FilterIdeal.main (F := Ideal))) ⟨m, fun _ => 0, g⟩ (fun r => (∀ c : Dev Cert.FilterIdeal.nD,
      r.2.mem ((c.tc : Thread Cert.FilterIdeal.nD Cert.FilterIdeal.τ).loc Cert.FilterIdeal.main_arg0) = m ((c.tc : Thread Cert.FilterIdeal.nD Cert.FilterIdeal.τ).loc Cert.FilterIdeal.main_arg0)
      ∧ r.2.mem ((c.tc : Thread Cert.FilterIdeal.nD Cert.FilterIdeal.τ).loc Cert.FilterIdeal.main_arg1) = m ((c.tc : Thread Cert.FilterIdeal.nD Cert.FilterIdeal.τ).loc Cert.FilterIdeal.main_arg1)
      ∧ r.2.mem ((c.tc : Thread Cert.FilterIdeal.nD Cert.FilterIdeal.τ).loc Cert.FilterIdeal.main_arg2) = m ((c.tc : Thread Cert.FilterIdeal.nD Cert.FilterIdeal.τ).loc Cert.FilterIdeal.main_arg2)
      ∧ r.2.mem ((c.tc : Thread Cert.FilterIdeal.nD Cert.FilterIdeal.τ).loc Cert.FilterIdeal.main_arg3) = m ((c.tc : Thread Cert.FilterIdeal.nD Cert.FilterIdeal.τ).loc Cert.FilterIdeal.main_arg3)
      ∧ r.2.mem ((c.tc : Thread Cert.FilterIdeal.nD Cert.FilterIdeal.τ).loc Cert.FilterIdeal.main_arg4) = m ((c.tc : Thread Cert.FilterIdeal.nD Cert.FilterIdeal.τ).loc Cert.FilterIdeal.main_arg4)
      ∧ r.2.mem ((c.tc : Thread Cert.FilterIdeal.nD Cert.FilterIdeal.τ).loc Cert.FilterIdeal.main_arg5) = m ((c.tc : Thread Cert.FilterIdeal.nD Cert.FilterIdeal.τ).loc Cert.FilterIdeal.main_arg5)
      ∧ r.2.mem ((c.tc : Thread Cert.FilterIdeal.nD Cert.FilterIdeal.τ).loc Cert.FilterIdeal.main_arg6) = m ((c.tc : Thread Cert.FilterIdeal.nD Cert.FilterIdeal.τ).loc Cert.FilterIdeal.main_arg6)
      ∧ r.2.mem ((c.tc : Thread Cert.FilterIdeal.nD Cert.FilterIdeal.τ).loc Cert.FilterIdeal.main_arg7) = m ((c.tc : Thread Cert.FilterIdeal.nD Cert.FilterIdeal.τ).loc Cert.FilterIdeal.main_arg7)
      ∧ r.2.mem ((c.tc : Thread Cert.FilterIdeal.nD Cert.FilterIdeal.τ).loc Cert.FilterIdeal.main_arg8) = m ((c.tc : Thread Cert.FilterIdeal.nD Cert.FilterIdeal.τ).loc Cert.FilterIdeal.main_arg8))
      ∧ r.2.sem = fun _ => 0)

def quiescent_FilterIdeal_pre_filter_inputs_finite [hFilterIdeal : Cert.FilterIdeal.Facts] [hPre_filter_inputs_finite : Cert.Pre_filter_inputs_finite.Facts] : Prop :=
  ∀ (m : (ℓ : Loc Cert.FilterIdeal.nD Cert.FilterIdeal.τ Cert.FilterIdeal.sig) → Buf (Elt Ideal) ℓ) (g : Dev Cert.FilterIdeal.nD → PrngReg), Pre_FilterIdeal_filter_inputs_finite m →
    θ_run (Cert.FilterIdeal.defs (F := Ideal)) (onTc (τ := Cert.FilterIdeal.τ) (Cert.FilterIdeal.main (F := Ideal))) ⟨m, fun _ => 0, g⟩ (fun r => (∀ c : Dev Cert.FilterIdeal.nD,
      r.2.mem ((c.tc : Thread Cert.FilterIdeal.nD Cert.FilterIdeal.τ).loc Cert.FilterIdeal.main_arg0) = m ((c.tc : Thread Cert.FilterIdeal.nD Cert.FilterIdeal.τ).loc Cert.FilterIdeal.main_arg0)
      ∧ r.2.mem ((c.tc : Thread Cert.FilterIdeal.nD Cert.FilterIdeal.τ).loc Cert.FilterIdeal.main_arg1) = m ((c.tc : Thread Cert.FilterIdeal.nD Cert.FilterIdeal.τ).loc Cert.FilterIdeal.main_arg1)
      ∧ r.2.mem ((c.tc : Thread Cert.FilterIdeal.nD Cert.FilterIdeal.τ).loc Cert.FilterIdeal.main_arg2) = m ((c.tc : Thread Cert.FilterIdeal.nD Cert.FilterIdeal.τ).loc Cert.FilterIdeal.main_arg2)
      ∧ r.2.mem ((c.tc : Thread Cert.FilterIdeal.nD Cert.FilterIdeal.τ).loc Cert.FilterIdeal.main_arg3) = m ((c.tc : Thread Cert.FilterIdeal.nD Cert.FilterIdeal.τ).loc Cert.FilterIdeal.main_arg3)
      ∧ r.2.mem ((c.tc : Thread Cert.FilterIdeal.nD Cert.FilterIdeal.τ).loc Cert.FilterIdeal.main_arg4) = m ((c.tc : Thread Cert.FilterIdeal.nD Cert.FilterIdeal.τ).loc Cert.FilterIdeal.main_arg4)
      ∧ r.2.mem ((c.tc : Thread Cert.FilterIdeal.nD Cert.FilterIdeal.τ).loc Cert.FilterIdeal.main_arg5) = m ((c.tc : Thread Cert.FilterIdeal.nD Cert.FilterIdeal.τ).loc Cert.FilterIdeal.main_arg5)
      ∧ r.2.mem ((c.tc : Thread Cert.FilterIdeal.nD Cert.FilterIdeal.τ).loc Cert.FilterIdeal.main_arg6) = m ((c.tc : Thread Cert.FilterIdeal.nD Cert.FilterIdeal.τ).loc Cert.FilterIdeal.main_arg6)
      ∧ r.2.mem ((c.tc : Thread Cert.FilterIdeal.nD Cert.FilterIdeal.τ).loc Cert.FilterIdeal.main_arg7) = m ((c.tc : Thread Cert.FilterIdeal.nD Cert.FilterIdeal.τ).loc Cert.FilterIdeal.main_arg7)
      ∧ r.2.mem ((c.tc : Thread Cert.FilterIdeal.nD Cert.FilterIdeal.τ).loc Cert.FilterIdeal.main_arg8) = m ((c.tc : Thread Cert.FilterIdeal.nD Cert.FilterIdeal.τ).loc Cert.FilterIdeal.main_arg8))
      ∧ r.2.sem = fun _ => 0)

def quiescent_FilterReferenceIdeal [hFilterReferenceIdeal : Cert.FilterReferenceIdeal.Facts] : Prop :=
  ∀ (m : (ℓ : Loc Cert.FilterReferenceIdeal.nD Cert.FilterReferenceIdeal.τ Cert.FilterReferenceIdeal.sig) → Buf (Elt Ideal) ℓ) (g : Dev Cert.FilterReferenceIdeal.nD → PrngReg), Pre_FilterReferenceIdeal m →
    θ_run (Cert.FilterReferenceIdeal.defs (F := Ideal)) (onTc (τ := Cert.FilterReferenceIdeal.τ) (Cert.FilterReferenceIdeal.main (F := Ideal))) ⟨m, fun _ => 0, g⟩ (fun r => (∀ c : Dev Cert.FilterReferenceIdeal.nD,
      r.2.mem ((c.tc : Thread Cert.FilterReferenceIdeal.nD Cert.FilterReferenceIdeal.τ).loc Cert.FilterReferenceIdeal.main_arg0) = m ((c.tc : Thread Cert.FilterReferenceIdeal.nD Cert.FilterReferenceIdeal.τ).loc Cert.FilterReferenceIdeal.main_arg0)
      ∧ r.2.mem ((c.tc : Thread Cert.FilterReferenceIdeal.nD Cert.FilterReferenceIdeal.τ).loc Cert.FilterReferenceIdeal.main_arg1) = m ((c.tc : Thread Cert.FilterReferenceIdeal.nD Cert.FilterReferenceIdeal.τ).loc Cert.FilterReferenceIdeal.main_arg1)
      ∧ r.2.mem ((c.tc : Thread Cert.FilterReferenceIdeal.nD Cert.FilterReferenceIdeal.τ).loc Cert.FilterReferenceIdeal.main_arg2) = m ((c.tc : Thread Cert.FilterReferenceIdeal.nD Cert.FilterReferenceIdeal.τ).loc Cert.FilterReferenceIdeal.main_arg2)
      ∧ r.2.mem ((c.tc : Thread Cert.FilterReferenceIdeal.nD Cert.FilterReferenceIdeal.τ).loc Cert.FilterReferenceIdeal.main_arg3) = m ((c.tc : Thread Cert.FilterReferenceIdeal.nD Cert.FilterReferenceIdeal.τ).loc Cert.FilterReferenceIdeal.main_arg3)
      ∧ r.2.mem ((c.tc : Thread Cert.FilterReferenceIdeal.nD Cert.FilterReferenceIdeal.τ).loc Cert.FilterReferenceIdeal.main_arg4) = m ((c.tc : Thread Cert.FilterReferenceIdeal.nD Cert.FilterReferenceIdeal.τ).loc Cert.FilterReferenceIdeal.main_arg4)
      ∧ r.2.mem ((c.tc : Thread Cert.FilterReferenceIdeal.nD Cert.FilterReferenceIdeal.τ).loc Cert.FilterReferenceIdeal.main_arg5) = m ((c.tc : Thread Cert.FilterReferenceIdeal.nD Cert.FilterReferenceIdeal.τ).loc Cert.FilterReferenceIdeal.main_arg5)
      ∧ r.2.mem ((c.tc : Thread Cert.FilterReferenceIdeal.nD Cert.FilterReferenceIdeal.τ).loc Cert.FilterReferenceIdeal.main_arg6) = m ((c.tc : Thread Cert.FilterReferenceIdeal.nD Cert.FilterReferenceIdeal.τ).loc Cert.FilterReferenceIdeal.main_arg6)
      ∧ r.2.mem ((c.tc : Thread Cert.FilterReferenceIdeal.nD Cert.FilterReferenceIdeal.τ).loc Cert.FilterReferenceIdeal.main_arg7) = m ((c.tc : Thread Cert.FilterReferenceIdeal.nD Cert.FilterReferenceIdeal.τ).loc Cert.FilterReferenceIdeal.main_arg7)
      ∧ r.2.mem ((c.tc : Thread Cert.FilterReferenceIdeal.nD Cert.FilterReferenceIdeal.τ).loc Cert.FilterReferenceIdeal.main_arg8) = m ((c.tc : Thread Cert.FilterReferenceIdeal.nD Cert.FilterReferenceIdeal.τ).loc Cert.FilterReferenceIdeal.main_arg8))
      ∧ r.2.sem = fun _ => 0)

def quiescent_FilterReferenceIdeal_pre_filter_inputs_finite [hFilterReferenceIdeal : Cert.FilterReferenceIdeal.Facts] [hPre_filter_inputs_finite : Cert.Pre_filter_inputs_finite.Facts] : Prop :=
  ∀ (m : (ℓ : Loc Cert.FilterReferenceIdeal.nD Cert.FilterReferenceIdeal.τ Cert.FilterReferenceIdeal.sig) → Buf (Elt Ideal) ℓ) (g : Dev Cert.FilterReferenceIdeal.nD → PrngReg), Pre_FilterReferenceIdeal_filter_inputs_finite m →
    θ_run (Cert.FilterReferenceIdeal.defs (F := Ideal)) (onTc (τ := Cert.FilterReferenceIdeal.τ) (Cert.FilterReferenceIdeal.main (F := Ideal))) ⟨m, fun _ => 0, g⟩ (fun r => (∀ c : Dev Cert.FilterReferenceIdeal.nD,
      r.2.mem ((c.tc : Thread Cert.FilterReferenceIdeal.nD Cert.FilterReferenceIdeal.τ).loc Cert.FilterReferenceIdeal.main_arg0) = m ((c.tc : Thread Cert.FilterReferenceIdeal.nD Cert.FilterReferenceIdeal.τ).loc Cert.FilterReferenceIdeal.main_arg0)
      ∧ r.2.mem ((c.tc : Thread Cert.FilterReferenceIdeal.nD Cert.FilterReferenceIdeal.τ).loc Cert.FilterReferenceIdeal.main_arg1) = m ((c.tc : Thread Cert.FilterReferenceIdeal.nD Cert.FilterReferenceIdeal.τ).loc Cert.FilterReferenceIdeal.main_arg1)
      ∧ r.2.mem ((c.tc : Thread Cert.FilterReferenceIdeal.nD Cert.FilterReferenceIdeal.τ).loc Cert.FilterReferenceIdeal.main_arg2) = m ((c.tc : Thread Cert.FilterReferenceIdeal.nD Cert.FilterReferenceIdeal.τ).loc Cert.FilterReferenceIdeal.main_arg2)
      ∧ r.2.mem ((c.tc : Thread Cert.FilterReferenceIdeal.nD Cert.FilterReferenceIdeal.τ).loc Cert.FilterReferenceIdeal.main_arg3) = m ((c.tc : Thread Cert.FilterReferenceIdeal.nD Cert.FilterReferenceIdeal.τ).loc Cert.FilterReferenceIdeal.main_arg3)
      ∧ r.2.mem ((c.tc : Thread Cert.FilterReferenceIdeal.nD Cert.FilterReferenceIdeal.τ).loc Cert.FilterReferenceIdeal.main_arg4) = m ((c.tc : Thread Cert.FilterReferenceIdeal.nD Cert.FilterReferenceIdeal.τ).loc Cert.FilterReferenceIdeal.main_arg4)
      ∧ r.2.mem ((c.tc : Thread Cert.FilterReferenceIdeal.nD Cert.FilterReferenceIdeal.τ).loc Cert.FilterReferenceIdeal.main_arg5) = m ((c.tc : Thread Cert.FilterReferenceIdeal.nD Cert.FilterReferenceIdeal.τ).loc Cert.FilterReferenceIdeal.main_arg5)
      ∧ r.2.mem ((c.tc : Thread Cert.FilterReferenceIdeal.nD Cert.FilterReferenceIdeal.τ).loc Cert.FilterReferenceIdeal.main_arg6) = m ((c.tc : Thread Cert.FilterReferenceIdeal.nD Cert.FilterReferenceIdeal.τ).loc Cert.FilterReferenceIdeal.main_arg6)
      ∧ r.2.mem ((c.tc : Thread Cert.FilterReferenceIdeal.nD Cert.FilterReferenceIdeal.τ).loc Cert.FilterReferenceIdeal.main_arg7) = m ((c.tc : Thread Cert.FilterReferenceIdeal.nD Cert.FilterReferenceIdeal.τ).loc Cert.FilterReferenceIdeal.main_arg7)
      ∧ r.2.mem ((c.tc : Thread Cert.FilterReferenceIdeal.nD Cert.FilterReferenceIdeal.τ).loc Cert.FilterReferenceIdeal.main_arg8) = m ((c.tc : Thread Cert.FilterReferenceIdeal.nD Cert.FilterReferenceIdeal.τ).loc Cert.FilterReferenceIdeal.main_arg8))
      ∧ r.2.sem = fun _ => 0)

def preserves_Kernel_KernelIdeal : Prop :=
  True

def algebraic_KernelIdeal_ReferenceIdeal_pre_attention_inputs_finite [hKernelIdeal : Cert.KernelIdeal.Facts] [hReferenceIdeal : Cert.ReferenceIdeal.Facts] [hPre_attention_inputs_finite : Cert.Pre_attention_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attention_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)) →
    ∃ (v0 : (c : Dev Cert.DenseIdeal.nD) → Buf (Elt Ideal) ((c.tc : Thread Cert.DenseIdeal.nD Cert.DenseIdeal.τ).loc Cert.DenseIdeal.main_v3)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v3) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v9) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v4_0)) (v1 : (c : Dev Cert.MergeIdeal.nD) → Buf (Elt Ideal) ((c.tc : Thread Cert.MergeIdeal.nD Cert.MergeIdeal.τ).loc Cert.MergeIdeal.main_v4_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4_0) = v0 c
          ∧ r.2.mem ((c.tc : Thread Cert.MergeIdeal.nD Cert.MergeIdeal.τ).loc Cert.MergeIdeal.main_v4_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v20) = v0 c
          ∧ r.2.mem ((c.tc : Thread Cert.MergeReferenceIdeal.nD Cert.MergeReferenceIdeal.τ).loc Cert.MergeReferenceIdeal.main_v34) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_Router_RouterIdeal : Prop :=
  True

def algebraic_RouterIdeal_RouterReferenceIdeal [hRouterIdeal : Cert.RouterIdeal.Facts] [hRouterReferenceIdeal : Cert.RouterReferenceIdeal.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)
      ∧ m' ((c.tc : Thread Cert.RouterReferenceIdeal.nD Cert.RouterReferenceIdeal.τ).loc Cert.RouterReferenceIdeal.main_arg2) = m ((c.tc : Thread Cert.RouterIdeal.nD Cert.RouterIdeal.τ).loc Cert.RouterIdeal.main_arg2)
      ∧ m' ((c.tc : Thread Cert.RouterReferenceIdeal.nD Cert.RouterReferenceIdeal.τ).loc Cert.RouterReferenceIdeal.main_arg3) = m ((c.tc : Thread Cert.RouterIdeal.nD Cert.RouterIdeal.τ).loc Cert.RouterIdeal.main_arg3)
      ∧ m' ((c.tc : Thread Cert.RouterReferenceIdeal.nD Cert.RouterReferenceIdeal.τ).loc Cert.RouterReferenceIdeal.main_arg4) = m ((c.tc : Thread Cert.RouterIdeal.nD Cert.RouterIdeal.τ).loc Cert.RouterIdeal.main_arg4)
      ∧ m' ((c.tc : Thread Cert.RouterReferenceIdeal.nD Cert.RouterReferenceIdeal.τ).loc Cert.RouterReferenceIdeal.main_arg5) = m ((c.tc : Thread Cert.RouterIdeal.nD Cert.RouterIdeal.τ).loc Cert.RouterIdeal.main_arg5)
      ∧ m' ((c.tc : Thread Cert.RouterReferenceIdeal.nD Cert.RouterReferenceIdeal.τ).loc Cert.RouterReferenceIdeal.main_arg6) = m ((c.tc : Thread Cert.RouterIdeal.nD Cert.RouterIdeal.τ).loc Cert.RouterIdeal.main_arg6)
      ∧ m' ((c.tc : Thread Cert.RouterReferenceIdeal.nD Cert.RouterReferenceIdeal.τ).loc Cert.RouterReferenceIdeal.main_arg7) = m ((c.tc : Thread Cert.RouterIdeal.nD Cert.RouterIdeal.τ).loc Cert.RouterIdeal.main_arg7)
      ∧ m' ((c.tc : Thread Cert.RouterReferenceIdeal.nD Cert.RouterReferenceIdeal.τ).loc Cert.RouterReferenceIdeal.main_arg8) = m ((c.tc : Thread Cert.RouterIdeal.nD Cert.RouterIdeal.τ).loc Cert.RouterIdeal.main_arg8)) →
    ∃ (v0 : (c : Dev Cert.RouterIdeal.nD) → Buf (Elt Ideal) ((c.tc : Thread Cert.RouterIdeal.nD Cert.RouterIdeal.τ).loc Cert.RouterIdeal.main_v5_0)) (v1 : (c : Dev Cert.RouterIdeal.nD) → Buf (Elt Ideal) ((c.tc : Thread Cert.RouterIdeal.nD Cert.RouterIdeal.τ).loc Cert.RouterIdeal.main_v5_1)) (v2 : (c : Dev Cert.RouterIdeal.nD) → Buf (Elt Ideal) ((c.tc : Thread Cert.RouterIdeal.nD Cert.RouterIdeal.τ).loc Cert.RouterIdeal.main_v5_2)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v5_0) = v0 c
          ∧ r.2.mem ((c.tc : Thread Cert.RouterIdeal.nD Cert.RouterIdeal.τ).loc Cert.RouterIdeal.main_v5_1) = v1 c
          ∧ r.2.mem ((c.tc : Thread Cert.RouterIdeal.nD Cert.RouterIdeal.τ).loc Cert.RouterIdeal.main_v5_2) = v2 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
          ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
          ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7)
          ∧ r.2.mem ((c.tc : Thread Cert.RouterIdeal.nD Cert.RouterIdeal.τ).loc Cert.RouterIdeal.main_arg8) = m ((c.tc : Thread Cert.RouterIdeal.nD Cert.RouterIdeal.τ).loc Cert.RouterIdeal.main_arg8))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v20) = v0 c
          ∧ r.2.mem ((c.tc : Thread Cert.RouterReferenceIdeal.nD Cert.RouterReferenceIdeal.τ).loc Cert.RouterReferenceIdeal.main_v33) = v1 c
          ∧ r.2.mem ((c.tc : Thread Cert.RouterReferenceIdeal.nD Cert.RouterReferenceIdeal.τ).loc Cert.RouterReferenceIdeal.main_v35) = v2 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1)
          ∧ r.2.mem ((c.tc : Thread Cert.RouterReferenceIdeal.nD Cert.RouterReferenceIdeal.τ).loc Cert.RouterReferenceIdeal.main_arg2) = m' ((c.tc : Thread Cert.RouterReferenceIdeal.nD Cert.RouterReferenceIdeal.τ).loc Cert.RouterReferenceIdeal.main_arg2)
          ∧ r.2.mem ((c.tc : Thread Cert.RouterReferenceIdeal.nD Cert.RouterReferenceIdeal.τ).loc Cert.RouterReferenceIdeal.main_arg3) = m' ((c.tc : Thread Cert.RouterReferenceIdeal.nD Cert.RouterReferenceIdeal.τ).loc Cert.RouterReferenceIdeal.main_arg3)
          ∧ r.2.mem ((c.tc : Thread Cert.RouterReferenceIdeal.nD Cert.RouterReferenceIdeal.τ).loc Cert.RouterReferenceIdeal.main_arg4) = m' ((c.tc : Thread Cert.RouterReferenceIdeal.nD Cert.RouterReferenceIdeal.τ).loc Cert.RouterReferenceIdeal.main_arg4)
          ∧ r.2.mem ((c.tc : Thread Cert.RouterReferenceIdeal.nD Cert.RouterReferenceIdeal.τ).loc Cert.RouterReferenceIdeal.main_arg5) = m' ((c.tc : Thread Cert.RouterReferenceIdeal.nD Cert.RouterReferenceIdeal.τ).loc Cert.RouterReferenceIdeal.main_arg5)
          ∧ r.2.mem ((c.tc : Thread Cert.RouterReferenceIdeal.nD Cert.RouterReferenceIdeal.τ).loc Cert.RouterReferenceIdeal.main_arg6) = m' ((c.tc : Thread Cert.RouterReferenceIdeal.nD Cert.RouterReferenceIdeal.τ).loc Cert.RouterReferenceIdeal.main_arg6)
          ∧ r.2.mem ((c.tc : Thread Cert.RouterReferenceIdeal.nD Cert.RouterReferenceIdeal.τ).loc Cert.RouterReferenceIdeal.main_arg7) = m' ((c.tc : Thread Cert.RouterReferenceIdeal.nD Cert.RouterReferenceIdeal.τ).loc Cert.RouterReferenceIdeal.main_arg7)
          ∧ r.2.mem ((c.tc : Thread Cert.RouterReferenceIdeal.nD Cert.RouterReferenceIdeal.τ).loc Cert.RouterReferenceIdeal.main_arg8) = m' ((c.tc : Thread Cert.RouterReferenceIdeal.nD Cert.RouterReferenceIdeal.τ).loc Cert.RouterReferenceIdeal.main_arg8))

def preserves_Inproj_InprojIdeal : Prop :=
  True

def algebraic_InprojIdeal_InprojReferenceIdeal_pre_inproj_inputs_finite [hInprojIdeal : Cert.InprojIdeal.Facts] [hInprojReferenceIdeal : Cert.InprojReferenceIdeal.Facts] [hPre_inproj_inputs_finite : Cert.Pre_inproj_inputs_finite.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal_inproj_inputs_finite m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)
      ∧ m' ((c.tc : Thread Cert.InprojReferenceIdeal.nD Cert.InprojReferenceIdeal.τ).loc Cert.InprojReferenceIdeal.main_arg7) = m ((c.tc : Thread Cert.InprojIdeal.nD Cert.InprojIdeal.τ).loc Cert.InprojIdeal.main_arg7)) →
    ∃ (v0 : (c : Dev Cert.InprojIdeal.nD) → Buf (Elt Ideal) ((c.tc : Thread Cert.InprojIdeal.nD Cert.InprojIdeal.τ).loc Cert.InprojIdeal.main_v20_0)) (v1 : (c : Dev Cert.InprojIdeal.nD) → Buf (Elt Ideal) ((c.tc : Thread Cert.InprojIdeal.nD Cert.InprojIdeal.τ).loc Cert.InprojIdeal.main_v20_1)) (v2 : (c : Dev Cert.InprojIdeal.nD) → Buf (Elt Ideal) ((c.tc : Thread Cert.InprojIdeal.nD Cert.InprojIdeal.τ).loc Cert.InprojIdeal.main_v20_2)) (v3 : (c : Dev Cert.InprojIdeal.nD) → Buf (Elt Ideal) ((c.tc : Thread Cert.InprojIdeal.nD Cert.InprojIdeal.τ).loc Cert.InprojIdeal.main_v20_3)) (v4 : (c : Dev Cert.InprojIdeal.nD) → Buf (Elt Ideal) ((c.tc : Thread Cert.InprojIdeal.nD Cert.InprojIdeal.τ).loc Cert.InprojIdeal.main_v20_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v20_0) = v0 c
          ∧ r.2.mem ((c.tc : Thread Cert.InprojIdeal.nD Cert.InprojIdeal.τ).loc Cert.InprojIdeal.main_v20_1) = v1 c
          ∧ r.2.mem ((c.tc : Thread Cert.InprojIdeal.nD Cert.InprojIdeal.τ).loc Cert.InprojIdeal.main_v20_2) = v2 c
          ∧ r.2.mem ((c.tc : Thread Cert.InprojIdeal.nD Cert.InprojIdeal.τ).loc Cert.InprojIdeal.main_v20_3) = v3 c
          ∧ r.2.mem ((c.tc : Thread Cert.InprojIdeal.nD Cert.InprojIdeal.τ).loc Cert.InprojIdeal.main_v20_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v101) = v0 c
          ∧ r.2.mem ((c.tc : Thread Cert.InprojReferenceIdeal.nD Cert.InprojReferenceIdeal.τ).loc Cert.InprojReferenceIdeal.main_v103) = v1 c
          ∧ r.2.mem ((c.tc : Thread Cert.InprojReferenceIdeal.nD Cert.InprojReferenceIdeal.τ).loc Cert.InprojReferenceIdeal.main_v105) = v2 c
          ∧ r.2.mem ((c.tc : Thread Cert.InprojReferenceIdeal.nD Cert.InprojReferenceIdeal.τ).loc Cert.InprojReferenceIdeal.main_v107) = v3 c
          ∧ r.2.mem ((c.tc : Thread Cert.InprojReferenceIdeal.nD Cert.InprojReferenceIdeal.τ).loc Cert.InprojReferenceIdeal.main_v109) = v4 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6)
          ∧ r.2.mem ((c.tc : Thread Cert.InprojReferenceIdeal.nD Cert.InprojReferenceIdeal.τ).loc Cert.InprojReferenceIdeal.main_arg7) = m' ((c.tc : Thread Cert.InprojReferenceIdeal.nD Cert.InprojReferenceIdeal.τ).loc Cert.InprojReferenceIdeal.main_arg7))

def preserves_Filter_FilterIdeal : Prop :=
  True

def algebraic_FilterIdeal_FilterReferenceIdeal_pre_filter_inputs_finite [hFilterIdeal : Cert.FilterIdeal.Facts] [hFilterReferenceIdeal : Cert.FilterReferenceIdeal.Facts] [hPre_filter_inputs_finite : Cert.Pre_filter_inputs_finite.Facts] : Prop :=
  ∀ (m : (ℓ : Loc Cert.FilterIdeal.nD Cert.FilterIdeal.τ Cert.FilterIdeal.sig) → Buf (Elt Ideal) ℓ) (g : Dev Cert.FilterIdeal.nD → PrngReg)
    (m' : (ℓ : Loc Cert.FilterReferenceIdeal.nD Cert.FilterReferenceIdeal.τ Cert.FilterReferenceIdeal.sig) → Buf (Elt Ideal) ℓ) (g' : Dev Cert.FilterReferenceIdeal.nD → PrngReg), Pre_FilterIdeal_filter_inputs_finite m →
    (∀ c : Dev Cert.FilterIdeal.nD,
      m' ((c.tc : Thread Cert.FilterReferenceIdeal.nD Cert.FilterReferenceIdeal.τ).loc Cert.FilterReferenceIdeal.main_arg0) = m ((c.tc : Thread Cert.FilterIdeal.nD Cert.FilterIdeal.τ).loc Cert.FilterIdeal.main_arg0)
      ∧ m' ((c.tc : Thread Cert.FilterReferenceIdeal.nD Cert.FilterReferenceIdeal.τ).loc Cert.FilterReferenceIdeal.main_arg1) = m ((c.tc : Thread Cert.FilterIdeal.nD Cert.FilterIdeal.τ).loc Cert.FilterIdeal.main_arg1)
      ∧ m' ((c.tc : Thread Cert.FilterReferenceIdeal.nD Cert.FilterReferenceIdeal.τ).loc Cert.FilterReferenceIdeal.main_arg2) = m ((c.tc : Thread Cert.FilterIdeal.nD Cert.FilterIdeal.τ).loc Cert.FilterIdeal.main_arg2)
      ∧ m' ((c.tc : Thread Cert.FilterReferenceIdeal.nD Cert.FilterReferenceIdeal.τ).loc Cert.FilterReferenceIdeal.main_arg3) = m ((c.tc : Thread Cert.FilterIdeal.nD Cert.FilterIdeal.τ).loc Cert.FilterIdeal.main_arg3)
      ∧ m' ((c.tc : Thread Cert.FilterReferenceIdeal.nD Cert.FilterReferenceIdeal.τ).loc Cert.FilterReferenceIdeal.main_arg4) = m ((c.tc : Thread Cert.FilterIdeal.nD Cert.FilterIdeal.τ).loc Cert.FilterIdeal.main_arg4)
      ∧ m' ((c.tc : Thread Cert.FilterReferenceIdeal.nD Cert.FilterReferenceIdeal.τ).loc Cert.FilterReferenceIdeal.main_arg5) = m ((c.tc : Thread Cert.FilterIdeal.nD Cert.FilterIdeal.τ).loc Cert.FilterIdeal.main_arg5)
      ∧ m' ((c.tc : Thread Cert.FilterReferenceIdeal.nD Cert.FilterReferenceIdeal.τ).loc Cert.FilterReferenceIdeal.main_arg6) = m ((c.tc : Thread Cert.FilterIdeal.nD Cert.FilterIdeal.τ).loc Cert.FilterIdeal.main_arg6)
      ∧ m' ((c.tc : Thread Cert.FilterReferenceIdeal.nD Cert.FilterReferenceIdeal.τ).loc Cert.FilterReferenceIdeal.main_arg7) = m ((c.tc : Thread Cert.FilterIdeal.nD Cert.FilterIdeal.τ).loc Cert.FilterIdeal.main_arg7)
      ∧ m' ((c.tc : Thread Cert.FilterReferenceIdeal.nD Cert.FilterReferenceIdeal.τ).loc Cert.FilterReferenceIdeal.main_arg8) = m ((c.tc : Thread Cert.FilterIdeal.nD Cert.FilterIdeal.τ).loc Cert.FilterIdeal.main_arg8)) →
    ∃ (v0 : (c : Dev Cert.FilterIdeal.nD) → Buf (Elt Ideal) ((c.tc : Thread Cert.FilterIdeal.nD Cert.FilterIdeal.τ).loc Cert.FilterIdeal.main_v22)),
      θ_run (Cert.FilterIdeal.defs (F := Ideal)) (onTc (τ := Cert.FilterIdeal.τ) (Cert.FilterIdeal.main (F := Ideal))) ⟨m, fun _ => 0, g⟩ (fun r => ∀ c : Dev Cert.FilterIdeal.nD,
          r.2.mem ((c.tc : Thread Cert.FilterIdeal.nD Cert.FilterIdeal.τ).loc Cert.FilterIdeal.main_v22) = v0 c
          ∧ r.2.mem ((c.tc : Thread Cert.FilterIdeal.nD Cert.FilterIdeal.τ).loc Cert.FilterIdeal.main_arg0) = m ((c.tc : Thread Cert.FilterIdeal.nD Cert.FilterIdeal.τ).loc Cert.FilterIdeal.main_arg0)
          ∧ r.2.mem ((c.tc : Thread Cert.FilterIdeal.nD Cert.FilterIdeal.τ).loc Cert.FilterIdeal.main_arg1) = m ((c.tc : Thread Cert.FilterIdeal.nD Cert.FilterIdeal.τ).loc Cert.FilterIdeal.main_arg1)
          ∧ r.2.mem ((c.tc : Thread Cert.FilterIdeal.nD Cert.FilterIdeal.τ).loc Cert.FilterIdeal.main_arg2) = m ((c.tc : Thread Cert.FilterIdeal.nD Cert.FilterIdeal.τ).loc Cert.FilterIdeal.main_arg2)
          ∧ r.2.mem ((c.tc : Thread Cert.FilterIdeal.nD Cert.FilterIdeal.τ).loc Cert.FilterIdeal.main_arg3) = m ((c.tc : Thread Cert.FilterIdeal.nD Cert.FilterIdeal.τ).loc Cert.FilterIdeal.main_arg3)
          ∧ r.2.mem ((c.tc : Thread Cert.FilterIdeal.nD Cert.FilterIdeal.τ).loc Cert.FilterIdeal.main_arg4) = m ((c.tc : Thread Cert.FilterIdeal.nD Cert.FilterIdeal.τ).loc Cert.FilterIdeal.main_arg4)
          ∧ r.2.mem ((c.tc : Thread Cert.FilterIdeal.nD Cert.FilterIdeal.τ).loc Cert.FilterIdeal.main_arg5) = m ((c.tc : Thread Cert.FilterIdeal.nD Cert.FilterIdeal.τ).loc Cert.FilterIdeal.main_arg5)
          ∧ r.2.mem ((c.tc : Thread Cert.FilterIdeal.nD Cert.FilterIdeal.τ).loc Cert.FilterIdeal.main_arg6) = m ((c.tc : Thread Cert.FilterIdeal.nD Cert.FilterIdeal.τ).loc Cert.FilterIdeal.main_arg6)
          ∧ r.2.mem ((c.tc : Thread Cert.FilterIdeal.nD Cert.FilterIdeal.τ).loc Cert.FilterIdeal.main_arg7) = m ((c.tc : Thread Cert.FilterIdeal.nD Cert.FilterIdeal.τ).loc Cert.FilterIdeal.main_arg7)
          ∧ r.2.mem ((c.tc : Thread Cert.FilterIdeal.nD Cert.FilterIdeal.τ).loc Cert.FilterIdeal.main_arg8) = m ((c.tc : Thread Cert.FilterIdeal.nD Cert.FilterIdeal.τ).loc Cert.FilterIdeal.main_arg8))
      ∧ θ_run (Cert.FilterReferenceIdeal.defs (F := Ideal)) (onTc (τ := Cert.FilterReferenceIdeal.τ) (Cert.FilterReferenceIdeal.main (F := Ideal))) ⟨m', fun _ => 0, g'⟩ (fun r => ∀ c : Dev Cert.FilterReferenceIdeal.nD,
          r.2.mem ((c.tc : Thread Cert.FilterReferenceIdeal.nD Cert.FilterReferenceIdeal.τ).loc Cert.FilterReferenceIdeal.main_v39) = v0 c
          ∧ r.2.mem ((c.tc : Thread Cert.FilterReferenceIdeal.nD Cert.FilterReferenceIdeal.τ).loc Cert.FilterReferenceIdeal.main_arg0) = m' ((c.tc : Thread Cert.FilterReferenceIdeal.nD Cert.FilterReferenceIdeal.τ).loc Cert.FilterReferenceIdeal.main_arg0)
          ∧ r.2.mem ((c.tc : Thread Cert.FilterReferenceIdeal.nD Cert.FilterReferenceIdeal.τ).loc Cert.FilterReferenceIdeal.main_arg1) = m' ((c.tc : Thread Cert.FilterReferenceIdeal.nD Cert.FilterReferenceIdeal.τ).loc Cert.FilterReferenceIdeal.main_arg1)
          ∧ r.2.mem ((c.tc : Thread Cert.FilterReferenceIdeal.nD Cert.FilterReferenceIdeal.τ).loc Cert.FilterReferenceIdeal.main_arg2) = m' ((c.tc : Thread Cert.FilterReferenceIdeal.nD Cert.FilterReferenceIdeal.τ).loc Cert.FilterReferenceIdeal.main_arg2)
          ∧ r.2.mem ((c.tc : Thread Cert.FilterReferenceIdeal.nD Cert.FilterReferenceIdeal.τ).loc Cert.FilterReferenceIdeal.main_arg3) = m' ((c.tc : Thread Cert.FilterReferenceIdeal.nD Cert.FilterReferenceIdeal.τ).loc Cert.FilterReferenceIdeal.main_arg3)
          ∧ r.2.mem ((c.tc : Thread Cert.FilterReferenceIdeal.nD Cert.FilterReferenceIdeal.τ).loc Cert.FilterReferenceIdeal.main_arg4) = m' ((c.tc : Thread Cert.FilterReferenceIdeal.nD Cert.FilterReferenceIdeal.τ).loc Cert.FilterReferenceIdeal.main_arg4)
          ∧ r.2.mem ((c.tc : Thread Cert.FilterReferenceIdeal.nD Cert.FilterReferenceIdeal.τ).loc Cert.FilterReferenceIdeal.main_arg5) = m' ((c.tc : Thread Cert.FilterReferenceIdeal.nD Cert.FilterReferenceIdeal.τ).loc Cert.FilterReferenceIdeal.main_arg5)
          ∧ r.2.mem ((c.tc : Thread Cert.FilterReferenceIdeal.nD Cert.FilterReferenceIdeal.τ).loc Cert.FilterReferenceIdeal.main_arg6) = m' ((c.tc : Thread Cert.FilterReferenceIdeal.nD Cert.FilterReferenceIdeal.τ).loc Cert.FilterReferenceIdeal.main_arg6)
          ∧ r.2.mem ((c.tc : Thread Cert.FilterReferenceIdeal.nD Cert.FilterReferenceIdeal.τ).loc Cert.FilterReferenceIdeal.main_arg7) = m' ((c.tc : Thread Cert.FilterReferenceIdeal.nD Cert.FilterReferenceIdeal.τ).loc Cert.FilterReferenceIdeal.main_arg7)
          ∧ r.2.mem ((c.tc : Thread Cert.FilterReferenceIdeal.nD Cert.FilterReferenceIdeal.τ).loc Cert.FilterReferenceIdeal.main_arg8) = m' ((c.tc : Thread Cert.FilterReferenceIdeal.nD Cert.FilterReferenceIdeal.τ).loc Cert.FilterReferenceIdeal.main_arg8))

def Claim : Prop :=
  ∃ (hKernel : Cert.Kernel.Facts) (hKernelIdeal : Cert.KernelIdeal.Facts) (hReferenceIdeal : Cert.ReferenceIdeal.Facts) (hDense : Cert.Dense.Facts) (hDenseIdeal : Cert.DenseIdeal.Facts) (hDenseReferenceIdeal : Cert.DenseReferenceIdeal.Facts) (hMerge : Cert.Merge.Facts) (hMergeIdeal : Cert.MergeIdeal.Facts) (hMergeReferenceIdeal : Cert.MergeReferenceIdeal.Facts) (hRouter : Cert.Router.Facts) (hRouterIdeal : Cert.RouterIdeal.Facts) (hRouterReferenceIdeal : Cert.RouterReferenceIdeal.Facts) (hInproj : Cert.Inproj.Facts) (hInprojIdeal : Cert.InprojIdeal.Facts) (hInprojReferenceIdeal : Cert.InprojReferenceIdeal.Facts) (hFilter : Cert.Filter.Facts) (hFilterIdeal : Cert.FilterIdeal.Facts) (hFilterReferenceIdeal : Cert.FilterReferenceIdeal.Facts) (hPre_attention_inputs_finite : Cert.Pre_attention_inputs_finite.Facts) (hPre_inproj_inputs_finite : Cert.Pre_inproj_inputs_finite.Facts) (hPre_filter_inputs_finite : Cert.Pre_filter_inputs_finite.Facts),
    quiescent_Kernel (hKernel := hKernel)
    ∧ quiescent_KernelIdeal (hKernelIdeal := hKernelIdeal)
    ∧ quiescent_KernelIdeal_pre_attention_inputs_finite (hKernelIdeal := hKernelIdeal) (hPre_attention_inputs_finite := hPre_attention_inputs_finite)
    ∧ quiescent_ReferenceIdeal (hReferenceIdeal := hReferenceIdeal)
    ∧ quiescent_ReferenceIdeal_pre_attention_inputs_finite (hReferenceIdeal := hReferenceIdeal) (hPre_attention_inputs_finite := hPre_attention_inputs_finite)
    ∧ quiescent_Dense (hDense := hDense)
    ∧ quiescent_DenseIdeal (hDenseIdeal := hDenseIdeal)
    ∧ quiescent_DenseReferenceIdeal (hDenseReferenceIdeal := hDenseReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Router (hRouter := hRouter)
    ∧ quiescent_RouterIdeal (hRouterIdeal := hRouterIdeal)
    ∧ quiescent_RouterReferenceIdeal (hRouterReferenceIdeal := hRouterReferenceIdeal)
    ∧ quiescent_Inproj (hInproj := hInproj)
    ∧ quiescent_InprojIdeal (hInprojIdeal := hInprojIdeal)
    ∧ quiescent_InprojIdeal_pre_inproj_inputs_finite (hInprojIdeal := hInprojIdeal) (hPre_inproj_inputs_finite := hPre_inproj_inputs_finite)
    ∧ quiescent_InprojReferenceIdeal (hInprojReferenceIdeal := hInprojReferenceIdeal)
    ∧ quiescent_InprojReferenceIdeal_pre_inproj_inputs_finite (hInprojReferenceIdeal := hInprojReferenceIdeal) (hPre_inproj_inputs_finite := hPre_inproj_inputs_finite)
    ∧ quiescent_Filter (hFilter := hFilter)
    ∧ quiescent_FilterIdeal (hFilterIdeal := hFilterIdeal)
    ∧ quiescent_FilterIdeal_pre_filter_inputs_finite (hFilterIdeal := hFilterIdeal) (hPre_filter_inputs_finite := hPre_filter_inputs_finite)
    ∧ quiescent_FilterReferenceIdeal (hFilterReferenceIdeal := hFilterReferenceIdeal)
    ∧ quiescent_FilterReferenceIdeal_pre_filter_inputs_finite (hFilterReferenceIdeal := hFilterReferenceIdeal) (hPre_filter_inputs_finite := hPre_filter_inputs_finite)
    ∧ preserves_Kernel_KernelIdeal
    ∧ algebraic_KernelIdeal_ReferenceIdeal_pre_attention_inputs_finite (hKernelIdeal := hKernelIdeal) (hReferenceIdeal := hReferenceIdeal) (hPre_attention_inputs_finite := hPre_attention_inputs_finite)
    ∧ preserves_Dense_DenseIdeal
    ∧ algebraic_DenseIdeal_DenseReferenceIdeal (hDenseIdeal := hDenseIdeal) (hDenseReferenceIdeal := hDenseReferenceIdeal)
    ∧ preserves_Merge_MergeIdeal
    ∧ algebraic_MergeIdeal_MergeReferenceIdeal (hMergeIdeal := hMergeIdeal) (hMergeReferenceIdeal := hMergeReferenceIdeal)
    ∧ preserves_Router_RouterIdeal
    ∧ algebraic_RouterIdeal_RouterReferenceIdeal (hRouterIdeal := hRouterIdeal) (hRouterReferenceIdeal := hRouterReferenceIdeal)
    ∧ preserves_Inproj_InprojIdeal
    ∧ algebraic_InprojIdeal_InprojReferenceIdeal_pre_inproj_inputs_finite (hInprojIdeal := hInprojIdeal) (hInprojReferenceIdeal := hInprojReferenceIdeal) (hPre_inproj_inputs_finite := hPre_inproj_inputs_finite)
    ∧ preserves_Filter_FilterIdeal
    ∧ algebraic_FilterIdeal_FilterReferenceIdeal_pre_filter_inputs_finite (hFilterIdeal := hFilterIdeal) (hFilterReferenceIdeal := hFilterReferenceIdeal) (hPre_filter_inputs_finite := hPre_filter_inputs_finite)
-- ==== Pre_attention_inputs_finite.lean ====
abbrev S8x4096x512 : Shape := ⟨3, ![8, 4096, 512]⟩
abbrev S64 : Shape := ⟨1, ![64]⟩
abbrev S128 : Shape := ⟨1, ![128]⟩
abbrev S_ : Shape := ⟨0, ![]⟩

class Facts : Prop where
  bitsLt_bf16_f32 : FTy.bits .bf16 < FTy.bits .f32
  bcast_S_S8x4096x512 : S_.BroadcastsInDim S8x4096x512 (![] : Fin 0 → Fin S8x4096x512.rank)
  bcast_S_S64 : S_.BroadcastsInDim S64 (![] : Fin 0 → Fin S64.rank)

variable [Facts]

def fn {F : FTy → Type} [FloatOps F] (main_arg0 : FVec F S8x4096x512 .bf16) (main_arg1 : FVec F S8x4096x512 .bf16) (main_arg2 : FVec F S8x4096x512 .bf16) (main_arg3 : FVec F S64 .f32) (main_arg4 : FVec F S64 .f32) (main_arg5 : FVec F S64 .f32) (main_arg6 : FVec F S64 .f32) (main_arg7 : FVec F S128 .f32) : IVec S8x4096x512 1 × IVec S64 1 × IVec S64 1 × IVec S64 1 × IVec S64 1 :=
  let main_v0 : FVec F S8x4096x512 .f32 := (extf .f32 · bitsLt_bf16_f32) main_arg2
  let main_v1 : FVec F S8x4096x512 .f32 := Host.absf main_v0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_v7 : FVec F S64 .f32 := Host.absf main_arg4
  let main_cst_1 : FVec F S_ .f32 := constant S_ .f32 0x7F800000#32
  let main_v8 : FVec F S64 .f32 := broadcastInDim S64 ![] bcast_S_S64 main_cst_1
  let main_v9 : IVec S64 1 := cmpf .olt main_v7 main_v8
  let main_v10 : FVec F S64 .f32 := Host.absf main_arg5
  let main_cst_2 : FVec F S_ .f32 := constant S_ .f32 0x7F800000#32
  let main_v11 : FVec F S64 .f32 := broadcastInDim S64 ![] bcast_S_S64 main_cst_2
  let main_v12 : IVec S64 1 := cmpf .olt main_v10 main_v11
  let main_v13 : FVec F S64 .f32 := Host.absf main_arg6
  let main_cst_3 : FVec F S_ .f32 := constant S_ .f32 0x7F800000#32
  let main_v14 : FVec F S64 .f32 := broadcastInDim S64 ![] bcast_S_S64 main_cst_3
  let main_v15 : IVec S64 1 := cmpf .olt main_v13 main_v14
  (main_v3, main_v6, main_v9, main_v12, main_v15)
-- ==== Pre_filter_inputs_finite.lean ====
abbrev S4096x33 : Shape := ⟨2, ![4096, 33]⟩
abbrev S512 : Shape := ⟨1, ![512]⟩
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S_ : Shape := ⟨0, ![]⟩

class Facts : Prop where
  bcast_S_S64x2048 : S_.BroadcastsInDim S64x2048 (![] : Fin 0 → Fin S64x2048.rank)

variable [Facts]

def fn {F : FTy → Type} [FloatOps F] (main_arg0 : FVec F S4096x33 .f32) (main_arg1 : FVec F S512 .f32) (main_arg2 : FVec F S33x64 .f32) (main_arg3 : FVec F S64 .f32) (main_arg4 : FVec F S64 .f32) (main_arg5 : FVec F S64x64 .f32) (main_arg6 : FVec F S64 .f32) (main_arg7 : FVec F S64 .f32) (main_arg8 : FVec F S64x2048 .f32) : IVec S64x2048 1 :=
  let main_v0 : FVec F S64x2048 .f32 := Host.absf main_arg8
  let main_cst : FVec F S_ .f32 := constant S_ .f32 0x7F800000#32
  let main_v1 : FVec F S64x2048 .f32 := broadcastInDim S64x2048 ![] bcast_S_S64x2048 main_cst
  let main_v2 : IVec S64x2048 1 := cmpf .olt main_v0 main_v1
  main_v2
-- ==== Pre_inproj_inputs_finite.lean ====
abbrev S32768x1024 : Shape := ⟨2, ![32768, 1024]⟩
abbrev S1024 : Shape := ⟨1, ![1024]⟩
abbrev S1024x5120 : Shape := ⟨2, ![1024, 5120]⟩
abbrev S3x1536 : Shape := ⟨2, ![3, 1536]⟩
abbrev S64 : Shape := ⟨1, ![64]⟩
abbrev S4096x32 : Shape := ⟨2, ![4096, 32]⟩
abbrev S_ : Shape := ⟨0, ![]⟩

class Facts : Prop where
  bcast_S_S1024 : S_.BroadcastsInDim S1024 (![] : Fin 0 → Fin S1024.rank)
  bcast_S_S1024x5120 : S_.BroadcastsInDim S1024x5120 (![] : Fin 0 → Fin S1024x5120.rank)

variable [Facts]

def fn {F : FTy → Type} [FloatOps F] (main_arg0 : FVec F S32768x1024 .f32) (main_arg1 : FVec F S1024 .f32) (main_arg2 : FVec F S1024x5120 .f32) (main_arg3 : FVec F S3x1536 .f32) (main_arg4 : FVec F S64 .f32) (main_arg5 : FVec F S64 .f32) (main_arg6 : FVec F S4096x32 .f32) (main_arg7 : FVec F S4096x32 .f32) : IVec S1024 1 × IVec S1024x5120 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x5120 .f32 := Host.absf main_arg2
  let main_cst_0 : FVec F S_ .f32 := constant S_ .f32 0x7F800000#32
  let main_v4 : FVec F S1024x5120 .f32 := broadcastInDim S1024x5120 ![] bcast_S_S1024x5120 main_cst_0
  let main_v5 : IVec S1024x5120 1 := cmpf .olt main_v3 main_v4
  (main_v2, main_v5)
-- ==== Kernel.lean ====
abbrev S8x4096x512 : Shape := ⟨3, ![8, 4096, 512]⟩
abbrev S64 : Shape := ⟨1, ![64]⟩
abbrev S128 : Shape := ⟨1, ![128]⟩
abbrev S_ : Shape := ⟨0, ![]⟩
abbrev S1 : Shape := ⟨1, ![1]⟩
abbrev S1x128 : Shape := ⟨2, ![1, 128]⟩
abbrev S1x512x128 : Shape := ⟨3, ![1, 512, 128]⟩
abbrev S1x4096x128 : Shape := ⟨3, ![1, 4096, 128]⟩
abbrev S4096x128 : Shape := ⟨2, ![4096, 128]⟩
abbrev S512x128 : Shape := ⟨2, ![512, 128]⟩
abbrev S512 : Shape := ⟨1, ![512]⟩
abbrev S512x1 : Shape := ⟨2, ![512, 1]⟩
abbrev S1x512x1 : Shape := ⟨3, ![1, 512, 1]⟩
abbrev S1x1x1 : Shape := ⟨3, ![1, 1, 1]⟩
abbrev S512x4096 : Shape := ⟨2, ![512, 4096]⟩

abbrev nBuf : Space → Nat
  | .hbm => 22
  | .vmem => 10
  | .smem => 1
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S1x128, .f32⟩
  | .hbm, ⟨21, _⟩ => ⟨S8x4096x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x128, .f32⟩
  | .local _ .vmem, ⟨7, _⟩ => ⟨S1x512x128, .bf16⟩
  | .local _ .vmem, ⟨8, _⟩ => ⟨S1x512x128, .bf16⟩
  | .local _ .vmem, ⟨9, _⟩ => ⟨S1x128, .f32⟩
  | .local _ .smem, ⟨0, _⟩ => ⟨S1, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8x4096x512 : Shape := ⟨3, ![8, 4096, 512]⟩
abbrev S64 : Shape := ⟨1, ![64]⟩
abbrev S128 : Shape := ⟨1, ![128]⟩
abbrev S8x4096x4x2x64 : Shape := ⟨5, ![8, 4096, 4, 2, 64]⟩
abbrev S8x4096x4x128 : Shape := ⟨4, ![8, 4096, 4, 128]⟩
abbrev S_ : Shape := ⟨0, ![]⟩
abbrev S8x4x2x4096x4096 : Shape := ⟨5, ![8, 4, 2, 4096, 4096]⟩
abbrev S8x4x2x4096 : Shape := ⟨4, ![8, 4, 2, 4096]⟩
abbrev S8x4x2x4096x1 : Shape := ⟨5, ![8, 4, 2, 4096, 1]⟩
abbrev S8x4x1x4096x4096 : Shape := ⟨5, ![8, 4, 1, 4096, 4096]⟩
abbrev S8x4x4096x4096 : Shape := ⟨4, ![8, 4, 4096, 4096]⟩
abbrev S8x4x128x4096 : Shape := ⟨4, ![8, 4, 128, 4096]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩

abbrev nBuf : Space → Nat
  | .hbm => 72
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S8x4096x4x2x64, .bf16⟩
  | .hbm, ⟨9, _⟩ => ⟨S8x4096x4x2x64, .bf16⟩
  | .hbm, ⟨10, _⟩ => ⟨S8x4096x4x128, .bf16⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8x4x2x4096x4096, .f32⟩
  | .hbm, ⟨23, _⟩ => ⟨S_, .f32⟩
  | .hbm, ⟨24, _⟩ => ⟨S_, .f32⟩
  | .hbm, ⟨25, _⟩ => ⟨S8x4x2x4096x4096, .f32⟩
  | .hbm, ⟨26, _⟩ => ⟨S8x4x2x4096x4096, .f32⟩
  | .hbm, ⟨27, _⟩ => ⟨S_, .f32⟩
  | .hbm, ⟨28, _⟩ => ⟨S8x4x2x4096, .f32⟩
  | .hbm, ⟨29, _⟩ => ⟨S_, .f32⟩
  | .hbm, ⟨30, _⟩ => ⟨S8x4x2x4096, .f32⟩
  | .hbm, ⟨31, _⟩ => ⟨S8x4x2x4096, .f32⟩
  | .hbm, ⟨32, _⟩ => ⟨S8x4x2x4096x1, .f32⟩
  | .hbm, ⟨33, _⟩ => ⟨S8x4x2x4096x4096, .f32⟩
  | .hbm, ⟨34, _⟩ => ⟨S8x4x2x4096x4096, .f32⟩
  | .hbm, ⟨35, _⟩ => ⟨S8x4x2x4096x4096, .f32⟩
  | .hbm, ⟨36, _⟩ => ⟨S_, .f32⟩
  | .hbm, ⟨37, _⟩ => ⟨S8x4x2x4096, .f32⟩
  | .hbm, ⟨38, _⟩ => ⟨S8x4x2x4096x1, .f32⟩
  | .hbm, ⟨39, _⟩ => ⟨S8x4x2x4096x4096, .f32⟩
  | .hbm, ⟨40, _⟩ => ⟨S8x4x2x4096x4096, .f32⟩
  | .hbm, ⟨41, _⟩ => ⟨S8x4x1x4096x4096, .f32⟩
  | .hbm, ⟨42, _⟩ => ⟨S8x4x4096x4096, .f32⟩
  | .hbm, ⟨43, _⟩ => ⟨S8x4x1x4096x4096, .f32⟩
  | .hbm, ⟨44, _⟩ => ⟨S8x4x4096x4096, .f32⟩
  | .hbm, ⟨45, _⟩ => ⟨S8x4x4096x4096, .f32⟩
  | .hbm, ⟨46, _⟩ => ⟨S8x4x4096x4096, .f32⟩
  | .hbm, ⟨47, _⟩ => ⟨S8x4x4096x4096, .f32⟩
  | .hbm, ⟨48, _⟩ => ⟨S8x4x4096x4096, .bf16⟩
  | .hbm, ⟨49, _⟩ => ⟨S8x4x128x4096, .f32⟩
  | .hbm, ⟨50, _⟩ => ⟨S8x4096x4x128, .f32⟩
  | .hbm, ⟨51, _⟩ => ⟨S8x4096x4x128, .f32⟩
  | .hbm, ⟨52, _⟩ => ⟨S_, .f32⟩
  | .hbm, ⟨53, _⟩ => ⟨S8x4096x4, .f32⟩
  | .hbm, ⟨54, _⟩ => ⟨S8x4096x4x1, .f32⟩
  | .hbm, ⟨55, _⟩ => ⟨S_, .f32⟩
  | .hbm, ⟨56, _⟩ => ⟨S8x4096x4x1, .f32⟩
  | .hbm, ⟨57, _⟩ => ⟨S8x4096x4x1, .f32⟩
  | .hbm, ⟨58, _⟩ => ⟨S_, .f32⟩
  | .hbm, ⟨59, _⟩ => ⟨S8x4096x4x1, .f32⟩
  | .hbm, ⟨60, _⟩ => ⟨S8x4096x4x1, .f32⟩
  | .hbm, ⟨61, _⟩ => ⟨S8x4096x4x1, .f32⟩
  | .hbm, ⟨62, _⟩ => ⟨S8x4096x4x128, .f32⟩
  | .hbm, ⟨63, _⟩ => ⟨S8x4096x4x128, .f32⟩
  | .hbm, ⟨64, _⟩ => ⟨S1x1x1x128, .f32⟩
  | .hbm, ⟨65, _⟩ => ⟨S8x4096x4x128, .f32⟩
  | .hbm, ⟨66, _⟩ => ⟨S8x4096x4x128, .f32⟩
  | .hbm, ⟨67, _⟩ => ⟨S_, .f32⟩
  | .hbm, ⟨68, _⟩ => ⟨S8x4096x4x128, .f32⟩
  | .hbm, ⟨69, _⟩ => ⟨S8x4096x4x128, .f32⟩
  | .hbm, ⟨70, _⟩ => ⟨S8x4096x512, .f32⟩
  | .hbm, ⟨71, _⟩ => ⟨S8x4096x512, .bf16⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Dense.lean ====
abbrev S32768x1024 : Shape := ⟨2, ![32768, 1024]⟩
abbrev S1x1024x2752 : Shape := ⟨3, ![1, 1024, 2752]⟩
abbrev S1x2752x1024 : Shape := ⟨3, ![1, 2752, 1024]⟩
abbrev S512x1024 : Shape := ⟨2, ![512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩
abbrev S1x1024x192 : Shape := ⟨3, ![1, 1024, 192]⟩
abbrev S1024x192 : Shape := ⟨2, ![1024, 192]⟩
abbrev S512x192 : Shape := ⟨2, ![512, 192]⟩
abbrev S1x192x1024 : Shape := ⟨3, ![1, 192, 1024]⟩
abbrev S192x1024 : Shape := ⟨2, ![192, 1024]⟩

abbrev nBuf : Space → Nat
  | .hbm => 9
  | .vmem => 9
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1x1024x2752, .f32⟩
  | .hbm, ⟨3, _⟩ => ⟨S1x1024x2752, .f32⟩
  | .hbm, ⟨4, _⟩ => ⟨S1x2752x1024, .f32⟩
  | .hbm, ⟨5, _⟩ => ⟨S1x1024x2752, .bf16⟩
  | .hbm, ⟨6, _⟩ => ⟨S1x1024x2752, .bf16⟩
  | .hbm, ⟨7, _⟩ => ⟨S1x2752x1024, .bf16⟩
  | .hbm, ⟨8, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1024x2752, .bf16⟩
  | .local _ .vmem, ⟨5, _⟩ => ⟨S1x1024x2752, .bf16⟩
  | .local _ .vmem, ⟨6, _⟩ => ⟨S1x2752x1024, .bf16⟩
  | .local _ .vmem, ⟨7, _⟩ => ⟨S512x1024, .f32⟩
  | .local _ .vmem, ⟨8, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2752 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2752 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2752x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DenseReferenceIdeal.lean ====
abbrev S32768x1024 : Shape := ⟨2, ![32768, 1024]⟩
abbrev S1x1024x2752 : Shape := ⟨3, ![1, 1024, 2752]⟩
abbrev S1x2752x1024 : Shape := ⟨3, ![1, 2752, 1024]⟩
abbrev S1024x2752 : Shape := ⟨2, ![1024, 2752]⟩
abbrev S2752x1024 : Shape := ⟨2, ![2752, 1024]⟩
abbrev S32768x2752 : Shape := ⟨2, ![32768, 2752]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1x1024x2752, .f32⟩
  | .hbm, ⟨3, _⟩ => ⟨S1x1024x2752, .f32⟩
  | .hbm, ⟨4, _⟩ => ⟨S1x2752x1024, .f32⟩
  | .hbm, ⟨5, _⟩ => ⟨S32768x1024, .f32⟩
  | .hbm, ⟨6, _⟩ => ⟨S1024x2752, .f32⟩
  | .hbm, ⟨7, _⟩ => ⟨S1024x2752, .f32⟩
  | .hbm, ⟨8, _⟩ => ⟨S2752x1024, .f32⟩
  | .hbm, ⟨9, _⟩ => ⟨S32768x2752, .f32⟩
  | .hbm, ⟨10, _⟩ => ⟨S32768x2752, .f32⟩
  | .hbm, ⟨11, _⟩ => ⟨S32768x2752, .f32⟩
  | .hbm, ⟨12, _⟩ => ⟨S_, .f32⟩
  | .hbm, ⟨13, _⟩ => ⟨S32768x2752, .f32⟩
  | .hbm, ⟨14, _⟩ => ⟨S32768x2752, .f32⟩
  | .hbm, ⟨15, _⟩ => ⟨S_, .f32⟩
  | .hbm, ⟨16, _⟩ => ⟨S32768x2752, .f32⟩
  | .hbm, ⟨17, _⟩ => ⟨S32768x2752, .f32⟩
  | .hbm, ⟨18, _⟩ => ⟨S32768x2752, .f32⟩
  | .hbm, ⟨19, _⟩ => ⟨S32768x2752, .f32⟩
  | .hbm, ⟨20, _⟩ => ⟨S32768x2752, .f32⟩
  | .hbm, ⟨21, _⟩ => ⟨S32768x1024, .f32⟩
  | .hbm, ⟨22, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Merge.lean ====
abbrev S32768x1024 : Shape := ⟨2, ![32768, 1024]⟩
abbrev S4x16384x128 : Shape := ⟨3, ![4, 16384, 128]⟩
abbrev S32768x512 : Shape := ⟨2, ![32768, 512]⟩
abbrev S32768x2048 : Shape := ⟨2, ![32768, 2048]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S4x256x128 : Shape := ⟨3, ![4, 256, 128]⟩
abbrev S512x512 : Shape := ⟨2, ![512, 512]⟩
abbrev S1x256x128 : Shape := ⟨3, ![1, 256, 128]⟩
abbrev S256x128 : Shape := ⟨2, ![256, 128]⟩
abbrev S512x128 : Shape := ⟨2, ![512, 128]⟩
abbrev S512 : Shape := ⟨1, ![512]⟩
abbrev S512x1 : Shape := ⟨2, ![512, 1]⟩

abbrev nBuf : Space → Nat
  | .hbm => 14
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S4x16384x128, .i32⟩
  | .hbm, ⟨2, _⟩ => ⟨S32768x512, .bf16⟩
  | .hbm, ⟨3, _⟩ => ⟨S32768x2048, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S1x1024, .f32⟩
  | .hbm, ⟨12, _⟩ => ⟨S32768x1024, .f32⟩
  | .hbm, ⟨13, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S4x256x128, .i32⟩
  | .local _ .vmem, ⟨3, _⟩ => ⟨S4x256x128, .i32⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S32768x1024 : Shape := ⟨2, ![32768, 1024]⟩
abbrev S4x16384x128 : Shape := ⟨3, ![4, 16384, 128]⟩
abbrev S32768x512 : Shape := ⟨2, ![32768, 512]⟩
abbrev S32768x2048 : Shape := ⟨2, ![32768, 2048]⟩
abbrev S512x1024 : Shape := ⟨2, ![512, 1024]⟩
abbrev S1024x1024 : Shape := ⟨2, ![1024, 1024]⟩
abbrev S1024 : Shape := ⟨1, ![1024]⟩
abbrev S4x16384x128x2 : Shape := ⟨4, ![4, 16384, 128, 2]⟩
abbrev S16384x2x4x128 : Shape := ⟨4, ![16384, 2, 4, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x16384x128, .i32⟩
  | .hbm, ⟨2, _⟩ => ⟨S32768x512, .bf16⟩
  | .hbm, ⟨3, _⟩ => ⟨S32768x2048, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S4x16384x128x2, .bf16⟩
  | .hbm, ⟨9, _⟩ => ⟨S16384x2x4x128, .bf16⟩
  | .hbm, ⟨10, _⟩ => ⟨S32768x512, .bf16⟩
  | .hbm, ⟨11, _⟩ => ⟨S32768x512, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S32768x2048, .f32⟩
  | .hbm, ⟨17, _⟩ => ⟨S32768x2048, .f32⟩
  | .hbm, ⟨18, _⟩ => ⟨S_, .f32⟩
  | .hbm, ⟨19, _⟩ => ⟨S32768x2048, .f32⟩
  | .hbm, ⟨20, _⟩ => ⟨S32768x2048, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x512, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1, .f32⟩
  | .hbm, ⟨42, _⟩ => ⟨S32768x1024, .f32⟩
  | .hbm, ⟨43, _⟩ => ⟨S32768x1024, .f32⟩
  | .hbm, ⟨44, _⟩ => ⟨S1x1024, .f32⟩
  | .hbm, ⟨45, _⟩ => ⟨S32768x1024, .f32⟩
  | .hbm, ⟨46, _⟩ => ⟨S32768x1024, .f32⟩
  | .hbm, ⟨47, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Router.lean ====
abbrev S32768x1024 : Shape := ⟨2, ![32768, 1024]⟩
abbrev S4x16384x128 : Shape := ⟨3, ![4, 16384, 128]⟩
abbrev S32768x512 : Shape := ⟨2, ![32768, 512]⟩
abbrev S32768x2048 : Shape := ⟨2, ![32768, 2048]⟩
abbrev S512x1024 : Shape := ⟨2, ![512, 1024]⟩
abbrev S1024x1024 : Shape := ⟨2, ![1024, 1024]⟩
abbrev S1024 : Shape := ⟨1, ![1024]⟩
abbrev S1024x8 : Shape := ⟨2, ![1024, 8]⟩
abbrev S1x1024 : Shape := ⟨2, ![1, 1024]⟩
abbrev S8x1024 : Shape := ⟨2, ![8, 1024]⟩
abbrev S32768x128 : Shape := ⟨2, ![32768, 128]⟩
abbrev S4x256x128 : Shape := ⟨3, ![4, 256, 128]⟩
abbrev S512x512 : Shape := ⟨2, ![512, 512]⟩
abbrev S512x128 : Shape := ⟨2, ![512, 128]⟩
abbrev S1x256x128 : Shape := ⟨3, ![1, 256, 128]⟩
abbrev S256x128 : Shape := ⟨2, ![256, 128]⟩
abbrev S512 : Shape := ⟨1, ![512]⟩
abbrev S512x1 : Shape := ⟨2, ![512, 1]⟩

abbrev nBuf : Space → Nat
  | .hbm => 17
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S4x16384x128, .i32⟩
  | .hbm, ⟨2, _⟩ => ⟨S32768x512, .bf16⟩
  | .hbm, ⟨3, _⟩ => ⟨S32768x2048, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x8, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1x1024, .f32⟩
  | .hbm, ⟨13, _⟩ => ⟨S8x1024, .f32⟩
  | .hbm, ⟨14, _⟩ => ⟨S32768x1024, .f32⟩
  | .hbm, ⟨15, _⟩ => ⟨S32768x1024, .f32⟩
  | .hbm, ⟨16, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S4x256x128, .i32⟩
  | .local _ .vmem, ⟨3, _⟩ => ⟨S4x256x128, .i32⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S8x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x128, .f32⟩
  | .local _ .vmem, ⟨20, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== RouterReferenceIdeal.lean ====
abbrev S32768x1024 : Shape := ⟨2, ![32768, 1024]⟩
abbrev S4x16384x128 : Shape := ⟨3, ![4, 16384, 128]⟩
abbrev S32768x512 : Shape := ⟨2, ![32768, 512]⟩
abbrev S32768x2048 : Shape := ⟨2, ![32768, 2048]⟩
abbrev S512x1024 : Shape := ⟨2, ![512, 1024]⟩
abbrev S1024x1024 : Shape := ⟨2, ![1024, 1024]⟩
abbrev S1024 : Shape := ⟨1, ![1024]⟩
abbrev S1024x8 : Shape := ⟨2, ![1024, 8]⟩
abbrev S4x16384x128x2 : Shape := ⟨4, ![4, 16384, 128, 2]⟩
abbrev S16384x2x4x128 : Shape := ⟨4, ![16384, 2, 4, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8 : Shape := ⟨2, ![32768, 8]⟩
abbrev S32768x128 : Shape := ⟨2, ![32768, 128]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x16384x128, .i32⟩
  | .hbm, ⟨2, _⟩ => ⟨S32768x512, .bf16⟩
  | .hbm, ⟨3, _⟩ => ⟨S32768x2048, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x8, .f32⟩
  | .hbm, ⟨9, _⟩ => ⟨S4x16384x128x2, .bf16⟩
  | .hbm, ⟨10, _⟩ => ⟨S16384x2x4x128, .bf16⟩
  | .hbm, ⟨11, _⟩ => ⟨S32768x512, .bf16⟩
  | .hbm, ⟨12, _⟩ => ⟨S32768x512, .f32⟩
  | .hbm, ⟨13, _⟩ => ⟨S32768x2048, .f32⟩
  | .hbm, ⟨14, _⟩ => ⟨S32768x2048, .f32⟩
  | .hbm, ⟨15, _⟩ => ⟨S32768x2048, .f32⟩
  | .hbm, ⟨16, _⟩ => ⟨S_, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S32768x2048, .f32⟩
  | .hbm, ⟨21, _⟩ => ⟨S32768x2048, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x512, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1, .f32⟩
  | .hbm, ⟨43, _⟩ => ⟨S32768x1024, .f32⟩
  | .hbm, ⟨44, _⟩ => ⟨S32768x1024, .f32⟩
  | .hbm, ⟨45, _⟩ => ⟨S1x1024, .f32⟩
  | .hbm, ⟨46, _⟩ => ⟨S32768x1024, .f32⟩
  | .hbm, ⟨47, _⟩ => ⟨S32768x1024, .f32⟩
  | .hbm, ⟨48, _⟩ => ⟨S32768x8, .f32⟩
  | .hbm, ⟨49, _⟩ => ⟨S_, .i32⟩
  | .hbm, ⟨50, _⟩ => ⟨S_, .f32⟩
  | .hbm, ⟨51, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c : Ref sig .tc := ⟨.hbm, 49, rfl⟩
abbrev main_call0_v0 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Inproj.lean ====
abbrev S32768x1024 : Shape := ⟨2, ![32768, 1024]⟩
abbrev S1024 : Shape := ⟨1, ![1024]⟩
abbrev S1024x5120 : Shape := ⟨2, ![1024, 5120]⟩
abbrev S3x1536 : Shape := ⟨2, ![3, 1536]⟩
abbrev S64 : Shape := ⟨1, ![64]⟩
abbrev S4096x32 : Shape := ⟨2, ![4096, 32]⟩
abbrev S128x128 : Shape := ⟨2, ![128, 128]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S_ : Shape := ⟨0, ![]⟩
abbrev S1x1024 : Shape := ⟨2, ![1, 1024]⟩
abbrev S3x4x32768x128 : Shape := ⟨4, ![3, 4, 32768, 128]⟩
abbrev S32768x512 : Shape := ⟨2, ![32768, 512]⟩
abbrev S32768x2048 : Shape := ⟨2, ![32768, 2048]⟩
abbrev S512x1024 : Shape := ⟨2, ![512, 1024]⟩
abbrev S16x1024 : Shape := ⟨2, ![16, 1024]⟩
abbrev S512x128 : Shape := ⟨2, ![512, 128]⟩
abbrev S3x4x512x128 : Shape := ⟨4, ![3, 4, 512, 128]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S16 : Shape := ⟨1, ![16]⟩
abbrev S16x1 : Shape := ⟨2, ![16, 1]⟩
abbrev S544x1024 : Shape := ⟨2, ![544, 1024]⟩
abbrev S544x512 : Shape := ⟨2, ![544, 512]⟩
abbrev S1024x1536 : Shape := ⟨2, ![1024, 1536]⟩
abbrev S544x1536 : Shape := ⟨2, ![544, 1536]⟩
abbrev S1024x3584 : Shape := ⟨2, ![1024, 3584]⟩
abbrev S512x3584 : Shape := ⟨2, ![512, 3584]⟩
abbrev S3x512 : Shape := ⟨2, ![3, 512]⟩
abbrev S1x512 : Shape := ⟨2, ![1, 512]⟩
abbrev S1x1x512x128 : Shape := ⟨4, ![1, 1, 512, 128]⟩

abbrev nBuf : Space → Nat
  | .hbm => 35
  | .vmem => 26
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5120, .f32⟩
  | .hbm, ⟨3, _⟩ => ⟨S3x1536, .f32⟩
  | .hbm, ⟨4, _⟩ => ⟨S64, .f32⟩
  | .hbm, ⟨5, _⟩ => ⟨S64, .f32⟩
  | .hbm, ⟨6, _⟩ => ⟨S4096x32, .f32⟩
  | .hbm, ⟨7, _⟩ => ⟨S4096x32, .f32⟩
  | .hbm, ⟨8, _⟩ => ⟨S128x128, .bf16⟩
  | .hbm, ⟨9, _⟩ => ⟨S1024x5120, .bf16⟩
  | .hbm, ⟨10, _⟩ => ⟨S1x4096x1x32, .f32⟩
  | .hbm, ⟨11, _⟩ => ⟨S1x4096x4x32, .f32⟩
  | .hbm, ⟨12, _⟩ => ⟨S4096x128, .f32⟩
  | .hbm, ⟨13, _⟩ => ⟨S4096x32, .f32⟩
  | .hbm, ⟨14, _⟩ => ⟨S4096x64, .f32⟩
  | .hbm, ⟨15, _⟩ => ⟨S1x4096x1x64, .f32⟩
  | .hbm, ⟨16, _⟩ => ⟨S1x4096x2x64, .f32⟩
  | .hbm, ⟨17, _⟩ => ⟨S4096x128, .f32⟩
  | .hbm, ⟨18, _⟩ => ⟨S1x64, .f32⟩
  | .hbm, ⟨19, _⟩ => ⟨S2x64, .f32⟩
  | .hbm, ⟨20, _⟩ => ⟨S128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x64, .f32⟩
  | .hbm, ⟨26, _⟩ => ⟨S2x64, .f32⟩
  | .hbm, ⟨27, _⟩ => ⟨S128, .f32⟩
  | .hbm, ⟨28, _⟩ => ⟨S1x128, .f32⟩
  | .hbm, ⟨29, _⟩ => ⟨S1x1024, .f32⟩
  | .hbm, ⟨30, _⟩ => ⟨S3x4x32768x128, .bf16⟩
  | .hbm, ⟨31, _⟩ => ⟨S32768x512, .bf16⟩
  | .hbm, ⟨32, _⟩ => ⟨S32768x512, .bf16⟩
  | .hbm, ⟨33, _⟩ => ⟨S32768x512, .bf16⟩
  | .hbm, ⟨34, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S1024x5120, .bf16⟩
  | .local _ .vmem, ⟨8, _⟩ => ⟨S3x1536, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S1x128, .f32⟩
  | .local _ .vmem, ⟨14, _⟩ => ⟨S1x128, .f32⟩
  | .local _ .vmem, ⟨15, _⟩ => ⟨S128x128, .bf16⟩
  | .local _ .vmem, ⟨16, _⟩ => ⟨S3x4x512x128, .bf16⟩
  | .local _ .vmem, ⟨17, _⟩ => ⟨S3x4x512x128, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x2048, .bf16⟩
  | .local _ .vmem, ⟨25, _⟩ => ⟨S512x2048, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev main_v20_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S3x4x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== InprojReferenceIdeal.lean ====
abbrev S32768x1024 : Shape := ⟨2, ![32768, 1024]⟩
abbrev S1024 : Shape := ⟨1, ![1024]⟩
abbrev S1024x5120 : Shape := ⟨2, ![1024, 5120]⟩
abbrev S3x1536 : Shape := ⟨2, ![3, 1536]⟩
abbrev S64 : Shape := ⟨1, ![64]⟩
abbrev S4096x32 : Shape := ⟨2, ![4096, 32]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5120 : Shape := ⟨2, ![32768, 5120]⟩
abbrev S32768x1536 : Shape := ⟨2, ![32768, 1536]⟩
abbrev S8x4096x1536 : Shape := ⟨3, ![8, 4096, 1536]⟩
abbrev S8x4098x1536 : Shape := ⟨3, ![8, 4098, 1536]⟩
abbrev S1x1536 : Shape := ⟨2, ![1, 1536]⟩
abbrev S1536 : Shape := ⟨1, ![1536]⟩
abbrev S1x1x1536 : Shape := ⟨3, ![1, 1, 1536]⟩
abbrev S32768x3x4x128 : Shape := ⟨4, ![32768, 3, 4, 128]⟩
abbrev S3x4x32768x128 : Shape := ⟨4, ![3, 4, 32768, 128]⟩
abbrev S32768x512 : Shape := ⟨2, ![32768, 512]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S8x4096x8x32 : Shape := ⟨4, ![8, 4096, 8, 32]⟩
abbrev S1x4096x1x32 : Shape := ⟨4, ![1, 4096, 1, 32]⟩
abbrev S32768x2048 : Shape := ⟨2, ![32768, 2048]⟩

abbrev nBuf : Space → Nat
  | .hbm => 130
  | .vmem => 0
  | .smem => 0
  | _ => 0

abbrev hbmTy0_0 (i : Nat) : BufTy := match i % 128 with
  | 0 => ⟨S32768x1024, .f32⟩
  | 1 => ⟨S1024, .f32⟩
  | 2 => ⟨S1024x5120, .f32⟩
  | 3 => ⟨S3x1536, .f32⟩
  | 4 => ⟨S64, .f32⟩
  | 5 => ⟨S64, .f32⟩
  | 6 => ⟨S4096x32, .f32⟩
  | 7 => ⟨S4096x32, .f32⟩
  | 8 => ⟨S32768x1024, .f32⟩
  | 9 => ⟨S_, .f32⟩
  | 10 => ⟨S32768, .f32⟩
  | 11 => ⟨S32768x1, .f32⟩
  | 12 => ⟨S_, .f32⟩
  | 13 => ⟨S32768x1, .f32⟩
  | 14 => ⟨S32768x1, .f32⟩
  | 15 => ⟨S_, .f32⟩
  | 16 => ⟨S32768x1, .f32⟩
  | 17 => ⟨S32768x1, .f32⟩
  | 18 => ⟨S32768x1, .f32⟩
  | 19 => ⟨S32768x1024, .f32⟩
  | 20 => ⟨S32768x1024, .f32⟩
  | 21 => ⟨S1x1024, .f32⟩
  | 22 => ⟨S32768x1024, .f32⟩
  | 23 => ⟨S32768x1024, .f32⟩
  | 24 => ⟨S32768x5120, .f32⟩
  | 25 => ⟨S32768x1536, .f32⟩
  | 26 => ⟨S8x4096x1536, .f32⟩
  | 27 => ⟨S_, .i32⟩
  | 28 => ⟨S_, .f32⟩
  | 29 => ⟨S8x4098x1536, .f32⟩
  | 30 => ⟨S8x4096x1536, .f32⟩
  | 31 => ⟨S1x1536, .f32⟩
  | 32 => ⟨S1536, .f32⟩
  | 33 => ⟨S1x1x1536, .f32⟩
  | 34 => ⟨S8x4096x1536, .f32⟩
  | 35 => ⟨S8x4096x1536, .f32⟩
  | 36 => ⟨S8x4096x1536, .f32⟩
  | 37 => ⟨S1x1536, .f32⟩
  | 38 => ⟨S1536, .f32⟩
  | 39 => ⟨S1x1x1536, .f32⟩
  | 40 => ⟨S8x4096x1536, .f32⟩
  | 41 => ⟨S8x4096x1536, .f32⟩
  | 42 => ⟨S8x4096x1536, .f32⟩
  | 43 => ⟨S8x4096x1536, .f32⟩
  | 44 => ⟨S1x1536, .f32⟩
  | 45 => ⟨S1536, .f32⟩
  | 46 => ⟨S1x1x1536, .f32⟩
  | 47 => ⟨S8x4096x1536, .f32⟩
  | 48 => ⟨S8x4096x1536, .f32⟩
  | 49 => ⟨S8x4096x1536, .f32⟩
  | 50 => ⟨S32768x3x4x128, .f32⟩
  | 51 => ⟨S3x4x32768x128, .f32⟩
  | 52 => ⟨S32768x512, .f32⟩
  | 53 => ⟨S8x4096x8x64, .f32⟩
  | 54 => ⟨S8x4096x8x64, .f32⟩
  | 55 => ⟨S_, .f32⟩
  | 56 => ⟨S8x4096x8, .f32⟩
  | 57 => ⟨S8x4096x8x1, .f32⟩
  | 58 => ⟨S_, .f32⟩
  | 59 => ⟨S8x4096x8x1, .f32⟩
  | 60 => ⟨S8x4096x8x1, .f32⟩
  | 61 => ⟨S_, .f32⟩
  | 62 => ⟨S8x4096x8x1, .f32⟩
  | 63 => ⟨S8x4096x8x1, .f32⟩
  | 64 => ⟨S8x4096x8x1, .f32⟩
  | 65 => ⟨S8x4096x8x64, .f32⟩
  | 66 => ⟨S8x4096x8x64, .f32⟩
  | 67 => ⟨S1x1x1x64, .f32⟩
  | 68 => ⟨S8x4096x8x64, .f32⟩
  | 69 => ⟨S8x4096x8x64, .f32⟩
  | 70 => ⟨S_, .f32⟩
  | 71 => ⟨S8x4096x8x64, .f32⟩
  | 72 => ⟨S8x4096x8x64, .f32⟩
  | 73 => ⟨S8x4096x8x32, .f32⟩
  | 74 => ⟨S8x4096x8x32, .f32⟩
  | 75 => ⟨S1x4096x1x32, .f32⟩
  | 76 => ⟨S1x4096x1x32, .f32⟩
  | 77 => ⟨S8x4096x8x32, .f32⟩
  | 78 => ⟨S8x4096x8x32, .f32⟩
  | 79 => ⟨S8x4096x8x32, .f32⟩
  | 80 => ⟨S8x4096x8x32, .f32⟩
  | 81 => ⟨S8x4096x8x32, .f32⟩
  | 82 => ⟨S8x4096x8x32, .f32⟩
  | 83 => ⟨S8x4096x8x32, .f32⟩
  | 84 => ⟨S8x4096x8x32, .f32⟩
  | 85 => ⟨S8x4096x8x32, .f32⟩
  | 86 => ⟨S8x4096x8x32, .f32⟩
  | 87 => ⟨S8x4096x8x64, .f32⟩
  | 88 => ⟨S32768x512, .f32⟩
  | 89 => ⟨S8x4096x8x64, .f32⟩
  | 90 => ⟨S8x4096x8x64, .f32⟩
  | 91 => ⟨S_, .f32⟩
  | 92 => ⟨S8x4096x8, .f32⟩
  | 93 => ⟨S8x4096x8x1, .f32⟩
  | 94 => ⟨S_, .f32⟩
  | 95 => ⟨S8x4096x8x1, .f32⟩
  | 96 => ⟨S8x4096x8x1, .f32⟩
  | 97 => ⟨S_, .f32⟩
  | 98 => ⟨S8x4096x8x1, .f32⟩
  | 99 => ⟨S8x4096x8x1, .f32⟩
  | 100 => ⟨S8x4096x8x1, .f32⟩
  | 101 => ⟨S8x4096x8x64, .f32⟩
  | 102 => ⟨S8x4096x8x64, .f32⟩
  | 103 => ⟨S1x1x1x64, .f32⟩
  | 104 => ⟨S8x4096x8x64, .f32⟩
  | 105 => ⟨S8x4096x8x64, .f32⟩
  | 106 => ⟨S8x4096x8x32, .f32⟩
  | 107 => ⟨S8x4096x8x32, .f32⟩
  | 108 => ⟨S1x4096x1x32, .f32⟩
  | 109 => ⟨S1x4096x1x32, .f32⟩
  | 110 => ⟨S8x4096x8x32, .f32⟩
  | 111 => ⟨S8x4096x8x32, .f32⟩
  | 112 => ⟨S8x4096x8x32, .f32⟩
  | 113 => ⟨S8x4096x8x32, .f32⟩
  | 114 => ⟨S8x4096x8x32, .f32⟩
  | 115 => ⟨S8x4096x8x32, .f32⟩
  | 116 => ⟨S8x4096x8x32, .f32⟩
  | 117 => ⟨S8x4096x8x32, .f32⟩
  | 118 => ⟨S8x4096x8x32, .f32⟩
  | 119 => ⟨S8x4096x8x32, .f32⟩
  | 120 => ⟨S8x4096x8x64, .f32⟩
  | 121 => ⟨S3x4x32768x128, .bf16⟩
  | 122 => ⟨S32768x512, .f32⟩
  | 123 => ⟨S32768x512, .bf16⟩
  | 124 => ⟨S32768x512, .f32⟩
  | 125 => ⟨S32768x512, .bf16⟩
  | 126 => ⟨S32768x512, .f32⟩
  | 127 => ⟨S32768x512, .bf16⟩
  | _ => ⟨S32768x1024, .f32⟩

abbrev hbmTy0_1 (i : Nat) : BufTy := match i % 128 with
  | 0 => ⟨S32768x2048, .f32⟩
  | 1 => ⟨S32768x2048, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_call0_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_2 : Ref sig .tc := ⟨.hbm, 55, rfl⟩
abbrev main_v42 : Ref sig .tc := ⟨.hbm, 56, rfl⟩
abbrev main_v43 : Ref sig .tc := ⟨.hbm, 57, rfl⟩
abbrev main_cst_3 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_5 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_6 : Ref sig .tc := ⟨.hbm, 91, rfl⟩
abbrev main_v74 : Ref sig .tc := ⟨.hbm, 92, rfl⟩
abbrev main_v75 : Ref sig .tc := ⟨.hbm, 93, rfl⟩
abbrev main_cst_7 : Ref sig .tc := ⟨.hbm, 94, rfl⟩
abbrev main_v76 : Ref sig .tc := ⟨.hbm, 95, rfl⟩
abbrev main_v77 : Ref sig .tc := ⟨.hbm, 96, rfl⟩
abbrev main_cst_8 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩

abbrev nD : Nat := 1
abbrev τ : Topo := Topo.v7x

variable {F : FTy → Type} [FloatOps F]
-- ==== Filter.lean ====
abbrev S4096x33 : Shape := ⟨2, ![4096, 33]⟩
abbrev S512 : Shape := ⟨1, ![512]⟩
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S_ : Shape := ⟨0, ![]⟩
abbrev S4096x1 : Shape := ⟨2, ![4096, 1]⟩
abbrev S4096x94 : Shape := ⟨2, ![4096, 94]⟩
abbrev S4096x128 : Shape := ⟨2, ![4096, 128]⟩
abbrev S1x128 : Shape := ⟨2, ![1, 128]⟩
abbrev S4095x128 : Shape := ⟨2, ![4095, 128]⟩
abbrev S8192x128 : Shape := ⟨2, ![8192, 128]⟩
abbrev S128x64 : Shape := ⟨2, ![128, 64]⟩
abbrev S1 : Shape := ⟨1, ![1]⟩
abbrev S64x2x2x512 : Shape := ⟨4, ![64, 2, 2, 512]⟩
abbrev S2x64x2x512 : Shape := ⟨4, ![2, 64, 2, 512]⟩
abbrev S2x64x1024 : Shape := ⟨3, ![2, 64, 1024]⟩
abbrev S1x512 : Shape := ⟨2, ![1, 512]⟩
abbrev S2x512 : Shape := ⟨2, ![2, 512]⟩
abbrev S1024 : Shape := ⟨1, ![1024]⟩
abbrev S1x1024 : Shape := ⟨2, ![1, 1024]⟩
abbrev S1x64 : Shape := ⟨2, ![1, 64]⟩
abbrev S8x8192x128 : Shape := ⟨3, ![8, 8192, 128]⟩
abbrev S512x128 : Shape := ⟨2, ![512, 128]⟩
abbrev S1x64x1024 : Shape := ⟨3, ![1, 64, 1024]⟩
abbrev S8x512x128 : Shape := ⟨3, ![8, 512, 128]⟩
abbrev S512x64 : Shape := ⟨2, ![512, 64]⟩
abbrev S64x1024 : Shape := ⟨2, ![64, 1024]⟩
abbrev S512x1024 : Shape := ⟨2, ![512, 1024]⟩
abbrev S512x1 : Shape := ⟨2, ![512, 1]⟩
abbrev S1x512x128 : Shape := ⟨3, ![1, 512, 128]⟩

abbrev nBuf : Space → Nat
  | .hbm => 37
  | .vmem => 13
  | .smem => 0
  | _ => 0

abbrev bufTy : (tb : Table) → Fin (tcTables nBuf tb) → BufTy
  | .hbm, ⟨0, _⟩ => ⟨S4096x33, .f32⟩
  | .hbm, ⟨1, _⟩ => ⟨S512, .f32⟩
  | .hbm, ⟨2, _⟩ => ⟨S33x64, .f32⟩
  | .hbm, ⟨3, _⟩ => ⟨S64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64x2048, .f32⟩
  | .hbm, ⟨9, _⟩ => ⟨S_, .f32⟩
  | .hbm, ⟨10, _⟩ => ⟨S4096x1, .f32⟩
  | .hbm, ⟨11, _⟩ => ⟨S_, .f32⟩
  | .hbm, ⟨12, _⟩ => ⟨S4096x94, .f32⟩
  | .hbm, ⟨13, _⟩ => ⟨S4096x128, .f32⟩
  | .hbm, ⟨14, _⟩ => ⟨S_, .f32⟩
  | .hbm, ⟨15, _⟩ => ⟨S1x128, .f32⟩
  | .hbm, ⟨16, _⟩ => ⟨S4095x128, .f32⟩
  | .hbm, ⟨17, _⟩ => ⟨S4095x128, .f32⟩
  | .hbm, ⟨18, _⟩ => ⟨S8192x128, .f32⟩
  | .hbm, ⟨19, _⟩ => ⟨S_, .f32⟩
  | .hbm, ⟨20, _⟩ => ⟨S128x64, .f32⟩
  | .hbm, ⟨21, _⟩ => ⟨S_, .i32⟩
  | .hbm, ⟨22, _⟩ => ⟨S1, .i32⟩
  | .hbm, ⟨23, _⟩ => ⟨S128x64, .f32⟩
  | .hbm, ⟨24, _⟩ => ⟨S64x2x2x512, .f32⟩
  | .hbm, ⟨25, _⟩ => ⟨S2x64x2x512, .f32⟩
  | .hbm, ⟨26, _⟩ => ⟨S2x64x1024, .f32⟩
  | .hbm, ⟨27, _⟩ => ⟨S512, .f32⟩
  | .hbm, ⟨28, _⟩ => ⟨S1x512, .f32⟩
  | .hbm, ⟨29, _⟩ => ⟨S2x512, .f32⟩
  | .hbm, ⟨30, _⟩ => ⟨S1024, .f32⟩
  | .hbm, ⟨31, _⟩ => ⟨S1x1024, .f32⟩
  | .hbm, ⟨32, _⟩ => ⟨S1x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S8x8192x128, .f32⟩
  | .local _ .vmem, ⟨0, _⟩ => ⟨S512x128, .f32⟩
  | .local _ .vmem, ⟨1, _⟩ => ⟨S512x128, .f32⟩
  | .local _ .vmem, ⟨2, _⟩ => ⟨S128x64, .f32⟩
  | .local _ .vmem, ⟨3, _⟩ => ⟨S1x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S1x64, .f32⟩
  | .local _ .vmem, ⟨8, _⟩ => ⟨S1x64x1024, .f32⟩
  | .local _ .vmem, ⟨9, _⟩ => ⟨S1x64x1024, .f32⟩
  | .local _ .vmem, ⟨10, _⟩ => ⟨S1x1024, .f32⟩
  | .local _ .vmem, ⟨11, _⟩ => ⟨S8x512x128, .f32⟩
  | .local _ .vmem, ⟨12, _⟩ => ⟨S8x512x128, .f32⟩
  | _, _ => ⟨S4096x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FilterReferenceIdeal.lean ====
abbrev S4096x33 : Shape := ⟨2, ![4096, 33]⟩
abbrev S512 : Shape := ⟨1, ![512]⟩
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S4096x1 : Shape := ⟨2, ![4096, 1]⟩
abbrev S4096x64 : Shape := ⟨2, ![4096, 64]⟩
abbrev S1x64 : Shape := ⟨2, ![1, 64]⟩
abbrev S4096x2048 : Shape := ⟨2, ![4096, 2048]⟩
abbrev S1x512 : Shape := ⟨2, ![1, 512]⟩
abbrev S4096x512 : Shape := ⟨2, ![4096, 512]⟩
abbrev S4096x2x2x512 : Shape := ⟨4, ![4096, 2, 2, 512]⟩
abbrev S4096x1x1x512 : Shape := ⟨4, ![4096, 1, 1, 512]⟩
abbrev S4096x2x1x512 : Shape := ⟨4, ![4096, 2, 1, 512]⟩
abbrev S4096x2x512 : Shape := ⟨3, ![4096, 2, 512]⟩
abbrev S1x2x512 : Shape := ⟨3, ![1, 2, 512]⟩
abbrev S_ : Shape := ⟨0, ![]⟩
abbrev S4095x2x512 : Shape := ⟨3, ![4095, 2, 512]⟩
abbrev S8192x2x512 : Shape := ⟨3, ![8192, 2, 512]⟩
abbrev S8192x8x128 : Shape := ⟨3, ![8192, 8, 128]⟩
abbrev S8x8192x128 : Shape := ⟨3, ![8, 8192, 128]⟩

abbrev nBuf : Space → Nat
  | .hbm => 50
  | .vmem => 0
  | .smem => 0
  | _ => 0

abbrev bufTy : (tb : Table) → Fin (tcTables nBuf tb) → BufTy
  | .hbm, ⟨0, _⟩ => ⟨S4096x33, .f32⟩
  | .hbm, ⟨1, _⟩ => ⟨S512, .f32⟩
  | .hbm, ⟨2, _⟩ => ⟨S33x64, .f32⟩
  | .hbm, ⟨3, _⟩ => ⟨S64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64x2048, .f32⟩
  | .hbm, ⟨9, _⟩ => ⟨S4096x1, .f32⟩
  | .hbm, ⟨10, _⟩ => ⟨S4096x64, .f32⟩
  | .hbm, ⟨11, _⟩ => ⟨S1x64, .f32⟩
  | .hbm, ⟨12, _⟩ => ⟨S4096x64, .f32⟩
  | .hbm, ⟨13, _⟩ => ⟨S4096x64, .f32⟩
  | .hbm, ⟨14, _⟩ => ⟨S1x64, .f32⟩
  | .hbm, ⟨15, _⟩ => ⟨S4096x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S1x64, .f32⟩
  | .hbm, ⟨20, _⟩ => ⟨S4096x64, .f32⟩
  | .hbm, ⟨21, _⟩ => ⟨S4096x64, .f32⟩
  | .hbm, ⟨22, _⟩ => ⟨S1x64, .f32⟩
  | .hbm, ⟨23, _⟩ => ⟨S4096x64, .f32⟩
  | .hbm, ⟨24, _⟩ => ⟨S4096x64, .f32⟩
  | .hbm, ⟨25, _⟩ => ⟨S4096x64, .f32⟩
  | .hbm, ⟨26, _⟩ => ⟨S4096x2048, .f32⟩
  | .hbm, ⟨27, _⟩ => ⟨S4096x1, .f32⟩
  | .hbm, ⟨28, _⟩ => ⟨S512, .f32⟩
  | .hbm, ⟨29, _⟩ => ⟨S1x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x2x2x512, .f32⟩
  | .hbm, ⟨35, _⟩ => ⟨S4096x1x1x512, .f32⟩
  | .hbm, ⟨36, _⟩ => ⟨S4096x2x2x512, .f32⟩
  | .hbm, ⟨37, _⟩ => ⟨S4096x2x2x512, .f32⟩
  | .hbm, ⟨38, _⟩ => ⟨S4096x2x1x512, .f32⟩
  | .hbm, ⟨39, _⟩ => ⟨S4096x2x512, .f32⟩
  | .hbm, ⟨40, _⟩ => ⟨S4096x2x1x512, .f32⟩
  | .hbm, ⟨41, _⟩ => ⟨S4096x2x512, .f32⟩
  | .hbm, ⟨42, _⟩ => ⟨S1x2x512, .f32⟩
  | .hbm, ⟨43, _⟩ => ⟨S_, .f32⟩
  | .hbm, ⟨44, _⟩ => ⟨S1x2x512, .f32⟩
  | .hbm, ⟨45, _⟩ => ⟨S4095x2x512, .f32⟩
  | .hbm, ⟨46, _⟩ => ⟨S4095x2x512, .f32⟩
  | .hbm, ⟨47, _⟩ => ⟨S8192x2x512, .f32⟩
  | .hbm, ⟨48, _⟩ => ⟨S8192x8x128, .f32⟩
  | .hbm, ⟨49, _⟩ => ⟨S8x8192x128, .f32⟩
  | _, _ => ⟨S4096x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Proof.KernelIdeal.Points.lean ====
/-
What the runs of the attention kernel's body share: the branch on the query-block coordinate in closed form, the
staging and scratch buffers as the pipeline passes them, and the invariant handed from point to point.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 256 := Nat.lt_of_lt_of_eq t.isLt N_0
    have e0 : (grid0.coords t 0).val = t.val / 32 % 8 := Pipeline.Grid.coords_val t 0 (by decide) rfl
    have e1 : (grid0.coords t 1).val = t.val / 8 % 4 := Pipeline.Grid.coords_val t 1 (by decide) rfl
    have e2 : (grid0.coords t 2).val = t.val / 1 % 8 := Pipeline.Grid.coords_val t 2 (by decide) rfl
    simp only [cond0_0, e0, e1, e2]
    word_cmp
   : ∀ t : Fin grid0.N, cond0_0 (grid0.coords t) ↔ t.val % 8 = 0)

/-! ## The kernel body on any staging memrefs: a subtype the run finds -/

/-- One staging buffer of output window 5, through which its contents are stated (`View.read_writes_of_cover`: the
    choice does not matter). -/
abbrev VO0_5 : View sig .tc .vmem S1x512x128 .bf16 := (Memref.whole cc0_stg5_0 : Memref sig .tc .vmem S1x512x128 .bf16).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x128 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1x128 .f32 := Memref.whole cc0_scratch0
/-- The scratch `arg9` the kernel carries between points, as a view: what it holds is stated through it. -/
abbrev VS0_0 : View sig .tc .vmem S1x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.KernelIdeal.Body.lean ====
/-
The attention kernel's body run once: from its windows' buffers at their blocks it leaves the output block at
`attOut` of them and the scratch row at the largest absolute key of each column (computed when the point opens a new
pair of batch and head, carried from the point before otherwise).
-/
module

public import proofs.«01_k».proof.Proof.KernelIdeal.Points
public import Idealize.ShloMosaic.Lib.Pipeline.ValueKit
public import Idealize.ShloMosaic.Lib.VecWindow

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The largest shifted score the block of queries could reach is within the limit under which the body subtracts the
    Cauchy-like bound instead of the row maximum. -/
def shiftFits (q : Vec F S1x512x128 .bf16) (km : Vec F S1x128 .f32) : BitVec 1 :=
  Scalar.cmpf .ole (k0_pay15 q km) (Scalar.ofBits .f32 0x42480000#32)

/-- The one word of lambda's row. -/
def lamWord (lam : Vec F S1 .f32) : Elt F .f32 := lam (Shape.Idx.first (by decide))

theorem lamWord_eq (lam : Vec F S1 .f32) (h) : View.ld lam (Rect.unit ![0] ![1] inb_S1_S1_0) (Shape.Idx.first h) = lamWord lam :=
  congrFun (View.ld_unit_lit' (S := S1) inb_S1_S1_0 lam (by decide)) (Shape.Idx.first h)

/-- What one point leaves in the output block, of lambda, the query, key and value blocks, the gain and the scratch row. -/
def attOut (lam : Vec F S1 .f32) (q : Vec F S1x512x128 .bf16) (k : Vec F S1x4096x128 .bf16) (v : Vec F S1x4096x128 .bf16)
    (g : Vec F S1x128 .f32) (km : Vec F S1x128 .f32) : Vec F S1x512x128 .bf16 :=
  if shiftFits q km = 1#1 then
    k0_pay1 (k0_pay3 (k0_pay6 k) (k0_pay7 v) (k0_pay9 q) k0_pay10 k0_pay11 (k0_pay13 q km) (k0_pay14 q km) (lamWord lam) g)
  else k0_pay2 (k0_pay4 (k0_pay6 k) (k0_pay7 v) (k0_pay9 q) k0_pay10 k0_pay11 (lamWord lam) g) k0_pay5

/-- Two guarded stores of the whole block, one of which is taken: the block is left at the taken one's payload. -/
theorem read_two_stores (w : View sig .tc .vmem S1x512x128 .bf16) (f : w.ty.Contents (Elt F)) (b : BitVec 1) (P1 P2 : Vec F S1x512x128 .bf16) :
    View.read (Elt F) w
      (if _h : Scalar.cmpi .ne (Scalar.extui (Scalar.xori b 1#1) : BitVec 32) 0#32 = 1#1 then
        w.writes (Elt F)
          (if _h : Scalar.cmpi .ne (Scalar.extui b : BitVec 32) 0#32 = 1#1 then w.writes (Elt F) f [⟨Rect.unit ![0, 0, 0] S1x512x128.size inb_S1x512x128_S1x512x128_0_0_0, P1⟩] else f)
          [⟨Rect.unit ![0, 0, 0] S1x512x128.size inb_S1x512x128_S1x512x128_0_0_0, P2⟩]
      else if _h : Scalar.cmpi .ne (Scalar.extui b : BitVec 32) 0#32 = 1#1 then w.writes (Elt F) f [⟨Rect.unit ![0, 0, 0] S1x512x128.size inb_S1x512x128_S1x512x128_0_0_0, P1⟩] else f)
    = if b = 1#1 then P1 else P2 := by
  rcases (by revert b; decide : b = 1#1 ∨ b = 0#1) with rfl | rfl
  · rw [dif_neg (by decide), dif_pos (by decide), if_pos rfl, View.read_writes_full]
  · rw [dif_pos (by decide), if_neg (by decide), View.read_writes_full]

/-- The body at a point that opens a new batch and head: it fills the scratch row from the keys first. -/
theorem body_first (c : Dev nD) (i : grid0.Coords) (arg3 : Memref sig .tc .smem S1 .f32) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S1x128 .f32) (harg9 : arg9.IsWhole) (hc0 : cond0_0 i)
    (x0 : Vec F S1 .f32) (x1 : Vec F S1x512x128 .bf16) (x2 : Vec F S1x4096x128 .bf16) (x3 : Vec F S1x4096x128 .bf16) (x4 : Vec F S1x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (attOut x0 x1 x2 x3 x4 (k0_pay8 x2)) ∗ owns (c : Thread nD τ) arg9 fullShare (k0_pay8 x2)) -∗ K ⟨⟩))
      ⊢ wp frame (wpE (defs₀ (F := F)) Variants.none c none) E (cc0_diff_attention i arg3 harg3 arg4 harg4 arg5 harg5 arg6 harg6 arg7 harg7 arg8 harg8 arg9 harg9) K := by
  simp only [cc0_diff_attention_eq_skeleton]; unfold cc0_diff_attention_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    frame_out
    rw [lamWord_eq]
    exact read_two_stores arg8.view f5 _ _ _
  iexists _; isplitr
  swap; · iexact HS0
  ipureintro
  frame_out
  exact View.read_writes_full arg9.view fs0 inb_S1x128_S1x128_0_0 _ []

/-- The body at any other point: the scratch row is what the point before left. -/
theorem body_next (c : Dev nD) (i : grid0.Coords) (arg3 : Memref sig .tc .smem S1 .f32) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S1x128 .f32) (harg9 : arg9.IsWhole) (hc0 : ¬cond0_0 i)
    (x0 : Vec F S1 .f32) (x1 : Vec F S1x512x128 .bf16) (x2 : Vec F S1x4096x128 .bf16) (x3 : Vec F S1x4096x128 .bf16) (x4 : Vec F S1x128 .f32) (km : Vec F S1x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare km
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (attOut x0 x1 x2 x3 x4 (km)) ∗ owns (c : Thread nD τ) arg9 fullShare (km)) -∗ K ⟨⟩))
      ⊢ wp frame (wpE (defs₀ (F := F)) Variants.none c none) E (cc0_diff_attention i arg3 harg3 arg4 harg4 arg5 harg5 arg6 harg6 arg7 harg7 arg8 harg8 arg9 harg9) K := by
  simp only [cc0_diff_attention_eq_skeleton]; unfold cc0_diff_attention_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg9.eq_unread hfs0
  obtain rfl := harg3.eq_unread hf0; obtain rfl := harg4.eq_unread hf1; obtain rfl := harg5.eq_unread hf2; obtain rfl := harg6.eq_unread hf3; obtain rfl := harg7.eq_unread hf4
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    frame_out
    rw [lamWord_eq]
    exact read_two_stores arg8.view f5 _ _ _
  iexists _; isplitr; · ipureintro; exact harg9.read_unread _
  iexact HS0

end Cert.KernelIdeal.Gen

end
-- ==== Proof.KernelIdeal.AttFrame.lean ====
/-
The attention kernel's launch: what its body leaves at each grid point, the proof data, the body obligation, the run,
and from it the frame (the argument arrays unchanged, the semaphore counters at zero).
-/
module

public import proofs.«01_k».proof.Proof.KernelIdeal.Body
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The scratch row after point `t`: the largest absolute key of each column, over the keys of the point's batch and head. -/
def kmAt (c : Dev nD) (t : Fin cfg0.N) : Vec F S1x128 .f32 := k0_pay8 (iblk m c 2 t)

/-- The output block after point `t`. -/
def outAt (c : Dev nD) (t : Fin cfg0.N) : Vec F S1x512x128 .bf16 :=
  attOut (iblk m c 0 t) (iblk m c 1 t) (iblk m c 2 t) (iblk m c 3 t) (iblk m c 4 t) (kmAt m c t)

/-- The region invariant before position `n`: before the first point the scratch at anything; afterwards the scratch at
    what the point before left in it. -/
def PhiS (c : Dev nD) : (n : ℕ) → n ≤ cfg0.N → sProp 𝕄
  | 0, _ => Pipeline.ΦA spec0 c
  | n + 1, hn => iprop(iprop(owns (c : Thread nD τ) scM0_0 fullShare (kmAt m c ⟨n, hn⟩)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the scratch at that point's contents. -/
theorem PhiS_succ (c : Dev nD) (n : ℕ) (hn : n < cfg0.N) :
    PhiS m c (n + 1) hn = iprop(iprop(owns (c : Thread nD τ) scM0_0 fullShare (kmAt m c ⟨n, hn⟩)) ∗ (∃ r, prngReg c r)) := rfl

/-- Before a point that is not the first: the scratch at what the point before left. -/
theorem PhiS_pos (c : Dev nD) (n : ℕ) (h : n ≤ cfg0.N) (hz : n ≠ 0) :
    PhiS m c n h = iprop(iprop(owns (c : Thread nD τ) scM0_0 fullShare (kmAt m c ⟨n - 1, by omega⟩)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outAt`; the invariant `PhiS`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- A point that opens no new batch and head finds the keys of the point before: the scratch row is the one it needs. -/
theorem kmAt_prev (c : Dev nD) (t : Fin cfg0.N) (h0 : ¬ t.val % 8 = 0) :
    kmAt m c ⟨t.val - 1, Nat.lt_of_le_of_lt (Nat.sub_le _ _) t.isLt⟩ = kmAt m c t := by
  have hf : (cfg0.win 2).fetch t = false := by
    rw [← Bool.not_eq_true]; exact fun h => h0 ((fetch0_2 t).mp h)
  obtain ⟨ht, hix⟩ := (cfg0.win 2).index_eq_of_fetch rfl t hf
  have key := (dats m 0 c).fetched_congr 2 hix.symm rfl
  have hb : ∀ s : Fin cfg0.N, ∀ d, (dats m 0 c).fetched 2 s d = iblk m c 2 s := fun s d => by
    unfold Dat.fetched Dat.blockOf iblk; rw [A_eq]; try rfl
  unfold kmAt
  rw [← hb t (iblk m c 2 t), ← hb ⟨t.val - 1, _⟩ (iblk m c 2 t)]
  exact congrArg _ (key _)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 3200000 in
/-- The body at any point: the inputs' buffers hold their blocks, the point opens a new batch and head or not, and the run
    lemma of that case applies; the scratch comes from the invariant and goes back into it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  by_cases h0 : t.val % 8 = 0
  · by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩⟩
      iapply (body_first c (grid0.coords t) _ (hs0_0 t) _ (hs0_1 t) _ (hs0_2 t) _ (hs0_3 t) _ (hs0_4 t) _ (hs0_5 t) _ (Memref.isWhole_whole _) ((hcond0_0 t).mpr h0) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (body_first c (grid0.coords t) _ (hs0_0 t) _ (hs0_1 t) _ (hs0_2 t) _ (hs0_3 t) _ (hs0_4 t) _ (hs0_5 t) _ (Memref.isWhole_whole _) ((hcond0_0 t).mpr h0) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
  · by_cases hz : t.val = 0
    · exact absurd (by rw [hz]) h0
    · rw [PhiS_castSucc m c t, PhiS_pos m c _ _ hz, kmAt_prev m c t h0]
      iintro ⟨⟨HS0, Hg⟩, Ho, ⟨%d0, H0⟩, ⟨%d1, H1⟩, ⟨%d2, H2⟩, ⟨%d3, H3⟩, ⟨%d4, H4⟩, ⟨%d5, H5⟩⟩
      iapply (body_next c (grid0.coords t) _ (hs0_0 t) _ (hs0_1 t) _ (hs0_2 t) _ (hs0_3 t) _ (hs0_4 t) _ (hs0_5 t) _ (Memref.isWhole_whole _) (fun h => h0 ((hcond0_0 t).mp h)) (iblk m c 0 t) (iblk m c 1 t) (iblk m c 2 t) (iblk m c 3 t) (iblk m c 4 t) (kmAt m c t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Gen

end
-- ==== Proof.KernelIdeal.Softmax.lean ====
/-
Sums, maxima and quotients of real numbers among the extended reals, and the two components of a head's lanes.
-/
module

public import proofs.«01_k».proof.KernelIdeal
public import Idealize.ShloMosaic.Lib.Pointwise

@[expose] public section

noncomputable section

open Idealize.ShloMosaic Idealize.SL.Sem

namespace Cert.KernelIdeal.Value

/-! ## Sums and maxima of real numbers among the extended reals -/

/-- A sum of reals is a real. -/
theorem sum_real {n : ℕ} (f : Fin n → ℝ) : ∑ j, (f j : EReal) = ((∑ j, f j : ℝ) : EReal) := by
  induction (Finset.univ : Finset (Fin n)) using Finset.induction_on with
  | empty => simp
  | insert a s ha ih => rw [Finset.sum_insert ha, Finset.sum_insert ha, ih, EReal.coe_add]

/-- The greatest of finitely many reals, started from the least extended real, is a real. -/
theorem fold_max_real {n : ℕ} (hn : 0 < n) (f : Fin n → ℝ) :
    ∃ M : ℝ, Finset.fold max (⊥ : EReal) (fun j => (f j : EReal)) Finset.univ = (M : EReal) := by
  have key : ∀ s : Finset (Fin n), s.Nonempty → ∃ M : ℝ, Finset.fold max (⊥ : EReal) (fun j => (f j : EReal)) s = (M : EReal) := by
    intro s hs
    induction hs using Finset.Nonempty.cons_induction with
    | singleton a => exact ⟨f a, by simp⟩
    | cons a s ha _ ih =>
      obtain ⟨M, hM⟩ := ih
      exact ⟨max (f a) M, by rw [Finset.fold_cons, hM]; exact (EReal.coe_strictMono.monotone.map_max).symm⟩
  exact key _ ⟨⟨0, hn⟩, Finset.mem_univ _⟩

/-- Division of a real by a nonzero real. -/
theorem div_real (a : ℝ) {b : ℝ} (hb : b ≠ 0) : Ideal.div (a : EReal) (b : EReal) = ((a / b : ℝ) : EReal) := by
  rw [Ideal.div_coe hb, ← EReal.coe_mul, mul_one_div]

/-! ## The two heads of a lane block -/

/-- The kernel's lane mask is set on the first 64 of the 128 lanes … -/
theorem mask_low : ∀ e : Fin 64, IntOp.cmpi CmpIPredicate.slt (BitVec.ofNat 32 e.val) 64#32 = 1#1 := by decide
/-- … and clear on the others. -/
theorem mask_high : ∀ e : Fin 64, IntOp.cmpi CmpIPredicate.slt (BitVec.ofNat 32 (64 + e.val)) 64#32 = 0#1 := by decide

theorem split_lanes (f : Fin 128 → EReal) :
    ∑ x, f x = ∑ e : Fin 64, f ⟨e.val, by omega⟩ + ∑ e : Fin 64, f ⟨64 + e.val, by omega⟩ :=
  Fin.sum_univ_add (a := 64) (b := 64) f

/-- A sum of the masked lanes is the sum over the first component. -/
theorem sum_low (f : Fin 128 → EReal) :
    ∑ x : Fin 128, Scalar.select (IntOp.cmpi CmpIPredicate.slt (BitVec.ofNat 32 ↑x) 64#32) (f x) 0 = ∑ e : Fin 64, f ⟨e.val, by omega⟩ := by
  rw [split_lanes]
  simp [mask_low, mask_high, Scalar.select]

/-- A sum of the lanes outside the mask is the sum over the second component. -/
theorem sum_high (f : Fin 128 → EReal) :
    ∑ x : Fin 128, Scalar.select (IntOp.cmpi CmpIPredicate.slt (BitVec.ofNat 32 ↑x) 64#32) 0 (f x) = ∑ e : Fin 64, f ⟨64 + e.val, by omega⟩ := by
  rw [split_lanes]
  simp [mask_low, mask_high, Scalar.select]

/-- The scores' dot product over the first component's 64 features. -/
def lowDot (a b : Fin 128 → EReal) : EReal := ∑ e : Fin 64, a ⟨e.val, by omega⟩ * b ⟨e.val, by omega⟩
/-- The scores' dot product over the second component's 64 features. -/
def highDot (a b : Fin 128 → EReal) : EReal := ∑ e : Fin 64, a ⟨64 + e.val, by omega⟩ * b ⟨64 + e.val, by omega⟩

/-- The root-mean-square normalisation of a head's row, its gain and the constant factor. -/
def rmsOut (a : Fin 128 → EReal) (g : EReal) (d : Fin 128) : EReal :=
  a d * Ideal.rsqrt (Ideal.div (∑ e, a e * a e) (Ideal.ofBits FTy.f32 1124073472#32) + Ideal.ofBits FTy.f32 897988541#32) * g
    * Ideal.ofBits FTy.f32 1061997773#32

end Cert.KernelIdeal.Value
-- ==== Proof.KernelIdeal.Payload.lean ====
/-
The attention body's arithmetic read at one entry: each payload at a row and a lane.
-/
module

public import proofs.«01_k».proof.Proof.KernelIdeal.Softmax
public import proofs.«01_k».proof.Proof.KernelIdeal.Body

@[expose] public section

set_option maxRecDepth 16384

noncomputable section

open Idealize.ShloMosaic Idealize.ShloMosaic.TcCoe Idealize.SL.Sem

namespace Cert.KernelIdeal.Value

open Cert.KernelIdeal Cert.KernelIdeal.Gen

/-! ## The payloads at an entry -/

/-- The first component's score of a query row against a key row, over the masked lanes. -/
def lowScore (q : FVec Ideal S512x128 .bf16) (k : FVec Ideal S4096x128 .bf16) (r : Fin 512) (j : Fin 4096) : EReal :=
  ∑ x : Fin 128, Scalar.select (IntOp.cmpi CmpIPredicate.slt (BitVec.ofNat 32 ↑x) 64#32) (q (ix2 r x) * k (ix2 j x)) 0

/-- The second component's score, over the lanes outside the mask. -/
def highScore (q : FVec Ideal S512x128 .bf16) (k : FVec Ideal S4096x128 .bf16) (r : Fin 512) (j : Fin 4096) : EReal :=
  ∑ x : Fin 128, Scalar.select (IntOp.cmpi CmpIPredicate.slt (BitVec.ofNat 32 ↑x) 64#32) 0 (q (ix2 r x) * k (ix2 j x))

/-- A weighted average under shifted powers of two, as the kernel takes it. -/
def avg (s v : Fin 4096 → EReal) (c : EReal) : EReal :=
  Ideal.div (∑ j, Ideal.exp2 (s j - c) * v j) (∑ j, Ideal.exp2 (s j - c))

/-- The branch with the bounded shift. -/
theorem pay3_apply (k v : FVec Ideal S4096x128 .bf16) (q : FVec Ideal S512x128 .bf16) (c₀ c₁ : FVec Ideal S512x1 .f32)
    (lam : Ideal .f32) (g : FVec Ideal S1x128 .f32) (r : Fin 512) (d : Fin 128) :
    k0_pay3 (F := Ideal) k v q k0_pay10 k0_pay11 c₀ c₁ lam g (ix2 r d)
      = rmsOut (fun e => avg (lowScore q k r) (fun j => v (ix2 j e)) (c₀ (ix2 r 0))
          - lam * avg (highScore q k r) (fun j => v (ix2 j e)) (c₁ (ix2 r 0))) (g (ix2 0 d)) d := by
  unfold rmsOut avg lowScore highScore
  pointwise [k0_pay3, k0_pay10, k0_pay11]
  rfl

/-- The greatest of a row of scores, as the kernel's row maximum takes it. -/
def top (s : Fin 4096 → EReal) : EReal := Finset.fold max (Ideal.ofBits FTy.f32 4286578688#32) s Finset.univ

/-- The branch with the exact row maximum. -/
theorem pay4_apply (k v : FVec Ideal S4096x128 .bf16) (q : FVec Ideal S512x128 .bf16)
    (lam : Ideal .f32) (g : FVec Ideal S1x128 .f32) (r : Fin 512) (d : Fin 128) :
    k0_pay4 (F := Ideal) k v q k0_pay10 k0_pay11 lam g (ix2 r d) * Ideal.ofBits FTy.f32 1061997773#32
      = rmsOut (fun e => avg (lowScore q k r) (fun j => v (ix2 j e)) (top (lowScore q k r))
          - lam * avg (highScore q k r) (fun j => v (ix2 j e)) (top (highScore q k r))) (g (ix2 0 d)) d := by
  unfold rmsOut avg top lowScore highScore
  pointwise [k0_pay4, k0_pay10, k0_pay11]
  rfl

end Cert.KernelIdeal.Value
-- ==== Proof.Filter.Row.lean ====
/-
One row of the filters' network: two layers of sines of a position's features and one linear layer, and the product in three
half-precision parts that the kernel takes for each. Both the kernel's blocks and the reference's arrays are these functions.
-/
module

public import Idealize.ShloMosaic.Lib.IdealHost

@[expose] public section

noncomputable section

open Idealize.ShloMosaic

namespace Cert.FilterRow

/-- A product in three parts, as the kernel computes it. -/
def dot3 {n : ℕ} (x w : Fin n → EReal) : EReal :=
  ∑ k, x k * w k + (∑ k, x k * (w k - w k) + ∑ k, (x k - x k) * w k)

/-- A unit of a layer of sines, its product as given. -/
def unit (p b f : EReal) : EReal := Ideal.sin (f * (p + b))

theorem real_sub_self {a : EReal} (h : ∃ r : ℝ, a = r) : a - a = 0 := by
  obtain ⟨r, rfl⟩ := h
  rw [← EReal.coe_sub, sub_self, EReal.coe_zero]

/-- A sine is a real number or the least element. -/
theorem sin_cases (x : EReal) : Ideal.sin x = ⊥ ∨ ∃ r : ℝ, Ideal.sin x = r := by
  induction x using EReal.rec with
  | bot => exact Or.inl rfl
  | top => exact Or.inl rfl
  | coe r => exact Or.inr ⟨Real.sin r, rfl⟩

/-- One term of the third part vanishes beside the first part's. -/
theorem term_eq {x w : EReal} (hx : x = ⊥ ∨ ∃ r : ℝ, x = r) (hw : ∃ r : ℝ, w = r) : x * w + (x - x) * w = x * w := by
  rcases hx with rfl | h
  · obtain ⟨r, rfl⟩ := hw
    rw [show (⊥ : EReal) - ⊥ = ⊥ by rw [sub_eq_add_neg, EReal.bot_add]]
    rcases lt_trichotomy r 0 with h | h | h
    · rw [EReal.bot_mul_coe_of_neg h]; rfl
    · rw [h, EReal.coe_zero, mul_zero, add_zero]
    · rw [EReal.bot_mul_coe_of_pos h]; rfl
  · rw [real_sub_self h, zero_mul, add_zero]

/-- The product in three parts is the product, where the weights are real and no factor is the greatest element. -/
theorem dot3_eq {n : ℕ} {x w : Fin n → EReal} (hx : ∀ k, x k = ⊥ ∨ ∃ r : ℝ, x k = r) (hw : ∀ k, ∃ r : ℝ, w k = r) :
    dot3 x w = ∑ k, x k * w k := by
  unfold dot3
  have h0 : ∀ k, x k * (w k - w k) = 0 := fun k => by rw [real_sub_self (hw k), mul_zero]
  simp only [h0, Finset.sum_const_zero, zero_add]
  rw [← Finset.sum_add_distrib]
  exact Finset.sum_congr rfl fun k _ => term_eq (hx k) (hw k)

/-- Not a real number. -/
def Wide (a : EReal) : Prop := a = ⊤ ∨ a = ⊥

theorem wide_or_real (a : EReal) : Wide a ∨ ∃ r : ℝ, a = r := by
  induction a using EReal.rec with
  | bot => exact Or.inl (Or.inr rfl)
  | top => exact Or.inl (Or.inl rfl)
  | coe r => exact Or.inr ⟨r, rfl⟩

theorem not_wide_real {a : EReal} (h : Wide a) (h' : ∃ r : ℝ, a = r) : False := by
  obtain ⟨r, rfl⟩ := h'
  rcases h with h | h
  · exact EReal.coe_ne_top r h
  · exact EReal.coe_ne_bot r h

theorem wide_add {a : EReal} (h : Wide a) (b : EReal) : Wide (a + b) := by
  rcases h with rfl | rfl
  · by_cases hb : b = ⊥
    · exact Or.inr (by rw [hb, EReal.add_bot])
    · exact Or.inl (EReal.top_add_of_ne_bot hb)
  · exact Or.inr (EReal.bot_add b)

theorem wide_mul {a b : EReal} (h : Wide a) (hb : b ≠ 0) : Wide (b * a) := by
  rcases lt_or_gt_of_ne hb with hn | hp
  · rcases h with rfl | rfl
    · exact Or.inr (EReal.mul_top_of_neg hn)
    · exact Or.inl (EReal.mul_bot_of_neg hn)
  · rcases h with rfl | rfl
    · exact Or.inl (EReal.mul_top_of_pos hp)
    · exact Or.inr (EReal.mul_bot_of_pos hp)

/-- A factor beside a difference of equals: the product vanishes where the product of the two factors is real. -/
theorem mul_sub_self {x w : EReal} (h : ∃ r : ℝ, x * w = r) : x * (w - w) = 0 := by
  rcases wide_or_real w with hw | hw
  · by_cases hx : x = 0
    · rw [hx, zero_mul]
    · exact (not_wide_real (wide_mul hw hx) h).elim
  · rw [real_sub_self hw, mul_zero]

/-- The terms of a real sum are real. -/
theorem term_real {n : ℕ} {f : Fin n → EReal} (h : ∃ r : ℝ, ∑ k, f k = r) (k : Fin n) : ∃ r : ℝ, f k = r := by
  rcases wide_or_real (f k) with hk | hk
  · rw [← Finset.add_sum_erase Finset.univ f (Finset.mem_univ k)] at h
    exact (not_wide_real (wide_add hk _) h).elim
  · exact hk

/-- The product in three parts is the product, or neither is real. -/
theorem dot3_or {n : ℕ} (x w : Fin n → EReal) : dot3 x w = ∑ k, x k * w k ∨ Wide (dot3 x w) ∧ Wide (∑ k, x k * w k) := by
  rcases wide_or_real (∑ k, x k * w k) with h | h
  · exact Or.inr ⟨wide_add h _, h⟩
  · refine Or.inl ?_
    unfold dot3
    have e1 : ∀ k, x k * (w k - w k) = 0 := fun k => mul_sub_self (term_real h k)
    have e2 : ∀ k, (x k - x k) * w k = 0 := fun k => by
      rw [mul_comm]
      exact mul_sub_self (by rw [mul_comm]; exact term_real h k)
    simp only [e1, e2, Finset.sum_const_zero, add_zero]

theorem sin_wide {a : EReal} (h : Wide a) : Ideal.sin a = ⊥ := by
  rcases h with rfl | rfl <;> rfl

/-- A unit takes the product in three parts as the product, whatever the factors. -/
theorem unit_dot3 {n : ℕ} (x w : Fin n → EReal) (b f : EReal) : unit (dot3 x w) b f = unit (∑ k, x k * w k) b f := by
  rcases dot3_or x w with h | ⟨h1, h2⟩
  · rw [h]
  · unfold unit
    by_cases hf : f = 0
    · rw [hf, zero_mul, zero_mul]
    · rw [sin_wide (wide_mul (wide_add h1 b) hf), sin_wide (wide_mul (wide_add h2 b) hf)]

/-- A sum whose terms vanish from the 34th on. -/
theorem sum_head (f : Fin 128 → EReal) (h : ∀ k : Fin 128, 33 ≤ k.val → f k = 0) : ∑ k, f k = ∑ k : Fin 33, f ⟨k.val, by omega⟩ := by
  have e : ∑ k : Fin (33 + 95), f k = ∑ k : Fin 33, f ⟨k.val, by omega⟩ + ∑ k : Fin 95, f ⟨33 + k.val, by omega⟩ := by
    rw [Fin.sum_univ_add]; rfl
  refine e.trans ?_
  have z : ∑ k : Fin 95, f ⟨33 + k.val, by omega⟩ = 0 := Finset.sum_eq_zero fun k _ => h _ (by show 33 ≤ 33 + k.val; omega)
  rw [z, add_zero]

/-- A unit of the first layer, from the position's features. -/
def layer1 (z : Fin 33 → EReal) (w1 : Fin 33 → Fin 64 → EReal) (b1 f1 : Fin 64 → EReal) (j : Fin 64) : EReal :=
  unit (∑ k, z k * w1 k j) (b1 j) (f1 j)

/-- A unit of the second layer. -/
def layer2 (h : Fin 64 → EReal) (w2 : Fin 64 → Fin 64 → EReal) (b2 f2 : Fin 64 → EReal) (j : Fin 64) : EReal :=
  unit (∑ k, h k * w2 k j) (b2 j) (f2 j)

/-- A filter's tap, from the second layer's units and the decay. -/
def tap (h w3 : Fin 64 → EReal) (t d : EReal) : EReal := (∑ k, h k * w3 k) * Ideal.exp (-t * d)

/-- A filter's tap, as the kernel computes it. -/
def tap3 (zz : Fin 128 → EReal) (w1 : Fin 128 → Fin 64 → EReal) (b1 f1 : Fin 64 → EReal) (w2 : Fin 64 → Fin 64 → EReal) (b2 f2 : Fin 64 → EReal)
    (w3 : Fin 64 → EReal) (d : EReal) : EReal :=
  dot3 (fun j => unit (dot3 (fun i => unit (dot3 zz fun k => w1 k i) (b1 i) (f1 i)) fun i => w2 i j) (b2 j) (f2 j)) w3
    * (Ideal.exp (-zz 0 * d) * zz 33)

/-- A row of zeros gives a zero tap. -/
theorem tap3_zero (zz : Fin 128 → EReal) (w1 : Fin 128 → Fin 64 → EReal) (b1 f1 : Fin 64 → EReal) (w2 : Fin 64 → Fin 64 → EReal) (b2 f2 : Fin 64 → EReal)
    (w3 : Fin 64 → EReal) (d : EReal) (h : zz 33 = 0) : tap3 zz w1 b1 f1 w2 b2 f2 w3 d = 0 := by
  unfold tap3
  rw [h, mul_zero, mul_zero]

/-- The kernel's tap of a position's row, where the last layer's weights are real. -/
theorem tap3_eq (zz : Fin 128 → EReal) (w1 : Fin 128 → Fin 64 → EReal) (b1 f1 : Fin 64 → EReal) (w2 : Fin 64 → Fin 64 → EReal) (b2 f2 : Fin 64 → EReal)
    (w3 : Fin 64 → EReal) (d : EReal) (z : Fin 33 → EReal) (u1 : Fin 33 → Fin 64 → EReal)
    (hz : ∀ k : Fin 33, zz ⟨k.val, by omega⟩ = z k) (hm : zz 33 = 1)
    (hu : ∀ (k : Fin 33) j, w1 ⟨k.val, by omega⟩ j = u1 k j) (hu0 : ∀ (k : Fin 128) j, 33 ≤ k.val → w1 k j = 0) (r3 : ∀ k, ∃ r : ℝ, w3 k = r) :
    tap3 zz w1 b1 f1 w2 b2 f2 w3 d = tap (layer2 (layer1 z u1 b1 f1) w2 b2 f2) w3 (z 0) d := by
  have e1 : ∀ i, unit (dot3 zz fun k => w1 k i) (b1 i) (f1 i) = layer1 z u1 b1 f1 i := fun i => by
    rw [unit_dot3, sum_head _ fun k hk => by rw [hu0 k i hk, mul_zero]]
    unfold layer1
    exact congrArg (fun s => unit s (b1 i) (f1 i)) (Finset.sum_congr rfl fun k _ => by rw [hz k, hu k i])
  have e2 : ∀ j, unit (dot3 (layer1 z u1 b1 f1) fun i => w2 i j) (b2 j) (f2 j) = layer2 (layer1 z u1 b1 f1) w2 b2 f2 j := fun j => by
    rw [unit_dot3]
    rfl
  have h0 : zz 0 = z 0 := hz 0
  unfold tap3 tap
  simp only [e1, e2]
  rw [dot3_eq (fun k => by unfold layer2 unit; exact sin_cases _) r3, hm, mul_one, h0]

end Cert.FilterRow
-- ==== Proof.Merge.Row.lean ====
/-
One row of the merge: the gated sum of the two branches' projections, the residual stream after the output projection, and
its normalised row. Both the kernels' blocks and the references' arrays are these functions of their rows.
-/
module

public import Idealize.ShloMosaic.Lib.Pointwise
public import Idealize.ShloMosaic.Lib.BitcastPair
public import Idealize.ShloMosaic.Lib.BitcastConvert

@[expose] public section

noncomputable section

open Idealize.ShloMosaic

namespace Cert.MergeRow

/-- The bf16 number in the low (`p = 0`) or the high (`p = 1`) half of a word. -/
def half (w : BitVec 32) (p : ℕ) : EReal := Ideal.ofBits FTy.bf16 (w.extractLsb' (16 * p) 16)

/-- One lane of the gated sum, from a row of each branch and a column of each projection. -/
def gated (yh ya who wao : Fin 512 → EReal) (gh ga : EReal) : EReal :=
  Ideal.logistic gh * ∑ x, yh x * who x + Ideal.logistic ga * ∑ x, ya x * wao x

/-- One lane of the residual stream after the output projection. -/
def stream (x : EReal) (mg w : Fin 1024 → EReal) : EReal := x + ∑ k, mg k * w k

/-- One lane of the stream's row after the norm. -/
def normed (xs : Fin 1024 → EReal) (g : EReal) (d : Fin 1024) : EReal :=
  xs d * Ideal.rsqrt (Ideal.div (∑ x, xs x * xs x) (Ideal.ofBits FTy.f32 1149239296#32) + Ideal.ofBits FTy.f32 897988541#32) * g

theorem gated_congr {yh ya who wao yh' ya' who' wao' : Fin 512 → EReal} {gh ga gh' ga' : EReal} (h0 : ∀ x, yh x = yh' x)
    (h1 : ∀ x, ya x = ya' x) (h2 : ∀ x, who x = who' x) (h3 : ∀ x, wao x = wao' x) (h4 : gh = gh') (h5 : ga = ga') :
    gated yh ya who wao gh ga = gated yh' ya' who' wao' gh' ga' := by
  rw [funext h0, funext h1, funext h2, funext h3, h4, h5]

theorem stream_congr {x x' : EReal} {mg w mg' w' : Fin 1024 → EReal} (h0 : x = x') (h1 : ∀ k, mg k = mg' k) (h2 : ∀ k, w k = w' k) :
    stream x mg w = stream x' mg' w' := by
  rw [h0, funext h1, funext h2]

/-- Words of rows `2 i` and `2 i + 1`, read at sixteen bits: row `r` is half `r % 2` of word row `r / 2`. -/
theorem half_of_bitcast (x : (⟨2, ![256, 128]⟩ : Shape).Idx → BitVec 32) (h : (⟨2, ![256, 128]⟩ : Shape).Bitcasts 32 ⟨2, ![512, 128]⟩ 16)
    (r : Fin 512) (l : Fin 128) :
    Ideal.ofBits FTy.bf16 (bitcast ⟨2, ![512, 128]⟩ 16 x h (ix2 r l)) = half (x (ix2 ⟨r.val / 2, by omega⟩ l)) (r.val % 2) := by
  rw [bitcast_32_16]
  refine congrArg (fun i => Ideal.ofBits FTy.bf16 ((x i).extractLsb' (16 * (r.val % 2)) 16)) ?_
  funext a
  match a with
  | ⟨0, _⟩ => exact Fin.ext (Shape.Bitcasts.srcIdx_row h _ _ _ 0 rfl)
  | ⟨1, _⟩ => exact Fin.ext (Shape.Bitcasts.srcIdx_other h _ _ _ 1 (by decide))

end Cert.MergeRow
-- ==== Proof.Inproj.Row.lean ====
/-
One row of the input projections: a column of the projection of the normalised row, a lane of a head after its norm, its rotation,
and the sums over a head's half of a 128-lane tile. Both the kernel's blocks and the reference's arrays are these functions.
-/
module

public import proofs.«01_k».proof.Proof.Merge.Row
public import Idealize.ShloMosaic.Lib.IdealHost

@[expose] public section

noncomputable section

open Idealize.ShloMosaic

namespace Cert.InprojRow

open Cert.MergeRow

/-- One column of the projection of a row after the norm. -/
def proj (xs g w : Fin 1024 → EReal) : EReal := ∑ k, normed xs (g k) k * w k

/-- The norm's small constant. -/
def eps : EReal := Ideal.ofBits FTy.f32 897988541#32

/-- A lane of a tile of two heads after the norm, as the kernel computes it: the squares' sums over the lane's head are taken against
the group matrix, in two parts. -/
def tileUnit (p : Fin 128 → EReal) (grp : Fin 128 → Fin 128 → EReal) (g : Fin 128 → EReal) (l : Fin 128) : EReal :=
  p l * Ideal.rsqrt ((∑ x, p x * p x * grp x l + ∑ x, (p x * p x - p x * p x) * grp x l) * Ideal.ofBits FTy.f32 1015021568#32 + eps) * g l

/-- A lane of the tile turned by the position's angle, as the kernel computes it: the lane's partner is 32 lanes up or down. -/
def tileTurn (u : Fin 128 → EReal) (b : BitVec 1) (c s : EReal) (l : Fin 128) : EReal :=
  u l * c + Scalar.select (α := EReal) b (u ⟨(l.val + 128 - 96) % 128, by omega⟩) (u ⟨(l.val + 128 - 32) % 128, by omega⟩) * s

/-- A lane of one head after the norm. -/
def headUnit (p : Fin 64 → EReal) (g : EReal) (d : Fin 64) : EReal :=
  p d * Ideal.rsqrt (Ideal.div (∑ x, p x * p x) (Ideal.ofBits FTy.f32 1115684864#32) + eps) * g

/-- A lane of one head turned by the position's angle. -/
def rope (u : Fin 64 → EReal) (c s : Fin 32 → EReal) (d : Fin 64) : EReal :=
  if h : d.val < 32 then u d * c ⟨d.val, h⟩ - u ⟨32 + d.val, by omega⟩ * s ⟨d.val, h⟩
  else u ⟨d.val - 32, by omega⟩ * s ⟨d.val - 32, by omega⟩ + u ⟨32 + (d.val - 32), by omega⟩ * c ⟨d.val - 32, by omega⟩

theorem proj_congr {xs g w xs' g' w' : Fin 1024 → EReal} (h0 : ∀ k, xs k = xs' k) (h1 : ∀ k, g k = g' k) (h2 : ∀ k, w k = w' k) :
    proj xs g w = proj xs' g' w' := by
  rw [funext h0, funext h1, funext h2]

/-! ## Real numbers stay real -/

theorem real_mul {a b : EReal} (ha : ∃ r : ℝ, a = r) (hb : ∃ r : ℝ, b = r) : ∃ r : ℝ, a * b = r := by
  obtain ⟨r, rfl⟩ := ha
  obtain ⟨q, rfl⟩ := hb
  exact ⟨r * q, (EReal.coe_mul r q).symm⟩

theorem real_sum {n : ℕ} {f : Fin n → EReal} (h : ∀ k, ∃ r : ℝ, f k = r) : ∃ r : ℝ, ∑ k, f k = r := by
  refine Finset.sum_induction f (fun x => ∃ r : ℝ, x = r) ?_ ⟨0, EReal.coe_zero.symm⟩ (fun k _ => h k)
  rintro _ _ ⟨r, rfl⟩ ⟨q, rfl⟩
  exact ⟨r + q, (EReal.coe_add r q).symm⟩

theorem nonneg_sum_squares {n : ℕ} {f : Fin n → EReal} (h : ∀ k, ∃ r : ℝ, f k = r) : ∃ r : ℝ, 0 ≤ r ∧ ∑ k, f k * f k = r := by
  refine Finset.sum_induction (fun k => f k * f k) (fun x => ∃ r : ℝ, 0 ≤ r ∧ x = r) ?_ ⟨0, le_refl _, EReal.coe_zero.symm⟩ (fun k _ => ?_)
  · rintro _ _ ⟨r, hr, rfl⟩ ⟨q, hq, rfl⟩
    exact ⟨r + q, add_nonneg hr hq, (EReal.coe_add r q).symm⟩
  · obtain ⟨r, hr⟩ := h k
    exact ⟨r * r, mul_self_nonneg r, by rw [hr]; exact (EReal.coe_mul r r).symm⟩

theorem eps_pos : ∃ r : ℝ, 0 < r ∧ eps = r := by
  refine ⟨_, ?_, (by unfold eps; simp only [Ideal.ofBits, Ideal.ieee]; simp [-EReal.coe_mul]; rfl)⟩
  norm_num

theorem word_1024 : Ideal.ofBits FTy.f32 1149239296#32 = ((1024 : ℝ) : EReal) := by
  simp [Ideal.ofBits, Ideal.ieee, -EReal.coe_mul]; norm_num

theorem word_64 : Ideal.ofBits FTy.f32 1115684864#32 = ((64 : ℝ) : EReal) := by
  simp [Ideal.ofBits, Ideal.ieee, -EReal.coe_mul]; norm_num

theorem word_64th : Ideal.ofBits FTy.f32 1015021568#32 = ((1 / 64 : ℝ) : EReal) := by
  simp [Ideal.ofBits, Ideal.ieee, -EReal.coe_mul]; norm_num

theorem square_nonneg (x : EReal) : 0 ≤ x * x := by
  induction x using EReal.rec with
  | bot => simp
  | top => simp
  | coe r => rw [← EReal.coe_mul]; exact EReal.coe_nonneg.mpr (mul_self_nonneg r)

/-- A sum of squares with an infinite term is infinite. -/
theorem sum_squares_top {n : ℕ} {f : Fin n → EReal} (k : Fin n) (h : f k * f k = ⊤) : ∑ k, f k * f k = ⊤ :=
  top_le_iff.mp (h ▸ Finset.single_le_sum (f := fun k => f k * f k) (fun k _ => square_nonneg (f k)) (Finset.mem_univ k))

/-- A normalised row with real gains is real: a row with an infinite entry is zero. -/
theorem normed_real {xs : Fin 1024 → EReal} {g : EReal} (hg : ∃ r : ℝ, g = r) (d : Fin 1024) :
    ∃ r : ℝ, normed xs g d = r := by
  obtain ⟨q, hq, e'⟩ := eps_pos
  unfold normed
  by_cases hx : ∀ k, ∃ r : ℝ, xs k = r
  · refine real_mul (real_mul (hx d) ?_) hg
    obtain ⟨s, hs, e⟩ := nonneg_sum_squares hx
    rw [e, word_1024, Ideal.div_coe (by norm_num), show Ideal.ofBits FTy.f32 897988541#32 = eps from rfl, e', ← EReal.coe_mul, ← EReal.coe_add,
      Ideal.rsqrt_coe]
    have hp : 0 < s * (1 / 1024) + q := by positivity
    rw [if_neg (not_lt.mpr hp.le), if_neg hp.ne']
    exact ⟨_, rfl⟩
  · obtain ⟨k, hk⟩ := not_forall.mp hx
    have ht : xs k * xs k = ⊤ := by
      generalize xs k = x at hk
      induction x using EReal.rec with
      | bot => simp
      | top => simp
      | coe r => exact absurd ⟨r, rfl⟩ hk
    rw [sum_squares_top k ht, word_1024, Ideal.div_coe (by norm_num), show Ideal.ofBits FTy.f32 897988541#32 = eps from rfl, e',
      EReal.top_mul_coe_of_pos (by norm_num), EReal.top_add_coe, show Ideal.rsqrt ⊤ = 0 from rfl, mul_zero, zero_mul]
    exact ⟨0, EReal.coe_zero.symm⟩

/-- A column of the projection is real where the gains and the weights are. -/
theorem proj_real {xs g w : Fin 1024 → EReal} (hg : ∀ k, ∃ r : ℝ, g k = r) (hw : ∀ k, ∃ r : ℝ, w k = r) :
    ∃ r : ℝ, proj xs g w = r :=
  real_sum fun k => real_mul (normed_real (hg k) k) (hw k)

/-! ## A tile of two heads -/

/-- A sum over the tile's 128 lanes, kept where the lane lies in the half of `l`, is the sum over that half. -/
theorem sum_half (f : Fin 128 → EReal) (l : Fin 128) :
    ∑ x : Fin 128, f x * (if x.val / 64 = l.val / 64 then (1 : EReal) else 0) = ∑ d : Fin 64, f ⟨64 * (l.val / 64) + d.val, by omega⟩ := by
  rw [show (∑ x : Fin 128, f x * (if x.val / 64 = l.val / 64 then (1 : EReal) else 0))
    = ∑ x : Fin (64 + 64), f x * (if x.val / 64 = l.val / 64 then (1 : EReal) else 0) from rfl, Fin.sum_univ_add]
  by_cases h : l.val < 64
  · have e : l.val / 64 = 0 := by omega
    rw [Finset.sum_eq_zero (s := Finset.univ) (f := fun i : Fin 64 => f (Fin.natAdd 64 i) * _), add_zero]
    · refine Finset.sum_congr rfl fun d _ => ?_
      rw [if_pos (by simp only [Fin.val_castAdd]; omega), mul_one]
      exact congrArg f (Fin.ext (by simp only [Fin.val_castAdd]; omega))
    · intro d _
      rw [if_neg (by simp only [Fin.val_natAdd]; omega), mul_zero]
  · have e : l.val / 64 = 1 := by omega
    rw [Finset.sum_eq_zero (s := Finset.univ) (f := fun i : Fin 64 => f (Fin.castAdd 64 i) * _), zero_add]
    · refine Finset.sum_congr rfl fun d _ => ?_
      rw [if_pos (by simp only [Fin.val_natAdd]; omega), mul_one]
      exact congrArg f (Fin.ext (by simp only [Fin.val_natAdd]; omega))
    · intro d _
      rw [if_neg (by simp only [Fin.val_castAdd]; omega), mul_zero]

/-- The kernel's lane after the norm is the head's, where the projections are real. -/
theorem tileUnit_eq {p : Fin 128 → EReal} {grp : Fin 128 → Fin 128 → EReal} (g : Fin 128 → EReal) (hp : ∀ x, ∃ r : ℝ, p x = r)
    (hg : ∀ x l, grp x l = if x.val / 64 = l.val / 64 then 1 else 0) (l : Fin 128) :
    tileUnit p grp g l = headUnit (fun d => p ⟨64 * (l.val / 64) + d.val, by omega⟩) (g l) ⟨l.val % 64, by omega⟩ := by
  have z : ∀ x, (p x * p x - p x * p x) = 0 := fun x => by
    obtain ⟨r, hr⟩ := real_mul (hp x) (hp x)
    rw [hr, ← EReal.coe_sub, sub_self, EReal.coe_zero]
  have e : (⟨64 * (l.val / 64) + l.val % 64, by omega⟩ : Fin 128) = l := Fin.ext (by simp only []; omega)
  unfold tileUnit headUnit
  simp only [z, hg, zero_mul, Finset.sum_const_zero, add_zero, e]
  rw [sum_half (fun x => p x * p x) l, word_64, Ideal.div_coe (by norm_num), word_64th]

/-- The kernel's turned lane is the head's. -/
theorem tileTurn_eq {u : Fin 128 → EReal} {v : Fin 64 → EReal} {b : BitVec 1} {c s : EReal} (cs sn : Fin 32 → EReal) (l : Fin 128)
    (hu : ∀ d : Fin 64, u ⟨64 * (l.val / 64) + d.val, by omega⟩ = v d) (hb : b = if l.val % 64 < 32 then 1#1 else 0#1)
    (hc : c = cs ⟨l.val % 32, by omega⟩) (hs : s = if l.val % 64 < 32 then - sn ⟨l.val % 32, by omega⟩ else sn ⟨l.val % 32, by omega⟩) :
    tileTurn u b c s l = rope v cs sn ⟨l.val % 64, by omega⟩ := by
  have hl := l.isLt
  have at_ : ∀ (k : Fin 128) (d : Fin 64), k.val = 64 * (l.val / 64) + d.val → u k = v d := fun k d h => by
    rw [← hu d]; exact congrArg u (Fin.ext h)
  unfold tileTurn rope
  by_cases h : l.val % 64 < 32
  · rw [if_pos h] at hb hs
    rw [dif_pos (show (⟨l.val % 64, by omega⟩ : Fin 64).val < 32 from h), hb, hc, hs,
      at_ l ⟨l.val % 64, by omega⟩ (by simp only []; omega),
      at_ ⟨(l.val + 128 - 96) % 128, by omega⟩ ⟨32 + l.val % 64, by omega⟩ (by simp only []; omega), sub_eq_add_neg]
    simp only [Scalar.select, if_true]
    have e : (⟨l.val % 32, by omega⟩ : Fin 32) = ⟨l.val % 64, h⟩ := Fin.ext (by simp only []; omega)
    rw [e]
    congr 1
    exact mul_neg _ _
  · rw [if_neg h] at hb hs
    rw [dif_neg (show ¬ (⟨l.val % 64, by omega⟩ : Fin 64).val < 32 from h), hb, hc, hs,
      at_ l ⟨32 + (l.val % 64 - 32), by omega⟩ (by simp only []; omega),
      at_ ⟨(l.val + 128 - 32) % 128, by omega⟩ ⟨l.val % 64 - 32, by omega⟩ (by simp only []; omega)]
    have e : (⟨l.val % 32, by omega⟩ : Fin 32) = ⟨l.val % 64 - 32, by omega⟩ := Fin.ext (by simp only []; omega)
    rw [e]
    simp only [Scalar.select]
    exact add_comm _ _

end Cert.InprojRow
-- ==== Proof.KernelIdeal.Scores.lean ====
/-
The differential attention of any scores: where a row's greatest score is real, both forms weigh the values alike; where it is
infinite, the norm makes the row zero in both.
-/
module

public import proofs.«01_k».proof.Proof.KernelIdeal.Payload
public import proofs.«01_k».proof.Proof.Filter.Row
public import proofs.«01_k».proof.Proof.Inproj.Row

@[expose] public section

noncomputable section

open Idealize.ShloMosaic Idealize.SL.Sem

namespace Cert.KernelIdeal.Value

open Cert.FilterRow (Wide wide_or_real not_wide_real wide_add wide_mul term_real)

/-- The factor that takes a score in bits to a score in nats. -/
def nat2 : EReal := ((Real.log 2 : ℝ) : EReal)

/-- The greatest of a row of scores. -/
def peak (s : Fin 4096 → EReal) : EReal := Finset.fold max ⊥ s Finset.univ

/-- The reference's softmax weight of a row of scores in bits. -/
def wt (s : Fin 4096 → EReal) (j : Fin 4096) : EReal :=
  Ideal.div (Ideal.exp (s j * nat2 - peak fun l => s l * nat2)) (∑ l, Ideal.exp (s l * nat2 - peak fun l => s l * nat2))

theorem log2_pos : 0 < Real.log 2 := Real.log_pos (by norm_num)

theorem bot_nat2 : (⊥ : EReal) * nat2 = ⊥ := EReal.bot_mul_coe_of_pos log2_pos
theorem top_nat2 : (⊤ : EReal) * nat2 = ⊤ := EReal.top_mul_coe_of_pos log2_pos

theorem peak_nat2 (s : Fin 4096 → EReal) : (peak fun l => s l * nat2) = peak s * nat2 := by
  have hm : Monotone fun x : EReal => x * nat2 := fun a b h => mul_le_mul_of_nonneg_right h (EReal.coe_nonneg.2 log2_pos.le)
  have key := Finset.fold_hom (op := max) (op' := max) (f := s) (b := (⊥ : EReal)) (s := Finset.univ) (m := fun x : EReal => x * nat2)
    (fun x y => hm.map_max)
  unfold peak
  rw [bot_nat2] at key
  exact key

theorem le_fold {ι : Type} [Fintype ι] (b : EReal) (f : ι → EReal) (i : ι) : f i ≤ Finset.fold max b f Finset.univ :=
  ((Finset.fold_max_le (Finset.fold max b f Finset.univ)).1 (le_refl _)).2 i (Finset.mem_univ i)

theorem le_peak (s : Fin 4096 → EReal) (j : Fin 4096) : s j ≤ peak s := le_fold ⊥ s j

theorem peak_bot (s : Fin 4096 → EReal) (h : ∀ j, s j = ⊥) : peak s = ⊥ :=
  le_bot_iff.1 ((Finset.fold_max_le ⊥).2 ⟨le_refl _, fun j _ => (h j).le⟩)

/-- The weight of a score, before its row's sum divides it. -/
def pow2 (x : EReal) : ℝ := (Ideal.exp2 x).toReal

theorem pow2_coe (r : ℝ) : pow2 r = Real.rpow 2 r := rfl
theorem pow2_bot : pow2 ⊥ = 0 := rfl

theorem pow2_nonneg (x : EReal) : 0 ≤ pow2 x := by
  induction x using EReal.rec with
  | bot => exact le_refl _
  | top => exact le_refl _
  | coe r => exact (Real.rpow_pos_of_pos two_pos r).le

theorem exp2_shift {x : EReal} (hx : x ≠ ⊤) (c : ℝ) : Ideal.exp2 (x - c) = ((Real.rpow 2 (-c) * pow2 x : ℝ) : EReal) := by
  induction x using EReal.rec with
  | bot => rw [pow2_bot, mul_zero, EReal.coe_zero, sub_eq_add_neg, EReal.bot_add]; rfl
  | top => exact absurd rfl hx
  | coe r =>
    rw [pow2_coe, ← EReal.coe_sub, Ideal.exp2_coe]
    exact congrArg _ (by rw [sub_eq_neg_add]; exact Real.rpow_add two_pos _ _)

theorem exp_shift {x : EReal} (hx : x ≠ ⊤) (c : ℝ) : Ideal.exp (x * nat2 - c) = ((Real.exp (-c) * pow2 x : ℝ) : EReal) := by
  induction x using EReal.rec with
  | bot => rw [bot_nat2, pow2_bot, mul_zero, EReal.coe_zero, sub_eq_add_neg, EReal.bot_add]; rfl
  | top => exact absurd rfl hx
  | coe r =>
    unfold nat2
    rw [pow2_coe, ← EReal.coe_mul, ← EReal.coe_sub, Ideal.exp_coe]
    refine congrArg _ ?_
    rw [sub_eq_neg_add, Real.exp_add]
    exact congrArg _ (by rw [mul_comm]; exact (Real.rpow_def_of_pos two_pos _).symm)

section Component

variable {s : Fin 4096 → EReal}

theorem total_pos (h : ∃ j, s j ≠ ⊥) (ht : ∀ j, s j ≠ ⊤) : 0 < ∑ j, pow2 (s j) := by
  obtain ⟨j, hj⟩ := h
  refine Finset.sum_pos' (fun i _ => pow2_nonneg _) ⟨j, Finset.mem_univ j, ?_⟩
  have ht' := ht j
  revert hj ht'
  generalize s j = x
  intro hj ht'
  induction x using EReal.rec with
  | bot => exact absurd rfl hj
  | top => exact absurd rfl ht'
  | coe r => exact Real.rpow_pos_of_pos two_pos r

/-- The kernel's average, whatever the real shift. -/
theorem avg_some (h : ∃ j, s j ≠ ⊥) (ht : ∀ j, s j ≠ ⊤) (c : ℝ) (v : Fin 4096 → ℝ) :
    avg s (fun j => (v j : EReal)) c = ((∑ j, v j * (pow2 (s j) / ∑ l, pow2 (s l)) : ℝ) : EReal) := by
  have hc : Real.rpow 2 (-c) ≠ 0 := (Real.rpow_pos_of_pos two_pos _).ne'
  have hs := (total_pos h ht).ne'
  unfold avg
  simp only [fun j => exp2_shift (ht j) c, ← EReal.coe_mul]
  rw [sum_real, sum_real, div_real _ (by rw [← Finset.mul_sum]; exact mul_ne_zero hc hs)]
  refine congrArg _ ?_
  simp only [mul_assoc]
  rw [← Finset.mul_sum, ← Finset.mul_sum, mul_div_mul_left _ _ hc, Finset.sum_div]
  exact Finset.sum_congr rfl fun j _ => by ring

/-- The reference's weight. -/
theorem wt_some (h : ∃ j, s j ≠ ⊥) (ht : ∀ j, s j ≠ ⊤) {c : ℝ} (hc : peak s = c) (j : Fin 4096) :
    wt s j = ((pow2 (s j) / ∑ l, pow2 (s l) : ℝ) : EReal) := by
  have hs := (total_pos h ht).ne'
  have he : Real.exp (-(c * Real.log 2)) ≠ 0 := (Real.exp_pos _).ne'
  unfold wt
  rw [peak_nat2, hc, show ((c : ℝ) : EReal) * nat2 = ((c * Real.log 2 : ℝ) : EReal) from (EReal.coe_mul _ _).symm]
  simp only [fun l => exp_shift (ht l) (c * Real.log 2)]
  rw [sum_real, div_real _ (by rw [← Finset.mul_sum]; exact mul_ne_zero he hs), ← Finset.mul_sum, mul_div_mul_left _ _ he]

theorem div_zero_zero : Ideal.div 0 0 = ⊥ := by
  unfold Ideal.div
  rw [if_pos rfl, if_neg (lt_irrefl _)]

theorem sub_wide_peak {s : Fin 4096 → EReal} (h : Wide (peak s)) (j : Fin 4096) : s j - peak s = ⊥ := by
  rcases h with h | h
  · rw [h, sub_eq_add_neg, EReal.neg_top, EReal.add_bot]
  · have := le_peak s j
    rw [h, le_bot_iff] at this
    rw [this, sub_eq_add_neg, EReal.bot_add]

theorem avg_none (h : Wide (peak s)) (v : Fin 4096 → ℝ) : avg s (fun j => (v j : EReal)) (peak s) = ⊥ := by
  unfold avg
  simp only [sub_wide_peak h, show Ideal.exp2 ⊥ = 0 from rfl, zero_mul, Finset.sum_const_zero]
  exact div_zero_zero

theorem wt_none (h : Wide (peak s)) (j : Fin 4096) : wt s j = ⊥ := by
  have h' : Wide (peak fun l => s l * nat2) := by
    rw [peak_nat2]
    rcases h with h | h
    · exact Or.inl (by rw [h, top_nat2])
    · exact Or.inr (by rw [h, bot_nat2])
  unfold wt
  simp only [fun l => sub_wide_peak (s := fun l => s l * nat2) h' l, show Ideal.exp ⊥ = 0 from rfl, Finset.sum_const_zero]
  exact div_zero_zero

theorem peak_real {c : ℝ} (h : peak s = c) : (∃ j, s j ≠ ⊥) ∧ ∀ j, s j ≠ ⊤ := by
  constructor
  · by_contra hn
    have := peak_bot s fun j => by by_contra hj; exact hn ⟨j, hj⟩
    rw [h] at this
    exact EReal.coe_ne_bot c this
  · intro j hj
    have := le_peak s j
    rw [h, hj, top_le_iff] at this
    exact EReal.coe_ne_top c this

/-- The kernel's average and the reference's weights of a row of scores, the shift as either branch takes it. -/
theorem component {c : EReal} (hc : c = peak s ∨ (∃ r : ℝ, c = r) ∧ ∀ j, ∃ r : ℝ, s j = r) :
    (∃ p : Fin 4096 → ℝ, (∀ j, wt s j = p j) ∧ ∀ v : Fin 4096 → ℝ, avg s (fun j => (v j : EReal)) c = ((∑ j, v j * p j : ℝ) : EReal))
      ∨ (∀ j, wt s j = ⊥) ∧ ∀ v : Fin 4096 → ℝ, avg s (fun j => (v j : EReal)) c = ⊥ := by
  rcases hc with rfl | ⟨⟨r, rfl⟩, hs⟩
  · rcases wide_or_real (peak s) with h | ⟨r, h⟩
    · exact Or.inr ⟨wt_none h, avg_none h⟩
    · obtain ⟨h1, h2⟩ := peak_real h
      exact Or.inl ⟨_, wt_some h1 h2 h, fun v => by rw [h]; exact avg_some h1 h2 r v⟩
  · choose f hf using hs
    obtain ⟨M, hM⟩ := fold_max_real (n := 4096) (by decide) f
    have hp : peak s = M := by
      unfold peak
      rw [funext hf]
      exact hM
    obtain ⟨h1, h2⟩ := peak_real hp
    exact Or.inl ⟨_, wt_some h1 h2 hp, fun v => avg_some h1 h2 r v⟩

end Component

/-! ## A row after the norm -/

/-- The norm takes a lane to zero where the lane is zero or infinite. -/
theorem rms_zero {a : Fin 128 → EReal} (g : EReal) {d : Fin 128} (h : a d = 0 ∨ Wide (a d)) : rmsOut a g d = 0 := by
  unfold rmsOut
  rcases h with h | h
  · rw [h, zero_mul, zero_mul, zero_mul]
  · have ht : a d * a d = ⊤ := by
      rcases h with h | h
      · rw [h]; rfl
      · rw [h]; rfl
    have e : ∃ r : ℝ, Ideal.ofBits FTy.f32 897988541#32 = (r : EReal) := by
      obtain ⟨r, _, h⟩ := Cert.InprojRow.eps_pos
      exact ⟨r, h⟩
    have w : Ideal.ofBits FTy.f32 1124073472#32 = ((128 : ℝ) : EReal) := by
      simp [Ideal.ofBits, Ideal.ieee, -EReal.coe_mul]; norm_num
    obtain ⟨r, hr⟩ := e
    rw [Cert.InprojRow.sum_squares_top d ht, w, Ideal.div_coe (by norm_num), hr,
      EReal.top_mul_coe_of_pos (by norm_num), EReal.top_add_coe, show Ideal.rsqrt ⊤ = 0 from rfl, mul_zero, zero_mul, zero_mul]

theorem wide_neg {a : EReal} (h : Wide a) : Wide (-a) := by
  rcases h with rfl | rfl
  · exact Or.inr EReal.neg_top
  · exact Or.inl EReal.neg_bot

theorem wide_sub {b : EReal} (h : Wide b) (a : EReal) : Wide (a - b) := by
  rw [sub_eq_add_neg, add_comm]
  exact wide_add (wide_neg h) a

theorem wide_bot : Wide ⊥ := Or.inr rfl

/-- Infinite lanes on the one side and infinite weights on the other give the same row. -/
theorem rows_wide {a : Fin 128 → EReal} {W : Fin 4096 → EReal} (ha : ∀ e, Wide (a e)) (hW : ∀ j, Wide (W j)) (V : Fin 4096 → Fin 128 → ℝ)
    (g : EReal) (d : Fin 128) : rmsOut a g d = rmsOut (fun e => ∑ j, (V j e : EReal) * W j) g d := by
  refine (rms_zero g (Or.inr (ha d))).trans (rms_zero g ?_).symm
  by_cases h : ∀ j, V j d = 0
  · exact Or.inl (Finset.sum_eq_zero fun j _ => by rw [h j, EReal.coe_zero, zero_mul])
  · obtain ⟨j, hj⟩ := not_forall.mp h
    refine Or.inr ?_
    rcases wide_or_real (∑ j, (V j d : EReal) * W j) with hw | hr
    · exact hw
    · exact (not_wide_real (wide_mul (hW j) (fun h0 => hj (EReal.coe_eq_zero.1 h0))) (term_real hr j)).elim

/-- The kernel's row is the reference's: weighing the values with each softmax and subtracting, or subtracting the softmaxes. -/
theorem rows_agree {s₀ s₁ : Fin 4096 → EReal} {c₀ c₁ : EReal} (h₀ : c₀ = peak s₀ ∨ (∃ r : ℝ, c₀ = r) ∧ ∀ j, ∃ r : ℝ, s₀ j = r)
    (h₁ : c₁ = peak s₁ ∨ (∃ r : ℝ, c₁ = r) ∧ ∀ j, ∃ r : ℝ, s₁ j = r) (lam : ℝ) (V : Fin 4096 → Fin 128 → ℝ) (g : EReal) (d : Fin 128) :
    rmsOut (fun e => avg s₀ (fun j => (V j e : EReal)) c₀ - (lam : EReal) * avg s₁ (fun j => (V j e : EReal)) c₁) g d
      = rmsOut (fun e => ∑ j, (V j e : EReal) * (wt s₀ j - (lam : EReal) * wt s₁ j)) g d := by
  rcases component h₀ with ⟨p, hp, hv⟩ | ⟨hw, hv⟩
  · rcases component h₁ with ⟨p', hp', hv'⟩ | ⟨hw', hv'⟩
    · refine congrArg (fun a => rmsOut a g d) (funext fun e => ?_)
      simp only [hv, hv', hp, hp', ← EReal.coe_mul, ← EReal.coe_sub]
      rw [sum_real]
      refine congrArg _ ?_
      rw [Finset.mul_sum, ← Finset.sum_sub_distrib]
      exact Finset.sum_congr rfl fun j _ => by ring
    · by_cases hl : lam = 0
      · subst hl
        refine congrArg (fun a => rmsOut a g d) (funext fun e => ?_)
        simp only [hv, hp, EReal.coe_zero, zero_mul, sub_zero, ← EReal.coe_mul]
        rw [sum_real]
      · have hl' : (lam : EReal) ≠ 0 := fun h0 => hl (EReal.coe_eq_zero.1 h0)
        refine rows_wide (fun e => ?_) (fun j => ?_) V g d
        · simp only [hv']
          exact wide_sub (wide_mul wide_bot hl') _
        · rw [hw']
          exact wide_sub (wide_mul wide_bot hl') _
  · refine rows_wide (fun e => ?_) (fun j => ?_) V g d
    · simp only [hv]
      rw [sub_eq_add_neg]
      exact wide_add wide_bot _
    · rw [hw, sub_eq_add_neg]
      exact wide_add wide_bot _

/-- One entry of the layer's attention output, on real values. -/
def row (lam : ℝ) (q : Fin 128 → EReal) (k : Fin 4096 → Fin 128 → EReal) (v : Fin 4096 → Fin 128 → ℝ) (g : EReal) (d : Fin 128) : EReal :=
  rmsOut (fun e => ∑ j, (v j e : EReal) * (wt (fun l => lowDot q (k l)) j - (lam : EReal) * wt (fun l => highDot q (k l)) j)) g d

/-! ## The bound on the scores -/

/-- The magnitude of an extended real. -/
def mag (x : EReal) : EReal := max x (-x)

theorem mag_nonneg (x : EReal) : 0 ≤ mag x := by
  unfold mag
  rcases le_total 0 x with h | h
  · exact le_max_of_le_left h
  · exact le_max_of_le_right (EReal.neg_nonneg.2 h)

theorem mag_wide {x : EReal} (h : Wide x) : mag x = ⊤ := by
  unfold mag
  rcases h with rfl | rfl
  · exact max_eq_left le_top
  · rw [EReal.neg_bot]; exact max_eq_right le_top

theorem mag_pos {x : EReal} (h : x ≠ 0) : 0 < mag x := by
  unfold mag
  rcases lt_or_gt_of_ne h with h | h
  · exact lt_max_of_lt_right (EReal.neg_pos.2 h)
  · exact lt_max_of_lt_left h

/-- Where the bound of a row's scores is below infinity, the bound and the scores are real. -/
theorem bound_real {n : ℕ} {q M : Fin n → EReal} {k : Fin 4096 → Fin n → EReal} (hM : ∀ j e, mag (k j e) ≤ M e)
    (h : ∑ e, mag (q e) * M e ≠ ⊤) : (∃ r : ℝ, ∑ e, mag (q e) * M e = r) ∧ ∀ j, ∃ r : ℝ, ∑ e, q e * k j e = r := by
  have hM0 : ∀ e, 0 ≤ M e := fun e => (mag_nonneg _).trans (hM 0 e)
  have h0 : ∀ e, 0 ≤ mag (q e) * M e := fun e => mul_nonneg (mag_nonneg _) (hM0 e)
  have hn : ∀ e, mag (q e) * M e ≠ ⊤ := fun e he => h (top_le_iff.1 (he ▸ Finset.single_le_sum (f := fun e => mag (q e) * M e) (fun i _ => h0 i) (Finset.mem_univ e)))
  constructor
  · refine Cert.InprojRow.real_sum fun e => ?_
    rcases wide_or_real (mag (q e) * M e) with (hw | hw) | hr
    · exact absurd hw (hn e)
    · have := h0 e
      rw [hw] at this
      exact absurd this (not_le.2 EReal.bot_lt_zero)
    · exact hr
  · refine fun j => Cert.InprojRow.real_sum fun e => ?_
    by_cases hq : q e = 0
    · exact ⟨0, by rw [hq, zero_mul, EReal.coe_zero]⟩
    by_cases hk : k j e = 0
    · exact ⟨0, by rw [hk, mul_zero, EReal.coe_zero]⟩
    rcases wide_or_real (q e) with hw | hr
    · exact absurd (by rw [mag_wide hw, EReal.top_mul_of_pos ((mag_pos hk).trans_le (hM j e))]) (hn e)
    · rcases wide_or_real (k j e) with hw' | hr'
      · have := hM j e
        rw [mag_wide hw', top_le_iff] at this
        exact absurd (by rw [this, EReal.mul_top_of_pos (mag_pos hq)]) (hn e)
      · exact Cert.InprojRow.real_mul hr hr'

end Cert.KernelIdeal.Value
-- ==== Proof.KernelIdeal.Block.lean ====
/-
The attention body's output block on real values: both of its branches leave the same expression.
-/
module

public import proofs.«01_k».proof.Proof.KernelIdeal.Scores

@[expose] public section

set_option maxRecDepth 16384

noncomputable section

open Idealize.ShloMosaic Idealize.ShloMosaic.TcCoe Idealize.SL.Sem

namespace Cert.KernelIdeal.Value

open Cert.KernelIdeal Cert.KernelIdeal.Gen

/-- The word a maximum starts from is the least extended real. -/
theorem neg_inf : Ideal.ofBits FTy.f32 4286578688#32 = (⊥ : EReal) := by simp [Ideal.ofBits, Ideal.ieee]

section Scores

variable {q : FVec Ideal S512x128 .bf16} {k : FVec Ideal S4096x128 .bf16} {Q : Fin 512 → Fin 128 → EReal} {K : Fin 4096 → Fin 128 → EReal}

theorem lowScore_eq (hq : ∀ r x, q (ix2 r x) = Q r x) (hk : ∀ j x, k (ix2 j x) = K j x) (r : Fin 512) :
    lowScore q k r = fun j => lowDot (Q r) (K j) := by
  funext j
  unfold lowScore lowDot
  rw [sum_low]
  exact Finset.sum_congr rfl fun e _ => by rw [hq, hk]

theorem highScore_eq (hq : ∀ r x, q (ix2 r x) = Q r x) (hk : ∀ j x, k (ix2 j x) = K j x) (r : Fin 512) :
    highScore q k r = fun j => highDot (Q r) (K j) := by
  funext j
  unfold highScore highDot
  rw [sum_high]
  exact Finset.sum_congr rfl fun e _ => by rw [hq, hk]

end Scores

/-- The kernel's row maximum of the scores. -/
theorem top_eq (s : Fin 4096 → EReal) : top s = peak s := by
  unfold top peak
  rw [neg_inf]

/-! ## The bound on the scores -/

/-- The first component's bound at a row: the sum of the masked lanes' `|q| · max |k|`. -/
theorem pay13_apply (q : FVec Ideal S1x512x128 .bf16) (km : FVec Ideal S1x128 .f32) (r : Fin 512) :
    k0_pay13 (F := Ideal) q km (ix2 r 0)
      = ∑ x : Fin 128, Scalar.select (IntOp.cmpi CmpIPredicate.slt (BitVec.ofNat 32 ↑x) 64#32)
          (FloatOps.absf (q (ix3 0 r x) : Ideal .f32) * km (ix2 0 x)) 0 := by
  pointwise [k0_pay13, k0_pay12, k0_pay10, k0_pay9]
  rfl

theorem pay14_apply (q : FVec Ideal S1x512x128 .bf16) (km : FVec Ideal S1x128 .f32) (r : Fin 512) :
    k0_pay14 (F := Ideal) q km (ix2 r 0)
      = ∑ x : Fin 128, Scalar.select (IntOp.cmpi CmpIPredicate.slt (BitVec.ofNat 32 ↑x) 64#32) 0
          (FloatOps.absf (q (ix3 0 r x) : Ideal .f32) * km (ix2 0 x)) := by
  pointwise [k0_pay14, k0_pay12, k0_pay10, k0_pay9]
  rfl

/-- The scratch row's entry of a lane is no less than a key's magnitude there. -/
theorem pay8_ge {k : FVec Ideal S1x4096x128 .bf16} {K : Fin 4096 → Fin 128 → EReal} (hk : ∀ j x, k (ix3 0 j x) = K j x) (j : Fin 4096) (x : Fin 128) :
    mag (K j x) ≤ k0_pay8 (F := Ideal) k (ix2 0 x) := by
  have e : k0_pay8 (F := Ideal) k (ix2 0 x)
      = Finset.fold max (Ideal.ofBits FTy.f32 4286578688#32) (fun j => FloatOps.absf (k (ix3 0 j x) : Ideal .f32)) Finset.univ := by
    pointwise [k0_pay8, k0_pay6]
  rw [e]
  refine le_trans (le_of_eq ?_) (le_fold _ _ j)
  rw [hk]
  rfl

/-- The tested number is no less than either component's bound at any row. -/
theorem pay15_ge (q : FVec Ideal S1x512x128 .bf16) (km : FVec Ideal S1x128 .f32) (r : Fin 512) :
    max (k0_pay13 (F := Ideal) q km (ix2 r 0)) (k0_pay14 (F := Ideal) q km (ix2 r 0)) ≤ k0_pay15 (F := Ideal) q km := by
  pointwise [k0_pay15]
  exact le_fold _ (fun x : Fin 512 × Fin 1 => max (k0_pay13 (F := Ideal) q km (ix2 x.1 0)) (k0_pay14 (F := Ideal) q km (ix2 x.1 0))) (r, 0)

/-- Where the test passes, the tested number is below infinity. -/
theorem fits_ne_top {q : FVec Ideal S1x512x128 .bf16} {km : FVec Ideal S1x128 .f32} (h : shiftFits (F := Ideal) q km = 1#1) :
    k0_pay15 (F := Ideal) q km ≠ ⊤ := by
  intro ht
  have w : Ideal.ofBits FTy.f32 0x42480000#32 = ((50 : ℝ) : EReal) := by
    simp [Ideal.ofBits, Ideal.ieee, -EReal.coe_mul]; norm_num
  have h' : (FloatOps.cmpf .ole (k0_pay15 (F := Ideal) q km) (Ideal.ofBits FTy.f32 0x42480000#32 : Ideal .f32) : BitVec 1) = 1#1 := h
  rw [ht, w] at h'
  simp [FloatOps.cmpf, Ideal.cmp] at h'

section Bound

variable {q : FVec Ideal S1x512x128 .bf16} {km : FVec Ideal S1x128 .f32} {Q : Fin 512 → Fin 128 → EReal} {K : Fin 4096 → Fin 128 → EReal}

/-- Where the test passes, the first component's bound and scores are real. -/
theorem low_bound (hq : ∀ r x, q (ix3 0 r x) = Q r x) (hm : ∀ j x, mag (K j x) ≤ km (ix2 0 x)) (h : shiftFits (F := Ideal) q km = 1#1) (r : Fin 512) :
    (∃ c : ℝ, k0_pay13 (F := Ideal) q km (ix2 r 0) = (c : EReal)) ∧ ∀ j, ∃ c : ℝ, lowDot (Q r) (K j) = (c : EReal) := by
  have e : k0_pay13 (F := Ideal) q km (ix2 r 0) = ∑ e : Fin 64, mag (Q r ⟨e.val, by omega⟩) * km (ix2 0 ⟨e.val, by omega⟩) := by
    rw [pay13_apply, sum_low]
    exact Finset.sum_congr rfl fun e _ => by rw [hq]; rfl
  have hn : k0_pay13 (F := Ideal) q km (ix2 r 0) ≠ ⊤ := fun ht =>
    fits_ne_top h (top_le_iff.1 (ht ▸ (le_max_left _ _).trans (pay15_ge q km r)))
  rw [e] at hn ⊢
  exact bound_real (k := fun j (e : Fin 64) => K j ⟨e.val, by omega⟩) (fun j e => hm j _) hn

/-- Where the test passes, the second component's bound and scores are real. -/
theorem high_bound (hq : ∀ r x, q (ix3 0 r x) = Q r x) (hm : ∀ j x, mag (K j x) ≤ km (ix2 0 x)) (h : shiftFits (F := Ideal) q km = 1#1) (r : Fin 512) :
    (∃ c : ℝ, k0_pay14 (F := Ideal) q km (ix2 r 0) = (c : EReal)) ∧ ∀ j, ∃ c : ℝ, highDot (Q r) (K j) = (c : EReal) := by
  have e : k0_pay14 (F := Ideal) q km (ix2 r 0) = ∑ e : Fin 64, mag (Q r ⟨64 + e.val, by omega⟩) * km (ix2 0 ⟨64 + e.val, by omega⟩) := by
    rw [pay14_apply, sum_high]
    exact Finset.sum_congr rfl fun e _ => by rw [hq]; rfl
  have hn : k0_pay14 (F := Ideal) q km (ix2 r 0) ≠ ⊤ := fun ht =>
    fits_ne_top h (top_le_iff.1 (ht ▸ (le_max_right _ _).trans (pay15_ge q km r)))
  rw [e] at hn ⊢
  exact bound_real (k := fun j (e : Fin 64) => K j ⟨64 + e.val, by omega⟩) (fun j e => hm j _) hn

end Bound

/-! ## The block -/

/-- The body's output block at a row and a lane, on real values and a real factor. -/
theorem attOut_row {lamv : FVec Ideal S1 .f32} {q : FVec Ideal S1x512x128 .bf16} {k v : FVec Ideal S1x4096x128 .bf16}
    {g km : FVec Ideal S1x128 .f32} {lam : ℝ} {Q : Fin 512 → Fin 128 → EReal} {K : Fin 4096 → Fin 128 → EReal} {V : Fin 4096 → Fin 128 → ℝ}
    (hl : lamWord (F := Ideal) lamv = (lam : EReal)) (hq : ∀ r x, q (ix3 0 r x) = Q r x) (hk : ∀ j x, k (ix3 0 j x) = K j x)
    (hv : ∀ j x, v (ix3 0 j x) = (V j x : EReal)) (hm : ∀ j x, mag (K j x) ≤ km (ix2 0 x)) (r : Fin 512) (d : Fin 128) :
    attOut (F := Ideal) lamv q k v g km (ix3 0 r d) = row lam (Q r) K V (g (ix2 0 d)) d := by
  have hq' : ∀ r x, k0_pay9 (F := Ideal) q (ix2 r x) = Q r x := fun r x => by rw [← hq]; pointwise [k0_pay9]
  have hk' : ∀ j x, k0_pay6 (F := Ideal) k (ix2 j x) = K j x := fun j x => by rw [← hk]; pointwise [k0_pay6]
  have hv' : ∀ j x, k0_pay7 (F := Ideal) v (ix2 j x) = (V j x : EReal) := fun j x => by rw [← hv]; pointwise [k0_pay7]
  have e1 : ∀ w : FVec Ideal S512x128 .bf16, k0_pay1 (F := Ideal) w (ix3 0 r d) = w (ix2 r d) := fun w => by pointwise [k0_pay1]
  have e2 : ∀ w : FVec Ideal S512x128 .f32, k0_pay2 (F := Ideal) w k0_pay5 (ix3 0 r d) = w (ix2 r d) * Ideal.ofBits FTy.f32 1061997773#32 :=
    fun w => by pointwise [k0_pay2, k0_pay5]
  unfold attOut
  split
  · next h =>
    rw [e1, pay3_apply, hl, lowScore_eq hq' hk', highScore_eq hq' hk']
    simp only [hv']
    exact rows_agree (Or.inr (low_bound hq hm h r)) (Or.inr (high_bound hq hm h r)) lam V _ d
  · rw [e2, pay4_apply, hl, lowScore_eq hq' hk', highScore_eq hq' hk']
    simp only [hv']
    exact rows_agree (Or.inl (top_eq _)) (Or.inl (top_eq _)) lam V _ d

end Cert.KernelIdeal.Value
-- ==== Proof.KernelIdeal.RefValue.lean ====
/-
The attention reference's result, read at one entry on real values.
-/
module

public import proofs.«01_k».proof.Proof.KernelIdeal.Scores
public import proofs.«01_k».proof.Proof.Gen.ReferenceIdeal.Run
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.Entry

open Cert.ReferenceIdeal Cert.ReferenceIdeal.Read Cert.KernelIdeal.Value

/-- The word a maximum starts from is the least extended real. -/
theorem neg_inf : Ideal.ofBits FTy.f32 0xFF800000#32 = (⊥ : EReal) := by simp [Ideal.ofBits, Ideal.ieee]
/-- The word a sum starts from. -/
theorem zero_word : Ideal.ofBits FTy.f32 0x00000000#32 = (0 : EReal) := by simp [Ideal.ofBits, Ideal.ieee]
/-- The word of two. -/
theorem two_word : Ideal.ofBits FTy.f32 0x40000000#32 = ((2 : ℝ) : EReal) := by
  simp [Ideal.ofBits, Ideal.ieee, -EReal.coe_mul]
  norm_num

/-- The factor that takes a score in bits to a score in nats. -/
theorem ln2 (i : S_.Idx) : val_main_v12 (F := Ideal) i = ((Real.log 2 : ℝ) : EReal) := by
  rw [val_main_v12_apply, val_main_cst_2_apply]
  show Ideal.log (Ideal.ofBits FTy.f32 0x40000000#32) = _
  rw [two_word, Ideal.log_coe, if_neg (by norm_num)]

section Scores

variable (x0 x1 : FVec Ideal S8x4096x512 .bf16)

/-- A score, in nats, at a batch, head, component, query and key. -/
theorem score (b : Fin 8) (h : Fin 4) (c : Fin 2) (i j : Fin 4096) :
    val_main_v14 (F := Ideal) x0 x1 (ix5 b h c i j)
      = (∑ e : Fin 64, x0 (ix3 b i ⟨h.val * 128 + (c.val * 64 + e.val), by omega⟩) * x1 (ix3 b j ⟨h.val * 128 + (c.val * 64 + e.val), by omega⟩))
        * ((Real.log 2 : ℝ) : EReal) := by
  rw [val_main_v14_apply, val_main_v11_apply, val_main_v13_apply, ln2]
  refine congrArg (· * _) (Finset.sum_congr rfl fun e _ => ?_)
  rw [val_main_v0_apply, val_main_v1_apply]
  refine congrArg₂ (· * ·) (congrArg x0 ?_) (congrArg x1 ?_) <;> funext a <;> refine Fin.ext ?_
  · match a with
    | ⟨0, _⟩ => show ((((b.val * 4096 + i.val) * 4 + h.val) * 2 + c.val) * 64 + e.val) / 2097152 = b.val; omega
    | ⟨1, _⟩ => show ((((b.val * 4096 + i.val) * 4 + h.val) * 2 + c.val) * 64 + e.val) / 512 % 4096 = i.val; omega
    | ⟨2, _⟩ => show ((((b.val * 4096 + i.val) * 4 + h.val) * 2 + c.val) * 64 + e.val) % 512 = h.val * 128 + (c.val * 64 + e.val); omega
  · match a with
    | ⟨0, _⟩ => show ((((b.val * 4096 + j.val) * 4 + h.val) * 2 + c.val) * 64 + e.val) / 2097152 = b.val; omega
    | ⟨1, _⟩ => show ((((b.val * 4096 + j.val) * 4 + h.val) * 2 + c.val) * 64 + e.val) / 512 % 4096 = j.val; omega
    | ⟨2, _⟩ => show ((((b.val * 4096 + j.val) * 4 + h.val) * 2 + c.val) * 64 + e.val) % 512 = h.val * 128 + (c.val * 64 + e.val); omega

/-- A row's maximum over the keys. -/
theorem row_max (hr : S8x4x2x4096x4096.ReducesTo [4] S8x4x2x4096) (hz : 0 < S_.numel) (y : FVec Ideal S8x4x2x4096x4096 .f32) (z : FVec Ideal S_ .f32) (b : Fin 8) (h : Fin 4) (c : Fin 2) (i : Fin 4096) :
    Host.reduce FloatOps.maximumf y z hr hz (ix4 b h c i)
      = Finset.fold max (z (Shape.Idx.first hz)) (fun j : Fin 4096 => y (ix5 b h c i j)) Finset.univ := by
  simp only [pointwise]

/-- One softmax weight, its row's maximum kept as the stage that holds it. -/
theorem weight (b : Fin 8) (h : Fin 4) (c : Fin 2) (i j : Fin 4096) :
    val_main_v25 (F := Ideal) x0 x1 (ix5 b h c i j)
      = Ideal.div (Ideal.exp (val_main_v14 (F := Ideal) x0 x1 (ix5 b h c i j) - val_main_v17 (F := Ideal) x0 x1 (ix4 b h c i)))
          (∑ l : Fin 4096, Ideal.exp (val_main_v14 (F := Ideal) x0 x1 (ix5 b h c i l) - val_main_v17 (F := Ideal) x0 x1 (ix4 b h c i))) := by
  have e : ∀ l : Fin 4096, val_main_v21 (F := Ideal) x0 x1 (ix5 b h c i l)
      = Ideal.exp (val_main_v14 (F := Ideal) x0 x1 (ix5 b h c i l) - val_main_v17 (F := Ideal) x0 x1 (ix4 b h c i)) := fun l => by
    have q : idx_main_v18 (idx_main_v19 (ix5 b h c i l)) = ix4 b h c i := by
      funext a; match a with | ⟨0, _⟩ => rfl | ⟨1, _⟩ => rfl | ⟨2, _⟩ => rfl | ⟨3, _⟩ => rfl
    rw [val_main_v21_apply, val_main_v20_apply, val_main_v19_apply, val_main_v18_apply, q]
    rfl
  have q : ∀ l : Fin 4096, idx_main_v22 (idx_main_v23 (idx_main_v24 (ix5 b h c i j))) l = ix5 b h c i l := fun l => by
    funext a; match a with | ⟨0, _⟩ => rfl | ⟨1, _⟩ => rfl | ⟨2, _⟩ => rfl | ⟨3, _⟩ => rfl | ⟨4, _⟩ => rfl
  rw [val_main_v25_apply, val_main_v24_apply, val_main_v23_apply, val_main_v22_apply, e]
  simp only [q, e]
  rw [val_main_cst_5_apply]
  show Ideal.div _ (Ideal.ofBits FTy.f32 0x00000000#32 + _) = _
  rw [zero_word, zero_add]

end Scores

section Value

variable {x0 x1 x2 : FVec Ideal S8x4096x512 .bf16} {x3 x4 x5 x6 : FVec Ideal S64 .f32} {V : Fin 8 → Fin 4096 → Fin 512 → ℝ} {lam : ℝ}

/-- A softmax weight is that of its row of scores in bits. -/
theorem weight_eq (b : Fin 8) (h : Fin 4) (c : Fin 2) (i j : Fin 4096) {s : Fin 4096 → EReal}
    (hs : ∀ l, s l = ∑ e : Fin 64, x0 (ix3 b i ⟨h.val * 128 + (c.val * 64 + e.val), by omega⟩) * x1 (ix3 b l ⟨h.val * 128 + (c.val * 64 + e.val), by omega⟩)) :
    val_main_v25 (F := Ideal) x0 x1 (ix5 b h c i j) = wt s j := by
  have e : ∀ l, val_main_v14 (F := Ideal) x0 x1 (ix5 b h c i l) = s l * nat2 := fun l => by
    rw [score, hs]
    rfl
  have top : val_main_v17 (F := Ideal) x0 x1 (ix4 b h c i) = peak fun l => s l * nat2 := by
    rw [val_main_v17_apply, val_main_v16_apply, val_main_cst_4_apply]
    unfold val_main_v15
    rw [row_max, val_main_cst_3_apply]
    show max (Ideal.ofBits FTy.f32 0xFF800000#32) (Finset.fold max (Ideal.ofBits FTy.f32 0xFF800000#32) _ _) = _
    rw [neg_inf, bot_sup_eq]
    simp only [e]
    rfl
  rw [weight, top]
  simp only [e]
  rfl

/-- The attention's output row before normalisation, on real values. -/
theorem mixed (hv : ∀ b i x, x2 (ix3 b i x) = (V b i x : EReal)) (hl : ∀ i, val_main_v10 (F := Ideal) x3 x4 x5 x6 i = (lam : EReal))
    (b : Fin 8) (i : Fin 4096) (h : Fin 4) (d : Fin 128) :
    val_main_v35 (F := Ideal) x0 x1 x2 x3 x4 x5 x6 (ix4 b i h d)
      = ∑ j, (V b j ⟨h.val * 128 + d.val, by omega⟩ : EReal)
          * (wt (fun l => lowDot (fun x => x0 (ix3 b i ⟨h.val * 128 + x.val, by omega⟩)) (fun x => x1 (ix3 b l ⟨h.val * 128 + x.val, by omega⟩))) j
            - (lam : EReal)
              * wt (fun l => highDot (fun x => x0 (ix3 b i ⟨h.val * 128 + x.val, by omega⟩)) (fun x => x1 (ix3 b l ⟨h.val * 128 + x.val, by omega⟩))) j) := by
  have q35 : idx_main_v35 (ix4 b i h d) = ix4 b h d i := by
    funext a; match a with | ⟨0, _⟩ => rfl | ⟨1, _⟩ => rfl | ⟨2, _⟩ => rfl | ⟨3, _⟩ => rfl
  rw [val_main_v35_apply, q35, val_main_v34_apply]
  refine Finset.sum_congr rfl fun j _ => ?_
  have q2 : idx_main_v2 (lidx_main_v34 (ix4 b h d i) j) = ix3 b j ⟨h.val * 128 + d.val, by omega⟩ := by
    funext a; refine Fin.ext ?_
    match a with
    | ⟨0, _⟩ => show (((b.val * 4096 + j.val) * 4 + h.val) * 128 + d.val) / 2097152 = b.val; omega
    | ⟨1, _⟩ => show (((b.val * 4096 + j.val) * 4 + h.val) * 128 + d.val) / 512 % 4096 = j.val; omega
    | ⟨2, _⟩ => show (((b.val * 4096 + j.val) * 4 + h.val) * 128 + d.val) % 512 = h.val * 128 + d.val; omega
  have q26 : idx_main_v26 (idx_main_v27 (ridx_main_v34 (ix4 b h d i) j)) = ix5 b h 0 i j := by
    funext a; refine Fin.ext ?_
    match a with
    | ⟨0, _⟩ => show (((b.val * 4 + h.val) * 4096 + i.val) * 4096 + j.val) / 67108864 = b.val; omega
    | ⟨1, _⟩ => show (((b.val * 4 + h.val) * 4096 + i.val) * 4096 + j.val) / 16777216 % 4 = h.val; omega
    | ⟨2, _⟩ => rfl
    | ⟨3, _⟩ => show (((b.val * 4 + h.val) * 4096 + i.val) * 4096 + j.val) / 4096 % 4096 = i.val; omega
    | ⟨4, _⟩ => show (((b.val * 4 + h.val) * 4096 + i.val) * 4096 + j.val) % 4096 = j.val; omega
  have q28 : idx_main_v28 (idx_main_v29 (ridx_main_v34 (ix4 b h d i) j)) = ix5 b h 1 i j := by
    funext a; refine Fin.ext ?_
    match a with
    | ⟨0, _⟩ => show (((b.val * 4 + h.val) * 4096 + i.val) * 4096 + j.val) / 67108864 = b.val; omega
    | ⟨1, _⟩ => show (((b.val * 4 + h.val) * 4096 + i.val) * 4096 + j.val) / 16777216 % 4 = h.val; omega
    | ⟨2, _⟩ => rfl
    | ⟨3, _⟩ => show (((b.val * 4 + h.val) * 4096 + i.val) * 4096 + j.val) / 4096 % 4096 = i.val; omega
    | ⟨4, _⟩ => show (((b.val * 4 + h.val) * 4096 + i.val) * 4096 + j.val) % 4096 = j.val; omega
  rw [val_main_v2_apply, q2, hv, val_main_v33_apply, val_main_v32_apply, val_main_v31_apply, val_main_v30_apply, hl, val_main_v29_apply,
    val_main_v28_apply, q28, val_main_v27_apply, val_main_v26_apply, q26,
    weight_eq b h 0 i j
      (s := fun l => lowDot (fun x => x0 (ix3 b i ⟨h.val * 128 + x.val, by omega⟩)) (fun x => x1 (ix3 b l ⟨h.val * 128 + x.val, by omega⟩)))
      (fun l => Finset.sum_congr rfl fun e _ => by simp),
    weight_eq b h 1 i j
      (s := fun l => highDot (fun x => x0 (ix3 b i ⟨h.val * 128 + x.val, by omega⟩)) (fun x => x1 (ix3 b l ⟨h.val * 128 + x.val, by omega⟩)))
      (fun l => Finset.sum_congr rfl fun e _ => by simp)]
  rfl

/-- The reference's result at a batch, query, head and lane. -/
theorem result (x7 : FVec Ideal S128 .f32) (hv : ∀ b i x, x2 (ix3 b i x) = (V b i x : EReal)) (hl : ∀ i, val_main_v10 (F := Ideal) x3 x4 x5 x6 i = (lam : EReal))
    (b : Fin 8) (i : Fin 4096) (h : Fin 4) (d : Fin 128) :
    val_main_v52 (F := Ideal) x0 x1 x2 x3 x4 x5 x6 x7 (ix3 b i ⟨h.val * 128 + d.val, by omega⟩)
      = row lam (fun x => x0 (ix3 b i ⟨h.val * 128 + x.val, by omega⟩)) (fun j x => x1 (ix3 b j ⟨h.val * 128 + x.val, by omega⟩))
          (fun j x => V b j ⟨h.val * 128 + x.val, by omega⟩) (x7 (ix1 d)) d := by
  have q51 : idx_main_v51 (ix3 b i ⟨h.val * 128 + d.val, by omega⟩) = ix4 b i h d := by
    funext a; refine Fin.ext ?_
    match a with
    | ⟨0, _⟩ => show ((b.val * 4096 + i.val) * 512 + (h.val * 128 + d.val)) / 2097152 = b.val; omega
    | ⟨1, _⟩ => show ((b.val * 4096 + i.val) * 512 + (h.val * 128 + d.val)) / 512 % 4096 = i.val; omega
    | ⟨2, _⟩ => show ((b.val * 4096 + i.val) * 512 + (h.val * 128 + d.val)) / 128 % 4 = h.val; omega
    | ⟨3, _⟩ => show ((b.val * 4096 + i.val) * 512 + (h.val * 128 + d.val)) % 128 = d.val; omega
  have q46 : idx_main_v46 (idx_main_v47 (ix4 b i h d)) = ix1 d := by
    funext a; match a with | ⟨0, _⟩ => rfl
  have q37 : ∀ e : Fin 128, idx_main_v37 (idx_main_v38 (idx_main_v44 (ix4 b i h d))) e = ix4 b i h e := fun e => by
    funext a; match a with | ⟨0, _⟩ => rfl | ⟨1, _⟩ => rfl | ⟨2, _⟩ => rfl | ⟨3, _⟩ => rfl
  rw [val_main_v52_apply, val_main_v51_apply, q51, val_main_v50_apply, val_main_v49_apply, val_main_cst_9_apply, val_main_v48_apply,
    val_main_v47_apply, val_main_v46_apply, q46, val_main_v45_apply, val_main_v44_apply, val_main_v43_apply, val_main_v42_apply,
    val_main_v41_apply, val_main_cst_8_apply, val_main_v40_apply, val_main_v39_apply, val_main_cst_7_apply, val_main_v38_apply,
    val_main_v37_apply, val_main_cst_6_apply, mixed hv hl]
  simp only [q37, val_main_v36_apply, mixed hv hl]
  unfold row rmsOut
  show _ * Ideal.rsqrt (Ideal.div (Ideal.ofBits FTy.f32 0x00000000#32 + _) _ + _) * _ * _ = _
  rw [zero_word, zero_add]
  rfl

end Value

end Cert.ReferenceIdeal.Entry
-- ==== Proof.KernelIdeal.Finite.lean ====
/-
What the precondition says at the exact instance: the values and the four lambda vectors are real numbers.
-/
module

public import proofs.«01_k».proof.Proof.Gen.Pre_attention_inputs_finite
public import Idealize.ShloMosaic.Lib.Pointwise

@[expose] public section

noncomputable section

open Idealize.ShloMosaic Idealize.SL.Sem

namespace Cert.KernelIdeal.Value

open Cert.Pre_attention_inputs_finite

/-- An extended real whose absolute value is below infinity is a real. -/
theorem real_of_olt (x : EReal) (h : (FloatOps.cmpf .olt (max x (-x) : Ideal .f32) (Ideal.ofBits FTy.f32 0x7F800000#32 : Ideal .f32) : BitVec 1) = 1#1) :
    ∃ r : ℝ, x = (r : EReal) := by
  have inf : Ideal.ofBits FTy.f32 0x7F800000#32 = (⊤ : EReal) := by simp [Ideal.ofBits, Ideal.ieee]
  rw [inf] at h
  induction x using EReal.rec with
  | bot => simp [FloatOps.cmpf, Ideal.cmp] at h
  | top => simp [FloatOps.cmpf, Ideal.cmp] at h
  | coe r => exact ⟨r, rfl⟩

/-- The precondition, as statements about the arguments' entries. -/
theorem finite_args {x0 x1 x2 : FVec Ideal S8x4096x512 .bf16} {x3 x4 x5 x6 : FVec Ideal S64 .f32} {x7 : FVec Ideal S128 .f32}
    (h2 : (fn (F := Ideal) x0 x1 x2 x3 x4 x5 x6 x7).1 = fun _ => 1#1)
    (h3 : (fn (F := Ideal) x0 x1 x2 x3 x4 x5 x6 x7).2.1 = fun _ => 1#1)
    (h4 : (fn (F := Ideal) x0 x1 x2 x3 x4 x5 x6 x7).2.2.1 = fun _ => 1#1)
    (h5 : (fn (F := Ideal) x0 x1 x2 x3 x4 x5 x6 x7).2.2.2.1 = fun _ => 1#1)
    (h6 : (fn (F := Ideal) x0 x1 x2 x3 x4 x5 x6 x7).2.2.2.2 = fun _ => 1#1) :
    (∀ i, ∃ r : ℝ, x2 i = (r : EReal)) ∧ (∀ i, ∃ r : ℝ, x3 i = (r : EReal)) ∧ (∀ i, ∃ r : ℝ, x4 i = (r : EReal))
      ∧ (∀ i, ∃ r : ℝ, x5 i = (r : EReal)) ∧ (∀ i, ∃ r : ℝ, x6 i = (r : EReal)) :=
  ⟨fun i => real_of_olt _ (congrFun h2 i), fun i => real_of_olt _ (congrFun h3 i), fun i => real_of_olt _ (congrFun h4 i),
    fun i => real_of_olt _ (congrFun h5 i), fun i => real_of_olt _ (congrFun h6 i)⟩

end Cert.KernelIdeal.Value
-- ==== Proof.KernelIdeal.Value.lean ====
/-
The attention kernel's value: the result array it leaves is the reference's, at the exact instance.
-/
module

public import proofs.«01_k».proof.Proof.KernelIdeal.AttFrame
public import proofs.«01_k».proof.Proof.KernelIdeal.Block
public import proofs.«01_k».proof.Proof.KernelIdeal.RefValue
public import proofs.«01_k».proof.Proof.KernelIdeal.Finite
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.ReferenceIdeal.Read

variable (m : (ℓ : Loc nD τ sig) → Buf (Elt Ideal) ℓ)

/-- Each window's block index at a grid point: batch, then head, then block of query rows. -/
theorem idx : ∀ t : Fin cfg0.N, win0_0.index t = ![0] ∧ win0_1.index t = ![t.val / 32, t.val % 8, t.val / 8 % 4]
    ∧ win0_2.index t = ![t.val / 32, 0, t.val / 8 % 4] ∧ win0_3.index t = ![t.val / 32, 0, t.val / 8 % 4]
    ∧ win0_4.index t = ![0, 0] ∧ win0_5.index t = ![t.val / 32, t.val % 8, t.val / 8 % 4] :=
  (by decide +kernel : ∀ t : Fin grid0.N, _)

theorem points : cfg0.N = 256 := N_0

/-- The batch of a grid point. -/
def batch (t : Fin cfg0.N) : Fin 8 := ⟨t.val / 32, by have := t.isLt; have := points; omega⟩
/-- The head of a grid point. -/
def head (t : Fin cfg0.N) : Fin 4 := ⟨t.val / 8 % 4, by omega⟩
/-- A query row of a grid point's block. -/
def query (t : Fin cfg0.N) (r : Fin 512) : Fin 4096 := ⟨t.val % 8 * 512 + r.val, by omega⟩
/-- A lane of a grid point's block. -/
def lane (t : Fin cfg0.N) (x : Fin 128) : Fin 512 := ⟨(head t).val * 128 + x.val, by omega⟩

/-! ## The blocks' entries -/

theorem q_block (c : Dev nD) (t : Fin cfg0.N) (r : Fin 512) (x : Fin 128) :
    iblk m c 1 t (ix3 0 r x) = m ((c : Thread nD τ).loc main_arg0) (ix3 (batch t) (query t r) (lane t x)) := by
  unfold batch query lane head
  blk_point [iblk, V, idx t]

theorem k_block (c : Dev nD) (t : Fin cfg0.N) (j : Fin 4096) (x : Fin 128) :
    iblk m c 2 t (ix3 0 j x) = m ((c : Thread nD τ).loc main_arg1) (ix3 (batch t) j (lane t x)) := by
  unfold batch lane head
  blk_point [iblk, V, idx t]

theorem v_block (c : Dev nD) (t : Fin cfg0.N) (j : Fin 4096) (x : Fin 128) :
    iblk m c 3 t (ix3 0 j x) = m ((c : Thread nD τ).loc main_arg2) (ix3 (batch t) j (lane t x)) := by
  unfold batch lane head
  blk_point [iblk, V, idx t]

theorem g_block (c : Dev nD) (t : Fin cfg0.N) (x : Fin 128) :
    iblk m c 4 t (ix2 0 x) = m ((c : Thread nD τ).loc main_arg7) (ix1 x) := by
  blk_point [iblk, V, idx t]

theorem lam_block (c : Dev nD) (t : Fin cfg0.N) :
    lamWord (F := Ideal) (iblk m c 0 t) = val_main_v10 (F := Ideal) (m ((c : Thread nD τ).loc main_arg3)) (m ((c : Thread nD τ).loc main_arg4))
      (m ((c : Thread nD τ).loc main_arg5)) (m ((c : Thread nD τ).loc main_arg6)) ix0 := by
  have f : (Shape.Idx.first (by decide) : S1.Idx) = ix1 0 := funext fun a => match a with | ⟨0, _⟩ => rfl
  have e : lamWord (F := Ideal) (iblk m c 0 t) = iblk m c 0 t (ix1 0) := congrArg (iblk m c 0 t) f
  rw [e]
  blk_simp [iblk, idx t]
  entry_read
  pointwise [val_main_v10, val_main_v9, val_main_v8, val_main_v7, val_main_v6, val_main_v5, val_main_v4, val_main_v3, val_main_cst, val_main_cst_0, val_main_cst_1]

/-- The factor of the second softmax is a real when the four lambda vectors are. -/
theorem lam_real {x3 x4 x5 x6 : FVec Ideal S64 .f32} (h3 : ∀ i, ∃ r : ℝ, x3 i = (r : EReal)) (h4 : ∀ i, ∃ r : ℝ, x4 i = (r : EReal))
    (h5 : ∀ i, ∃ r : ℝ, x5 i = (r : EReal)) (h6 : ∀ i, ∃ r : ℝ, x6 i = (r : EReal)) :
    ∃ lam : ℝ, ∀ i, val_main_v10 (F := Ideal) x3 x4 x5 x6 i = (lam : EReal) := by
  choose a ha using h3
  choose b hb using h4
  choose d hd using h5
  choose e he using h6
  have w : Ideal.ofBits FTy.f32 1045220557#32 = (((13421773 : ℝ) / 67108864 : ℝ) : EReal) := by
    simp [Ideal.ofBits, Ideal.ieee, -EReal.coe_mul]; norm_num
  refine ⟨Real.exp (∑ x : Fin 64, a (ix1 x) * b (ix1 x)) - Real.exp (∑ x : Fin 64, d (ix1 x) * e (ix1 x)) + 13421773 / 67108864, fun i => ?_⟩
  have hi : i = ix0 := funext fun k => k.elim0
  subst hi
  pointwise [val_main_v10, val_main_v9, val_main_v8, val_main_v7, val_main_v6, val_main_v5, val_main_v4, val_main_v3, val_main_cst, val_main_cst_0, val_main_cst_1]
  simp only [ha, hb, hd, he, ← EReal.coe_mul, sum_real, Ideal.exp_coe, w, ← EReal.coe_sub, ← EReal.coe_add]

/-- The result array after the run is the reference's last stage over the argument arrays, when the values and the lambda
    vectors are finite. -/
theorem final (c : Dev nD)
    (h2 : ∀ i, ∃ r : ℝ, m ((c : Thread nD τ).loc main_arg2) i = (r : EReal)) (h3 : ∀ i, ∃ r : ℝ, m ((c : Thread nD τ).loc main_arg3) i = (r : EReal))
    (h4 : ∀ i, ∃ r : ℝ, m ((c : Thread nD τ).loc main_arg4) i = (r : EReal)) (h5 : ∀ i, ∃ r : ℝ, m ((c : Thread nD τ).loc main_arg5) i = (r : EReal))
    (h6 : ∀ i, ∃ r : ℝ, m ((c : Thread nD τ).loc main_arg6) i = (r : EReal)) :
    (dats m 0 c).arrAt 5 (cfgs 0).N
      = val_main_v52 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  obtain ⟨lam, hlam⟩ := lam_real h3 h4 h5 h6
  choose W hW using h2
  refine (dats m 0 c).arrAt_eq_of_covers 5 _ (by decide +kernel) fun t _ y => ?_
  blk_simp
  rw [after0_5]
  unfold outAt
  idx_vars y
  have hy : y0 = 0 := Subsingleton.elim _ _
  subst hy
  rw [attOut_row (km := kmAt m c t) (lam := lam) (Q := fun r x => m ((c : Thread nD τ).loc main_arg0) (ix3 (batch t) (query t r) (lane t x)))
    (K := fun j x => m ((c : Thread nD τ).loc main_arg1) (ix3 (batch t) j (lane t x))) (V := fun j x => W (ix3 (batch t) j (lane t x)))
    ((lam_block m c t).trans (hlam _)) (fun r x => q_block m c t r x) (fun j x => k_block m c t j x) (fun j x => by rw [v_block, hW])
    (fun j x => pay8_ge (k := iblk m c 2 t) (fun j x => k_block m c t j x) j x), g_block]
  have r := Cert.ReferenceIdeal.Entry.result (V := fun b i x => W (ix3 b i x)) (x0 := m ((c : Thread nD τ).loc main_arg0))
    (x1 := m ((c : Thread nD τ).loc main_arg1)) (m ((c : Thread nD τ).loc main_arg7)) (fun b i x => hW _) hlam (batch t) (query t y1) (head t) y2
  refine r.symm.trans (congrArg _ ?_)
  unfold batch query head
  blk_ext [idx t]

end Cert.KernelIdeal.Value
-- ==== Proof.DenseIdeal.Value.lean ====
/-
The dense SwiGLU kernel's value: the result array it leaves is the reference's, at the exact instance. The kernel sums the
hidden features in eleven chunks (ten of 256, the last of 192); the reference sums all 2752 at once.
-/
module

public import proofs.«01_k».proof.Proof.Gen.DenseIdeal.Frame
public import proofs.«01_k».proof.Proof.Gen.DenseReferenceIdeal.Run
public import proofs.«01_k».proof.Proof.Gen.DenseReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DenseIdeal.Value

open Cert.DenseIdeal Cert.DenseIdeal.Gen Cert.DenseReferenceIdeal.Read

variable (m : (ℓ : Loc nD τ sig) → Buf (Elt Ideal) ℓ)

/-- Each window's block index at a grid point: the rows move with the point, the weights stay. -/
theorem idx : ∀ t : Fin cfg0.N, win0_0.index t = ![t.val, 0] ∧ win0_1.index t = ![t.val, 0] ∧ win0_2.index t = ![0, 0, 0]
    ∧ win0_3.index t = ![0, 0, 0] ∧ win0_4.index t = ![0, 0, 0] ∧ win0_5.index t = ![t.val, 0] :=
  (by decide +kernel : ∀ t : Fin grid0.N, _)

/-- A sum over an initial segment, and what follows it. -/
theorem sum_fin_add (a b : ℕ) (f : Fin (a + b) → EReal) :
    ∑ k, f k = ∑ k : Fin a, f ⟨k.val, by omega⟩ + ∑ k : Fin b, f ⟨a + k.val, by omega⟩ := by
  rw [Fin.sum_univ_add]; rfl

/-- The sum over the hidden features is the sum of its eleven chunks. -/
theorem sum_chunks (f : Fin 2752 → EReal) :
    ∑ k, f k = ∑ k : Fin 256, f ⟨k.val, by omega⟩ + ∑ k : Fin 256, f ⟨256 + k.val, by omega⟩ + ∑ k : Fin 256, f ⟨512 + k.val, by omega⟩
      + ∑ k : Fin 256, f ⟨768 + k.val, by omega⟩ + ∑ k : Fin 256, f ⟨1024 + k.val, by omega⟩ + ∑ k : Fin 256, f ⟨1280 + k.val, by omega⟩
      + ∑ k : Fin 256, f ⟨1536 + k.val, by omega⟩ + ∑ k : Fin 256, f ⟨1792 + k.val, by omega⟩ + ∑ k : Fin 256, f ⟨2048 + k.val, by omega⟩
      + ∑ k : Fin 256, f ⟨2304 + k.val, by omega⟩ + ∑ k : Fin 192, f ⟨2560 + k.val, by omega⟩ := by
  rw [sum_fin_add 2560 192 f, sum_fin_add 2304 256, sum_fin_add 2048 256, sum_fin_add 1792 256, sum_fin_add 1536 256,
    sum_fin_add 1280 256, sum_fin_add 1024 256, sum_fin_add 768 256, sum_fin_add 512 256, sum_fin_add 256 256]

/-- One hidden feature's part of an entry of the feed-forward's output, over one block of rows and the whole weights. -/
def hid (x : FVec Ideal S512x1024 .bf16) (a b : FVec Ideal S1x1024x2752 .bf16) (w : FVec Ideal S1x2752x1024 .bf16)
    (r : Fin 512) (n : Fin 1024) (f : Fin 2752) : EReal :=
  ((∑ k : Fin 1024, x (ix2 r k) * a (ix3 0 k f)) * Ideal.logistic (∑ k : Fin 1024, x (ix2 r k) * a (ix3 0 k f))
    * ∑ k : Fin 1024, x (ix2 r k) * b (ix3 0 k f)) * w (ix3 0 f n)

/-- The result array after the run is the reference's last stage over the argument arrays. -/
theorem final (c : Dev nD) : (dats m 0 c).arrAt 5 (cfgs 0).N
    = val_main_v9 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  idx_vars y
  pointwise [k0_pay1, k0_pay2, k0_pay3, k0_pay4, k0_pay5, k0_pay6, k0_pay7, r0_1, r0_2, r0_3, r0_4, r0_5, r0_6, r0_7, r0_8, r0_9,
    r0_10, r0_11, r0_12, r0_13, r0_14, r0_15, r0_16, r0_17, r0_18, r0_19, r0_20, r0_21, r0_22]
  have key := sum_chunks (hid (iblk m c 0 t) (iblk m c 2 t) (iblk m c 3 t) (iblk m c 4 t) y0 y1)
  simp only [hid] at key
  rw [← key]
  clear key
  unfold Ideal.logistic
  pointwise [val_main_v9, val_main_v8, val_main_v7, val_main_v6, val_main_v5, val_main_call0_v5, val_main_call0_v4, val_main_call0_cst_0,
    val_main_call0_v3, val_main_call0_v2, val_main_call0_cst, val_main_call0_v1, val_main_call0_v0, val_main_v4, val_main_v3, val_main_v2, val_main_v1, val_main_v0]
  blk_point [iblk, V, idx t]

end Cert.DenseIdeal.Value
-- ==== Proof.MergeIdeal.Value.lean ====
/-
The merge kernel's value: the two result arrays it leaves are the reference's, at the exact instance.
-/
module

public import proofs.«01_k».proof.Proof.Gen.MergeIdeal.Frame
public import proofs.«01_k».proof.Proof.Gen.MergeReferenceIdeal.Run
public import proofs.«01_k».proof.Proof.Gen.MergeReferenceIdeal.Read
public import proofs.«01_k».proof.Proof.Merge.Row
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen Cert.MergeReferenceIdeal.Read Cert.MergeRow

/-! ## One block -/

theorem half_congr (yh : Fin 4 → Fin 256 → Fin 128 → BitVec 32) {a a' : Fin 4} {b b' : Fin 256} {l l' : Fin 128} {p : ℕ}
    (ha : a = a') (hb : b = b') (hl : l = l') : half (yh a b l) p = half (yh a' b' l') p := by
  subst ha hb hl; rfl

/-- The gated sum of a block's entry. -/
theorem pay3_apply (w0 w1 w2 w3 : Vec Ideal S1x256x128 .i32) (who wao : Vec Ideal S512x1024 .bf16) (ya : Vec Ideal S512x512 .bf16)
    (gh ga : Vec Ideal S512x1024 .bf16) (yh : Fin 4 → Fin 256 → Fin 128 → BitVec 32) (h0 : ∀ i l, w0 (ix3 0 i l) = yh 0 i l)
    (h1 : ∀ i l, w1 (ix3 0 i l) = yh 1 i l) (h2 : ∀ i l, w2 (ix3 0 i l) = yh 2 i l) (h3 : ∀ i l, w3 (ix3 0 i l) = yh 3 i l)
    (r : Fin 512) (n : Fin 1024) :
    k0_pay3 (F := Ideal) w0 w1 w2 w3 who ya wao gh ga (ix2 r n)
      = gated (fun x => half (yh ⟨x.val / 128, by omega⟩ ⟨r.val / 2, by omega⟩ ⟨x.val % 128, by omega⟩) (r.val % 2)) (fun x => ya (ix2 r x))
        (fun x => who (ix2 x n)) (fun x => wao (ix2 x n)) (gh (ix2 r n)) (ga (ix2 r n)) := by
  pointwise [k0_pay3]
  unfold gated
  refine congrArg₂ (· + ·) (congrArg₂ (· * ·) rfl (Finset.sum_congr rfl fun x _ => congrArg₂ (· * ·) ?_ rfl)) rfl
  have hx := x.isLt
  by_cases a0 : x.val < 128
  · rw [dif_pos a0, half_of_bitcast]; pointwise []; rw [h0]
    exact half_congr yh (Fin.ext (show 0 = x.val / 128 by omega)) rfl (Fin.ext (show x.val = x.val % 128 by omega))
  rw [dif_neg a0]
  by_cases a1 : x.val - 128 < 128
  · rw [dif_pos a1, half_of_bitcast]; pointwise []; rw [h1]
    exact half_congr yh (Fin.ext (show 1 = x.val / 128 by omega)) rfl (Fin.ext (show x.val - 128 = x.val % 128 by omega))
  rw [dif_neg a1]
  by_cases a2 : x.val - 128 - 128 < 128
  · rw [dif_pos a2, half_of_bitcast]; pointwise []; rw [h2]
    exact half_congr yh (Fin.ext (show 2 = x.val / 128 by omega)) rfl (Fin.ext (show x.val - 128 - 128 = x.val % 128 by omega))
  rw [dif_neg a2]
  have a3 : x.val - 128 - 128 - 128 < 128 := by omega
  rw [half_of_bitcast]; pointwise []; rw [h3]
  exact half_congr yh (Fin.ext (show 3 = x.val / 128 by omega)) rfl (Fin.ext (show x.val - 128 - 128 - 128 = x.val % 128 by omega))

theorem pay1_apply (x : Vec Ideal S512x1024 .f32) (mg : FVec Ideal S512x1024 .bf16) (w : Vec Ideal S1024x1024 .bf16) (r : Fin 512) (d : Fin 1024) :
    k0_pay1 (F := Ideal) x mg w (ix2 r d) = stream (x (ix2 r d)) (fun k => mg (ix2 r k)) (fun k => w (ix2 k d)) := by
  pointwise [k0_pay1]
  rfl

theorem pay2_apply (x : Vec Ideal S512x1024 .f32) (mg : FVec Ideal S512x1024 .bf16) (w : Vec Ideal S1024x1024 .bf16) (g : Vec Ideal S1x1024 .f32)
    (r : Fin 512) (d : Fin 1024) :
    k0_pay2 (F := Ideal) x mg w g (ix2 r d)
      = normed (fun e => stream (x (ix2 r e)) (fun k => mg (ix2 r k)) (fun k => w (ix2 k e))) (g (ix2 0 d)) d := by
  pointwise [k0_pay2]
  simp only [pay1_apply]
  rfl

/-! ## The reference's entries -/

section Ref

open Cert.MergeReferenceIdeal

variable (x0 : FVec Ideal Cert.MergeReferenceIdeal.S32768x1024 .f32) (x1 : IVec Cert.MergeReferenceIdeal.S4x16384x128 32)
  (x2 : FVec Ideal Cert.MergeReferenceIdeal.S32768x512 .bf16) (x3 : FVec Ideal Cert.MergeReferenceIdeal.S32768x2048 .bf16)
  (x4 x5 : FVec Ideal Cert.MergeReferenceIdeal.S512x1024 .f32) (x6 : FVec Ideal Cert.MergeReferenceIdeal.S1024x1024 .f32)
  (x7 : FVec Ideal Cert.MergeReferenceIdeal.S1024 .f32)

/-- One lane of the reference's gated sum, over the argument arrays. -/
def refGated (R : Fin 32768) (n : Fin 1024) : EReal :=
  gated (fun x => half (x1 (ix3 ⟨x.val / 128, by omega⟩ ⟨R.val / 2, by omega⟩ ⟨x.val % 128, by omega⟩)) (R.val % 2)) (fun x => x2 (ix2 R x))
    (fun x => x4 (ix2 x n)) (fun x => x5 (ix2 x n)) (x3 (ix2 R ⟨n.val, by omega⟩)) (x3 (ix2 R ⟨1024 + n.val, by omega⟩))

/-- One lane of the reference's residual stream. -/
def refStream (R : Fin 32768) (d : Fin 1024) : EReal :=
  stream (x0 (ix2 R d)) (refGated x1 x2 x3 x4 x5 R) (fun k => x6 (ix2 k d))

theorem ref_rows (R : Fin 32768) (n : Fin 512) :
    val_main_v3 (F := Ideal) x1 (ix2 R n)
      = half (x1 (ix3 ⟨n.val / 128, by omega⟩ ⟨R.val / 2, by omega⟩ ⟨n.val % 128, by omega⟩)) (R.val % 2) := by
  pointwise [val_main_v3, val_main_v2, val_main_v1, val_main_v0]
  unfold half
  rw [Nat.mul_comm 16]
  refine congrArg (fun i => Ideal.ofBits FTy.bf16 ((x1 i).extractLsb' (R.val % 2 * 16) 16)) ?_
  funext a
  match a with
  | ⟨0, _⟩ => rfl
  | ⟨1, _⟩ => rfl
  | ⟨2, _⟩ => rfl

theorem ref_gated (R : Fin 32768) (n : Fin 1024) : val_main_v18 (F := Ideal) x1 x2 x3 x4 x5 (ix2 R n) = refGated x1 x2 x3 x4 x5 R n := by
  pointwise [val_main_v18, val_main_v17, val_main_v16, val_main_v15, val_main_v14, val_main_v13, val_main_v12, val_main_v11, val_main_v10,
    val_main_v9, val_main_v8, val_main_v7, val_main_v6, val_main_v5, val_main_v4, val_main_cst, val_main_cst_0]
  simp only [ref_rows]
  unfold refGated gated Ideal.logistic
  rfl

theorem ref_stream (R : Fin 32768) (d : Fin 1024) :
    val_main_v20 (F := Ideal) x0 x1 x2 x3 x4 x5 x6 (ix2 R d) = refStream x0 x1 x2 x3 x4 x5 x6 R d := by
  pointwise [val_main_v20, val_main_v19]
  simp only [ref_gated]
  rfl

theorem ref_normed (R : Fin 32768) (d : Fin 1024) :
    val_main_v34 (F := Ideal) x0 x1 x2 x3 x4 x5 x6 x7 (ix2 R d) = normed (refStream x0 x1 x2 x3 x4 x5 x6 R) (x7 (ix1 d)) d := by
  pointwise [val_main_v34, val_main_v33, val_main_v32, val_main_v31, val_main_v30, val_main_v29, val_main_v28, val_main_v27, val_main_v26,
    val_main_v25, val_main_v24, val_main_v23, val_main_v22, val_main_v21, val_main_cst_1, val_main_cst_2, val_main_cst_3]
  simp only [ref_stream]
  rfl

end Ref

/-! ## The blocks of a grid point -/

variable (m : (ℓ : Loc nD τ sig) → Buf (Elt Ideal) ℓ)

/-- Each window's block index at a grid point: the rows move with the point, the weights stay. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 1] ∧ win0_5.index t = ![0, 0] ∧ win0_6.index t = ![0, 0]
    ∧ win0_7.index t = ![0, 0] ∧ win0_8.index t = ![0, 0] ∧ win0_9.index t = ![t.val, 0] ∧ win0_10.index t = ![t.val, 0] :=
  (by decide +kernel : ∀ t : Fin grid0.N, _)

/-- Row `r` of grid point `t`'s blocks is this row of the arrays. -/
def row (t : Fin cfg0.N) (r : Fin 512) : Fin 32768 := ⟨t.val * 512 + r.val, by have h : t.val < 64 := t.isLt; omega⟩

variable (c : Dev nD) (t : Fin cfg0.N)

theorem x_leaf (r : Fin 512) (d : Fin 1024) : iblk m c 0 t (ix2 r d) = m ((c : Thread nD τ).loc main_arg0) (ix2 (row t r) d) := by
  unfold row; blk_point [iblk, V, idx t]

theorem yh_leaf (j : Fin 4) (i : Fin 256) (l : Fin 128) : iblk m c 1 t (ix3 j i l)
    = m ((c : Thread nD τ).loc main_arg1) (ix3 j ⟨t.val * 256 + i.val, by have h : t.val < 64 := t.isLt; omega⟩ l) := by
  blk_point [iblk, V, idx t]

theorem ya_leaf (r : Fin 512) (x : Fin 512) : iblk m c 2 t (ix2 r x) = m ((c : Thread nD τ).loc main_arg2) (ix2 (row t r) x) := by
  unfold row; blk_point [iblk, V, idx t]

theorem gh_leaf (r : Fin 512) (n : Fin 1024) :
    iblk m c 3 t (ix2 r n) = m ((c : Thread nD τ).loc main_arg3) (ix2 (row t r) ⟨n.val, by omega⟩) := by
  unfold row; blk_point [iblk, V, idx t]

theorem ga_leaf (r : Fin 512) (n : Fin 1024) :
    iblk m c 4 t (ix2 r n) = m ((c : Thread nD τ).loc main_arg3) (ix2 (row t r) ⟨1024 + n.val, by omega⟩) := by
  unfold row; blk_point [iblk, V, idx t]

theorem who_leaf (x : Fin 512) (n : Fin 1024) : iblk m c 5 t (ix2 x n) = m ((c : Thread nD τ).loc main_arg4) (ix2 x n) := by
  blk_point [iblk, V, idx t]

theorem wao_leaf (x : Fin 512) (n : Fin 1024) : iblk m c 6 t (ix2 x n) = m ((c : Thread nD τ).loc main_arg5) (ix2 x n) := by
  blk_point [iblk, V, idx t]

theorem wout_leaf (x : Fin 1024) (n : Fin 1024) : iblk m c 7 t (ix2 x n) = m ((c : Thread nD τ).loc main_arg6) (ix2 x n) := by
  blk_point [iblk, V, idx t]

theorem g_leaf (n : Fin 1024) : iblk m c 8 t (ix2 0 n) = m ((c : Thread nD τ).loc main_arg7) (ix1 n) := by
  blk_point [iblk, V, idx t]

/-- The gated sum of a grid point's block is the reference's, row by row. -/
theorem pay4_apply (r : Fin 512) (n : Fin 1024) :
    k0_pay4 (F := Ideal) (iblk m c 0 t) (iblk m c 1 t) (iblk m c 2 t) (iblk m c 3 t) (iblk m c 4 t) (iblk m c 5 t) (iblk m c 6 t)
        (iblk m c 7 t) (iblk m c 8 t) (ix2 r n)
      = refGated (m ((c : Thread nD τ).loc main_arg1)) (m ((c : Thread nD τ).loc main_arg2)) (m ((c : Thread nD τ).loc main_arg3))
        (m ((c : Thread nD τ).loc main_arg4)) (m ((c : Thread nD τ).loc main_arg5)) (row t r) n := by
  unfold k0_pay4
  rw [pay3_apply _ _ _ _ _ _ _ _ _ (fun j i l => iblk m c 1 t (ix3 j i l)) (fun i l => by pointwise [r0_0]) (fun i l => by pointwise [r0_1])
    (fun i l => by pointwise [r0_2]) (fun i l => by pointwise [r0_3])]
  have h : t.val < 64 := t.isLt
  refine gated_congr (fun x => ?_) (fun x => ?_) (fun x => ?_) (fun x => ?_) ?_ ?_
  · rw [yh_leaf]
    refine congrArg₂ half (congrArg _ (congrArg₂ (fun a b => ix3 a b _) rfl (Fin.ext ?_))) ?_
    · show t.val * 256 + r.val / 2 = (t.val * 512 + r.val) / 2
      omega
    · show r.val % 2 = (t.val * 512 + r.val) % 2
      omega
  · pointwise [r0_5]; exact ya_leaf m c t r x
  · pointwise [r0_4]; exact who_leaf m c t x n
  · pointwise [r0_4]; exact wao_leaf m c t x n
  · pointwise [r0_4]; exact gh_leaf m c t r n
  · pointwise [r0_4]; exact ga_leaf m c t r n

/-- The residual stream of a grid point's block is the reference's. -/
theorem stream_apply (r : Fin 512) (d : Fin 1024) :
    stream (iblk m c 0 t (ix2 r d)) (fun k => k0_pay4 (F := Ideal) (iblk m c 0 t) (iblk m c 1 t) (iblk m c 2 t) (iblk m c 3 t)
        (iblk m c 4 t) (iblk m c 5 t) (iblk m c 6 t) (iblk m c 7 t) (iblk m c 8 t) (ix2 r k)) (fun k => iblk m c 7 t (ix2 k d))
      = refStream (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (row t r) d := by
  unfold refStream
  exact stream_congr (x_leaf m c t r d) (fun k => pay4_apply m c t r k) (fun k => wout_leaf m c t k d)

/-- The stream's array after the run is the reference's first result over the argument arrays. -/
theorem final_stream : (dats m 0 c).arrAt 9 (cfgs 0).N
    = val_main_v20 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 9 _ (by decide +kernel) fun t _ y => ?_
  blk_simp
  rw [after0_9]; frame_out
  idx_vars y
  pointwise [r0_4]
  rw [pay1_apply]
  pointwise [r0_4, r0_6]
  rw [stream_apply m c t]
  refine (ref_stream _ _ _ _ _ _ _ (row t y0) y1).symm.trans ?_
  unfold row
  blk_point [idx t]

/-- The norm's array after the run is the reference's second result over the argument arrays. -/
theorem final_norm : (dats m 0 c).arrAt 10 (cfgs 0).N
    = val_main_v34 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 10 _ (by decide +kernel) fun t _ y => ?_
  blk_simp
  rw [after0_10]; frame_out
  idx_vars y
  pointwise [r0_4]
  rw [pay2_apply]
  pointwise [r0_4, r0_6, r0_7]
  simp only [stream_apply m c t, g_leaf m c t]
  refine (ref_normed _ _ _ _ _ _ _ _ (row t y0) y1).symm.trans ?_
  unfold row
  blk_point [idx t]

end Cert.MergeIdeal.Value
-- ==== Proof.RouterIdeal.Value.lean ====
/-
The value of the merge kernel with the router: the three result arrays it leaves are the reference's, at the exact instance.
-/
module

public import proofs.«01_k».proof.Proof.Gen.RouterIdeal.Frame
public import proofs.«01_k».proof.Proof.Gen.RouterReferenceIdeal.Run
public import proofs.«01_k».proof.Proof.Gen.RouterReferenceIdeal.Read
public import proofs.«01_k».proof.Proof.Merge.Row
public import Idealize.ShloMosaic.Lib.Pipeline.ValueKit
public import Idealize.ShloMosaic.Lib.Pointwise
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.RouterIdeal.Value

open Cert.RouterIdeal Cert.RouterIdeal.Gen Cert.RouterReferenceIdeal.Read Cert.MergeRow

/-! ## One block -/

theorem half_congr (yh : Fin 4 → Fin 256 → Fin 128 → BitVec 32) {a a' : Fin 4} {b b' : Fin 256} {l l' : Fin 128} {p : ℕ}
    (ha : a = a') (hb : b = b') (hl : l = l') : half (yh a b l) p = half (yh a' b' l') p := by
  subst ha hb hl; rfl

/-- The gated sum of a block's entry. -/
theorem gated_block (w0 w1 w2 w3 : Vec Ideal S1x256x128 .i32) (who wao : Vec Ideal S512x1024 .bf16) (ya : Vec Ideal S512x512 .bf16)
    (gh ga : Vec Ideal S512x1024 .bf16) (yh : Fin 4 → Fin 256 → Fin 128 → BitVec 32) (h0 : ∀ i l, w0 (ix3 0 i l) = yh 0 i l)
    (h1 : ∀ i l, w1 (ix3 0 i l) = yh 1 i l) (h2 : ∀ i l, w2 (ix3 0 i l) = yh 2 i l) (h3 : ∀ i l, w3 (ix3 0 i l) = yh 3 i l)
    (r : Fin 512) (n : Fin 1024) :
    k0_pay2 (F := Ideal) w0 w1 w2 w3 who ya wao gh ga (ix2 r n)
      = gated (fun x => half (yh ⟨x.val / 128, by omega⟩ ⟨r.val / 2, by omega⟩ ⟨x.val % 128, by omega⟩) (r.val % 2)) (fun x => ya (ix2 r x))
        (fun x => who (ix2 x n)) (fun x => wao (ix2 x n)) (gh (ix2 r n)) (ga (ix2 r n)) := by
  pointwise [k0_pay2]
  unfold gated
  refine congrArg₂ (· + ·) (congrArg₂ (· * ·) rfl (Finset.sum_congr rfl fun x _ => congrArg₂ (· * ·) ?_ rfl)) rfl
  have hx := x.isLt
  by_cases a0 : x.val < 128
  · rw [dif_pos a0, half_of_bitcast]; pointwise []; rw [h0]
    exact half_congr yh (Fin.ext (show 0 = x.val / 128 by omega)) rfl (Fin.ext (show x.val = x.val % 128 by omega))
  rw [dif_neg a0]
  by_cases a1 : x.val - 128 < 128
  · rw [dif_pos a1, half_of_bitcast]; pointwise []; rw [h1]
    exact half_congr yh (Fin.ext (show 1 = x.val / 128 by omega)) rfl (Fin.ext (show x.val - 128 = x.val % 128 by omega))
  rw [dif_neg a1]
  by_cases a2 : x.val - 128 - 128 < 128
  · rw [dif_pos a2, half_of_bitcast]; pointwise []; rw [h2]
    exact half_congr yh (Fin.ext (show 2 = x.val / 128 by omega)) rfl (Fin.ext (show x.val - 128 - 128 = x.val % 128 by omega))
  rw [dif_neg a2]
  have a3 : x.val - 128 - 128 - 128 < 128 := by omega
  rw [half_of_bitcast]; pointwise []; rw [h3]
  exact half_congr yh (Fin.ext (show 3 = x.val / 128 by omega)) rfl (Fin.ext (show x.val - 128 - 128 - 128 = x.val % 128 by omega))

theorem stream_block (x : Vec Ideal S512x1024 .f32) (mg : FVec Ideal S512x1024 .bf16) (w : Vec Ideal S1024x1024 .bf16) (r : Fin 512) (d : Fin 1024) :
    k0_pay3 (F := Ideal) x mg w (ix2 r d) = stream (x (ix2 r d)) (fun k => mg (ix2 r k)) (fun k => w (ix2 k d)) := by
  pointwise [k0_pay3]
  rfl

theorem norm_block (x : Vec Ideal S512x1024 .f32) (mg : FVec Ideal S512x1024 .bf16) (w : Vec Ideal S1024x1024 .bf16) (g : Vec Ideal S1x1024 .f32)
    (r : Fin 512) (d : Fin 1024) :
    k0_pay4 (F := Ideal) x mg w g (ix2 r d)
      = normed (fun e => stream (x (ix2 r e)) (fun k => mg (ix2 r k)) (fun k => w (ix2 k e))) (g (ix2 0 d)) d := by
  pointwise [k0_pay4]
  simp only [stream_block]
  rfl

/-! ## The reference's entries -/

section Ref

open Cert.RouterReferenceIdeal

variable (x0 : FVec Ideal Cert.RouterReferenceIdeal.S32768x1024 .f32) (x1 : IVec Cert.RouterReferenceIdeal.S4x16384x128 32)
  (x2 : FVec Ideal Cert.RouterReferenceIdeal.S32768x512 .bf16) (x3 : FVec Ideal Cert.RouterReferenceIdeal.S32768x2048 .bf16)
  (x4 x5 : FVec Ideal Cert.RouterReferenceIdeal.S512x1024 .f32) (x6 : FVec Ideal Cert.RouterReferenceIdeal.S1024x1024 .f32)
  (x7 : FVec Ideal Cert.RouterReferenceIdeal.S1024 .f32)

/-- One lane of the reference's gated sum, over the argument arrays. -/
def refGated (R : Fin 32768) (n : Fin 1024) : EReal :=
  gated (fun x => half (x1 (ix3 ⟨x.val / 128, by omega⟩ ⟨R.val / 2, by omega⟩ ⟨x.val % 128, by omega⟩)) (R.val % 2)) (fun x => x2 (ix2 R x))
    (fun x => x4 (ix2 x n)) (fun x => x5 (ix2 x n)) (x3 (ix2 R ⟨n.val, by omega⟩)) (x3 (ix2 R ⟨1024 + n.val, by omega⟩))

/-- One lane of the reference's residual stream. -/
def refStream (R : Fin 32768) (d : Fin 1024) : EReal :=
  stream (x0 (ix2 R d)) (refGated x1 x2 x3 x4 x5 R) (fun k => x6 (ix2 k d))

theorem ref_rows (R : Fin 32768) (n : Fin 512) :
    val_main_v3 (F := Ideal) x1 (ix2 R n)
      = half (x1 (ix3 ⟨n.val / 128, by omega⟩ ⟨R.val / 2, by omega⟩ ⟨n.val % 128, by omega⟩)) (R.val % 2) := by
  pointwise [val_main_v3, val_main_v2, val_main_v1, val_main_v0]
  unfold half
  rw [Nat.mul_comm 16]
  refine congrArg (fun i => Ideal.ofBits FTy.bf16 ((x1 i).extractLsb' (R.val % 2 * 16) 16)) ?_
  funext a
  match a with
  | ⟨0, _⟩ => rfl
  | ⟨1, _⟩ => rfl
  | ⟨2, _⟩ => rfl

theorem ref_gated (R : Fin 32768) (n : Fin 1024) : val_main_v18 (F := Ideal) x1 x2 x3 x4 x5 (ix2 R n) = refGated x1 x2 x3 x4 x5 R n := by
  pointwise [val_main_v18, val_main_v17, val_main_v16, val_main_v15, val_main_v14, val_main_v13, val_main_v12, val_main_v11, val_main_v10,
    val_main_v9, val_main_v8, val_main_v7, val_main_v6, val_main_v5, val_main_v4, val_main_cst, val_main_cst_0]
  simp only [ref_rows]
  unfold refGated gated Ideal.logistic
  rfl

theorem ref_stream (R : Fin 32768) (d : Fin 1024) :
    val_main_v20 (F := Ideal) x0 x1 x2 x3 x4 x5 x6 (ix2 R d) = refStream x0 x1 x2 x3 x4 x5 x6 R d := by
  pointwise [val_main_v20, val_main_v19]
  simp only [ref_gated]
  rfl

theorem ref_normed (R : Fin 32768) (d : Fin 1024) :
    val_main_v33 (F := Ideal) x0 x1 x2 x3 x4 x5 x6 x7 (ix2 R d) = normed (refStream x0 x1 x2 x3 x4 x5 x6 R) (x7 (ix1 d)) d := by
  pointwise [val_main_v33, val_main_v32, val_main_v31, val_main_v30, val_main_v29, val_main_v28, val_main_v27, val_main_v26,
    val_main_v25, val_main_v24, val_main_v23, val_main_v22, val_main_v21, val_main_cst_1, val_main_cst_2, val_main_cst_3]
  simp only [ref_stream]
  rfl

end Ref

/-! ## The blocks of a grid point -/

variable (m : (ℓ : Loc nD τ sig) → Buf (Elt Ideal) ℓ)

/-- Each window's block index at a grid point: the rows move with the point, the weights stay. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 1] ∧ win0_5.index t = ![0, 0] ∧ win0_6.index t = ![0, 0]
    ∧ win0_7.index t = ![0, 0] ∧ win0_8.index t = ![0, 0] ∧ win0_9.index t = ![0, 0] ∧ win0_10.index t = ![t.val, 0] ∧ win0_11.index t = ![t.val, 0]
    ∧ win0_12.index t = ![t.val, 0] :=
  (by decide +kernel : ∀ t : Fin grid0.N, _)

/-- Row `r` of grid point `t`'s blocks is this row of the arrays. -/
def row (t : Fin cfg0.N) (r : Fin 512) : Fin 32768 := ⟨t.val * 512 + r.val, by have h : t.val < 64 := t.isLt; omega⟩

variable (c : Dev nD) (t : Fin cfg0.N)

theorem x_leaf (r : Fin 512) (d : Fin 1024) : iblk m c 0 t (ix2 r d) = m ((c : Thread nD τ).loc main_arg0) (ix2 (row t r) d) := by
  unfold row; blk_point [iblk, V, idx t]

theorem yh_leaf (j : Fin 4) (i : Fin 256) (l : Fin 128) : iblk m c 1 t (ix3 j i l)
    = m ((c : Thread nD τ).loc main_arg1) (ix3 j ⟨t.val * 256 + i.val, by have h : t.val < 64 := t.isLt; omega⟩ l) := by
  blk_point [iblk, V, idx t]

theorem ya_leaf (r : Fin 512) (x : Fin 512) : iblk m c 2 t (ix2 r x) = m ((c : Thread nD τ).loc main_arg2) (ix2 (row t r) x) := by
  unfold row; blk_point [iblk, V, idx t]

theorem gh_leaf (r : Fin 512) (n : Fin 1024) :
    iblk m c 3 t (ix2 r n) = m ((c : Thread nD τ).loc main_arg3) (ix2 (row t r) ⟨n.val, by omega⟩) := by
  unfold row; blk_point [iblk, V, idx t]

theorem ga_leaf (r : Fin 512) (n : Fin 1024) :
    iblk m c 4 t (ix2 r n) = m ((c : Thread nD τ).loc main_arg3) (ix2 (row t r) ⟨1024 + n.val, by omega⟩) := by
  unfold row; blk_point [iblk, V, idx t]

theorem who_leaf (x : Fin 512) (n : Fin 1024) : iblk m c 5 t (ix2 x n) = m ((c : Thread nD τ).loc main_arg4) (ix2 x n) := by
  blk_point [iblk, V, idx t]

theorem wao_leaf (x : Fin 512) (n : Fin 1024) : iblk m c 6 t (ix2 x n) = m ((c : Thread nD τ).loc main_arg5) (ix2 x n) := by
  blk_point [iblk, V, idx t]

theorem wout_leaf (x : Fin 1024) (n : Fin 1024) : iblk m c 7 t (ix2 x n) = m ((c : Thread nD τ).loc main_arg6) (ix2 x n) := by
  blk_point [iblk, V, idx t]

theorem g_leaf (n : Fin 1024) : iblk m c 8 t (ix2 0 n) = m ((c : Thread nD τ).loc main_arg7) (ix1 n) := by
  blk_point [iblk, V, idx t]

/-- The gated sum of a grid point's block is the reference's, row by row. -/
theorem gated_apply (r : Fin 512) (n : Fin 1024) :
    k0_pay11 (F := Ideal) (iblk m c 0 t) (iblk m c 1 t) (iblk m c 2 t) (iblk m c 3 t) (iblk m c 4 t) (iblk m c 5 t) (iblk m c 6 t)
        (iblk m c 7 t) (iblk m c 8 t) (iblk m c 9 t) (ix2 r n)
      = refGated (m ((c : Thread nD τ).loc main_arg1)) (m ((c : Thread nD τ).loc main_arg2)) (m ((c : Thread nD τ).loc main_arg3))
        (m ((c : Thread nD τ).loc main_arg4)) (m ((c : Thread nD τ).loc main_arg5)) (row t r) n := by
  unfold k0_pay11
  rw [gated_block _ _ _ _ _ _ _ _ _ (fun j i l => iblk m c 1 t (ix3 j i l)) (fun i l => by pointwise [r0_0]) (fun i l => by pointwise [r0_1])
    (fun i l => by pointwise [r0_2]) (fun i l => by pointwise [r0_3])]
  have h : t.val < 64 := t.isLt
  refine gated_congr (fun x => ?_) (fun x => ?_) (fun x => ?_) (fun x => ?_) ?_ ?_
  · rw [yh_leaf]
    refine congrArg₂ half (congrArg _ (congrArg₂ (fun a b => ix3 a b _) rfl (Fin.ext ?_))) ?_
    · show t.val * 256 + r.val / 2 = (t.val * 512 + r.val) / 2
      omega
    · show r.val % 2 = (t.val * 512 + r.val) % 2
      omega
  · pointwise [r0_5]; exact ya_leaf m c t r x
  · pointwise [r0_4]; exact who_leaf m c t x n
  · pointwise [r0_4]; exact wao_leaf m c t x n
  · pointwise [r0_4]; exact gh_leaf m c t r n
  · pointwise [r0_4]; exact ga_leaf m c t r n

/-- The residual stream of a grid point's block is the reference's. -/
theorem stream_apply (r : Fin 512) (d : Fin 1024) :
    stream (iblk m c 0 t (ix2 r d)) (fun k => k0_pay11 (F := Ideal) (iblk m c 0 t) (iblk m c 1 t) (iblk m c 2 t) (iblk m c 3 t)
        (iblk m c 4 t) (iblk m c 5 t) (iblk m c 6 t) (iblk m c 7 t) (iblk m c 8 t) (iblk m c 9 t) (ix2 r k)) (fun k => iblk m c 7 t (ix2 k d))
      = refStream (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (row t r) d := by
  unfold refStream
  exact stream_congr (x_leaf m c t r d) (fun k => gated_apply m c t r k) (fun k => wout_leaf m c t k d)

/-- The stream's array after the run is the reference's first result over the argument arrays. -/
theorem final_stream : (dats m 0 c).arrAt 10 (cfgs 0).N
    = val_main_v20 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 10 _ (by decide +kernel) fun t _ y => ?_
  blk_simp
  rw [after0_10]; frame_out
  idx_vars y
  pointwise [r0_4]
  rw [stream_block]
  pointwise [r0_4, r0_6]
  rw [stream_apply m c t]
  refine (ref_stream _ _ _ _ _ _ _ (row t y0) y1).symm.trans ?_
  unfold row
  blk_point [idx t]

/-- The norm's array after the run is the reference's second result over the argument arrays. -/
theorem final_norm : (dats m 0 c).arrAt 11 (cfgs 0).N
    = val_main_v33 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 11 _ (by decide +kernel) fun t _ y => ?_
  blk_simp
  rw [after0_11]; frame_out
  idx_vars y
  pointwise [r0_4]
  rw [norm_block]
  pointwise [r0_4, r0_6, r0_7]
  simp only [stream_apply m c t, g_leaf m c t]
  refine (ref_normed _ _ _ _ _ _ _ _ (row t y0) y1).symm.trans ?_
  unfold row
  blk_point [idx t]

/-! ## The router's logits -/

/-- A choice made where a lane's number is `e`. -/
theorem select_lane (l : Fin 128) (e : ℕ) (he : e < 128) (a b : EReal) :
    Scalar.select (α := EReal) (IntOp.cmpi .eq (BitVec.ofNat 32 l.val) (BitVec.ofNat 32 e)) a b = if l.val = e then a else b := by
  have hl := l.isLt
  by_cases h : l.val = e
  · rw [if_pos h, h]; simp [Scalar.select, IntOp.cmpi]
  · have hne : BitVec.ofNat 32 l.val ≠ BitVec.ofNat 32 e := by
      intro hh
      have := congrArg BitVec.toNat hh
      simp only [BitVec.toNat_ofNat] at this
      omega
    have hb : (BitVec.ofNat 32 l.val == BitVec.ofNat 32 e) = false := beq_eq_false_iff_ne.mpr hne
    rw [if_neg h]; simp [Scalar.select, IntOp.cmpi, hb]

/-- A block of the logits: lane `e < 8` holds the row's sum against expert `e`'s weights, the lanes after the eighth hold zero. -/
theorem logits_block (x : Vec Ideal S512x1024 .f32) (mg : FVec Ideal S512x1024 .bf16) (w : Vec Ideal S1024x1024 .bf16) (g : Vec Ideal S1x1024 .f32)
    (w0 w1 w2 w3 w4 w5 w6 w7 : Vec Ideal S1x1024 .f32) (r : Fin 512) (l : Fin 128) :
    k0_pay1 (F := Ideal) (k0_pay4 x mg w g) (iota .tc S512x128 32 [1] iota_S512x128_d1_w32)
      (k0_pay8 (k0_pay4 x mg w g) (iota .tc S512x128 32 [1] iota_S512x128_d1_w32) (k0_pay5 x mg w g w0) k0_pay6 (k0_pay7 x mg w g w1) w2 w3 w4)
      (k0_pay9 (iota .tc S512x128 32 [1] iota_S512x128_d1_w32)) (k0_pay10 (k0_pay4 x mg w g) w5) w6 w7 (ix2 r l)
      = if h : l.val < 8 then ∑ k, k0_pay4 (F := Ideal) x mg w g (ix2 r k) * (![w0, w1, w2, w3, w4, w5, w6, w7] ⟨l.val, h⟩) (ix2 0 k) else 0 := by
  pointwise [k0_pay1, k0_pay8, k0_pay5, k0_pay6, k0_pay7, k0_pay9, k0_pay10]
  refine (select_lane l 7 (by decide) _ _).trans ?_
  rw [select_lane l 6 (by decide), select_lane l 5 (by decide), select_lane l 4 (by decide), select_lane l 3 (by decide),
    select_lane l 2 (by decide), select_lane l 1 (by decide), select_lane l 0 (by decide)]
  by_cases h : l.val < 8
  · rw [dif_pos h]
    obtain ⟨lv, hl⟩ := l
    dsimp only at h ⊢
    interval_cases lv <;> rfl
  · rw [dif_neg h, if_neg (by omega), if_neg (by omega), if_neg (by omega), if_neg (by omega), if_neg (by omega), if_neg (by omega),
      if_neg (by omega), if_neg (by omega)]

theorem ref_logits (x0 : FVec Ideal Cert.RouterReferenceIdeal.S32768x1024 .f32) (x1 : IVec Cert.RouterReferenceIdeal.S4x16384x128 32)
    (x2 : FVec Ideal Cert.RouterReferenceIdeal.S32768x512 .bf16) (x3 : FVec Ideal Cert.RouterReferenceIdeal.S32768x2048 .bf16)
    (x4 x5 : FVec Ideal Cert.RouterReferenceIdeal.S512x1024 .f32) (x6 : FVec Ideal Cert.RouterReferenceIdeal.S1024x1024 .f32)
    (x7 : FVec Ideal Cert.RouterReferenceIdeal.S1024 .f32) (x8 : FVec Ideal Cert.RouterReferenceIdeal.S1024x8 .f32) (R : Fin 32768) (l : Fin 128) :
    val_main_v35 (F := Ideal) x0 x1 x2 x3 x4 x5 x6 x7 x8 (ix2 R l) = if h : l.val < 8 then
        ∑ k, normed (refStream x0 x1 x2 x3 x4 x5 x6 R) (x7 (ix1 k)) k * x8 (ix2 k ⟨l.val, h⟩) else 0 := by
  pointwise [val_main_v35, val_main_v34, val_main_call0_v0, val_main_c]
  simp only [ref_normed]
  split
  · rfl
  · exact sitofp_zero (φ := .f32)

theorem router_leaf (e : Fin 8) (n : Fin 1024) : iblk m c 9 t (ix2 e n) = m ((c : Thread nD τ).loc main_arg8) (ix2 n e) := by
  blk_point [iblk, V, idx t]

/-- The logits' array after the run is the reference's third result over the argument arrays. -/
theorem final_logits : (dats m 0 c).arrAt 12 (cfgs 0).N
    = val_main_v35 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 12 _ (by decide +kernel) fun t _ y => ?_
  blk_simp
  rw [after0_12]; frame_out
  idx_vars y
  unfold k0_pay13 k0_pay12
  frame_out
  rw [logits_block]
  have key : (if h : y1.val < 8 then
        ∑ k, k0_pay4 (F := Ideal) (iblk m c 0 t) (k0_pay11 (iblk m c 0 t) (iblk m c 1 t) (iblk m c 2 t) (iblk m c 3 t) (iblk m c 4 t)
          (iblk m c 5 t) (iblk m c 6 t) (iblk m c 7 t) (iblk m c 8 t) (iblk m c 9 t)) (iblk m c 7 t) (iblk m c 8 t)
          (ix2 y0 k) * (![View.ld (iblk m c 9 t) r0_8, View.ld (iblk m c 9 t) r0_9, View.ld (iblk m c 9 t) r0_10, View.ld (iblk m c 9 t) r0_11,
            View.ld (iblk m c 9 t) r0_12, View.ld (iblk m c 9 t) r0_13, View.ld (iblk m c 9 t) r0_14, View.ld (iblk m c 9 t) r0_15]
            ⟨y1.val, h⟩) (ix2 0 k) else 0)
      = if h : y1.val < 8 then
        ∑ k, normed (refStream (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (row t y0)) (m ((c : Thread nD τ).loc main_arg7) (ix1 k)) k
          * m ((c : Thread nD τ).loc main_arg8) (ix2 k ⟨y1.val, h⟩) else 0 := by
    split
    · rename_i h
      refine Finset.sum_congr rfl fun k _ => congrArg₂ (· * ·) ?_ ?_
      · rw [norm_block]
        pointwise [r0_4, r0_6, r0_7]
        simp only [stream_apply m c t, g_leaf m c t]
      · refine Eq.trans ?_ (router_leaf m c t ⟨y1.val, h⟩ k)
        obtain ⟨lv, hl⟩ := y1
        dsimp only at h ⊢
        interval_cases lv
        · show View.ld (iblk m c 9 t) r0_8 (ix2 0 k) = _; pointwise [r0_8]
        · show View.ld (iblk m c 9 t) r0_9 (ix2 0 k) = _; pointwise [r0_9]
        · show View.ld (iblk m c 9 t) r0_10 (ix2 0 k) = _; pointwise [r0_10]
        · show View.ld (iblk m c 9 t) r0_11 (ix2 0 k) = _; pointwise [r0_11]
        · show View.ld (iblk m c 9 t) r0_12 (ix2 0 k) = _; pointwise [r0_12]
        · show View.ld (iblk m c 9 t) r0_13 (ix2 0 k) = _; pointwise [r0_13]
        · show View.ld (iblk m c 9 t) r0_14 (ix2 0 k) = _; pointwise [r0_14]
        · show View.ld (iblk m c 9 t) r0_15 (ix2 0 k) = _; pointwise [r0_15]
    · rfl
  refine key.trans ((ref_logits _ _ _ _ _ _ _ _ _ (row t y0) y1).symm.trans ?_)
  unfold row
  blk_point [idx t]

end Cert.RouterIdeal.Value
-- ==== Proof.InprojIdeal.Blocks.lean ====
/-
One block of the input projections: what the kernel's stored values are, lane by lane, from the blocks they read.
-/
module

public import proofs.«01_k».proof.Proof.Gen.InprojIdeal.Frame
public import proofs.«01_k».proof.Proof.Inproj.Row
public import Idealize.ShloMosaic.Lib.Pipeline.ValueKit
public import Idealize.ShloMosaic.Lib.Pointwise

@[expose] public section

set_option maxRecDepth 16384

noncomputable section

open Idealize.ShloMosaic

namespace Cert.InprojIdeal.Value

open Cert.InprojIdeal Cert.InprojIdeal.Gen Cert.MergeRow Cert.InprojRow

/-- The columns after the convolution's, of one row. -/
theorem rest_block (x : Vec Ideal S512x1024 .f32) (g : Vec Ideal S1x1024 .f32) (w : Vec Ideal S1024x3584 .bf16) (r : Fin 512) (n : Fin 3584) :
    k0_pay6 (F := Ideal) (k0_pay1 x g) w (ix2 r n) = proj (fun d => x (ix2 r d)) (fun d => g (ix2 0 d)) (fun d => w (ix2 d n)) := by
  pointwise [k0_pay6, k0_pay1]
  rfl

/-- A lane of the four heads' tile that starts at a given column, as every head's payload computes it. -/
def turned (z : FVec Ideal S512x3584 .f32) (cos sin : Vec Ideal S512x128 .f32) (b : IVec S512x128 1) (grp : Vec Ideal S128x128 .bf16)
    (g : Vec Ideal S1x128 .f32) (o : ℕ) (ho : o ≤ 3456) (r : Fin 512) (l : Fin 128) : EReal :=
  tileTurn (tileUnit (fun x => z (ix2 r ⟨o + x.val, by omega⟩)) (fun x l => grp (ix2 x l)) (fun l => g (ix2 0 l)))
    (b (ix2 r l)) (cos (ix2 r l)) (sin (ix2 r l)) l

section heads

variable (z : FVec Ideal S512x3584 .f32) (cos sin : Vec Ideal S512x128 .f32) (b : IVec S512x128 1) (grp : Vec Ideal S128x128 .bf16)
  (g : Vec Ideal S1x128 .f32) (r : Fin 512) (l : Fin 128)

theorem q0_block : k0_pay30 (F := Ideal) cos (k0_pay26 sin) b (k0_pay28 z grp) (k0_pay29 g) (ix2 r l)
    = turned z cos sin b grp g 0 (by omega) r l := by
  pointwise [k0_pay30, k0_pay26, k0_pay28, k0_pay29]; unfold turned tileTurn tileUnit eps; simp only [Nat.zero_add]

theorem q1_block : k0_pay31 (F := Ideal) z cos (k0_pay26 sin) b grp g (ix2 r l) = turned z cos sin b grp g 128 (by omega) r l := by
  pointwise [k0_pay31, k0_pay26]; rfl

theorem q2_block : k0_pay36 (F := Ideal) cos (k0_pay26 sin) b grp (k0_pay32 z) (k0_pay34 z) (k0_pay35 z) (constant S512x128 .f32 0x00000000#32) g (ix2 r l)
    = turned z cos sin b grp g 256 (by omega) r l := by
  pointwise [k0_pay36, k0_pay26, k0_pay32, k0_pay33, k0_pay34, k0_pay35]; rfl

theorem q3_block : k0_pay40 (F := Ideal) cos (k0_pay26 sin) b (k0_pay37 z grp g) (k0_pay38 z grp g) (k0_pay39 z grp g) (ix2 r l)
    = turned z cos sin b grp g 384 (by omega) r l := by
  pointwise [k0_pay40, k0_pay26, k0_pay37, k0_pay38, k0_pay39]; rfl

theorem k0_block : k0_pay41 (F := Ideal) z cos (k0_pay26 sin) b grp g (ix2 r l) = turned z cos sin b grp g 512 (by omega) r l := by
  pointwise [k0_pay41, k0_pay26]; rfl

theorem k1_block : k0_pay45 (F := Ideal) cos (k0_pay26 sin) b (k0_pay42 z) (k0_pay43 z grp) (k0_pay44 (F := Ideal)) g (ix2 r l)
    = turned z cos sin b grp g 640 (by omega) r l := by
  pointwise [k0_pay45, k0_pay26, k0_pay42, k0_pay43, k0_pay44]; rfl

theorem k2_block : k0_pay46 (F := Ideal) z cos (k0_pay26 sin) b grp g (ix2 r l) = turned z cos sin b grp g 768 (by omega) r l := by
  pointwise [k0_pay46, k0_pay26]; rfl

theorem k3_block : k0_pay47 (F := Ideal) z cos (k0_pay26 sin) b grp g (ix2 r l) = turned z cos sin b grp g 896 (by omega) r l := by
  pointwise [k0_pay47, k0_pay26]; rfl

theorem v_block (n : Fin 512) : k0_pay48 (F := Ideal) z (ix2 r n) = z (ix2 r ⟨1024 + n.val, by omega⟩) := by
  pointwise [k0_pay48]

theorem gate_block (n : Fin 2048) : k0_pay49 (F := Ideal) z (ix2 r n) = z (ix2 r ⟨1536 + n.val, by omega⟩) := by
  pointwise [k0_pay49]

/-- The mask of the lanes in the first half of their head. -/
theorem first_half : k0_pay27 (ix2 r l) = if l.val % 64 < 32 then 1#1 else 0#1 := by
  pointwise [k0_pay27]
  revert l
  decide

end heads

end Cert.InprojIdeal.Value
-- ==== Proof.InprojIdeal.Group.lean ====
/-
The group matrix of the projection call: one between lanes of the same half of 64, zero elsewhere.
-/
module

public import proofs.«01_k».proof.InprojIdeal

@[expose] public section

set_option maxRecDepth 16384

noncomputable section

open Idealize.ShloMosaic

namespace Cert.InprojIdeal.Value

theorem lit_group : ∀ i : Fin 16384, Cert.InprojIdeal.lit0 i = if i.val / 128 / 64 = i.val % 128 / 64 then 0x3F80#16 else 0x0000#16 := by
  decide +kernel

end Cert.InprojIdeal.Value
-- ==== Proof.InprojIdeal.Leaves.lean ====
/-
The blocks the input projections' kernel reads at a grid point, as entries of the argument arrays.
-/
module

public import proofs.«01_k».proof.Proof.Gen.InprojIdeal.Frame
public import proofs.«01_k».proof.Proof.InprojIdeal.Group
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.InprojIdeal.Value

open Cert.InprojIdeal Cert.InprojIdeal.Gen

variable (m : (l : Loc nD τ sig) → Buf (Elt Ideal) l)

theorem idx : ∀ t : Fin cfg0.N, win0_0.index t = ![t.val, 0] ∧ win0_1.index t = ![32 * t.val - 1, 0] ∧ win0_2.index t = ![min (32 * t.val + 32) 2047, 0]
    ∧ win0_3.index t = ![0, 0] ∧ win0_4.index t = ![0, 0] ∧ win0_5.index t = ![0, 0] ∧ win0_6.index t = ![t.val % 8, 0]
    ∧ win0_7.index t = ![t.val % 8, 0] ∧ win0_8.index t = ![0, 0] ∧ win0_9.index t = ![0, 0] ∧ win0_10.index t = ![0, 0]
    ∧ win0_11.index t = ![0, 0, t.val, 0] ∧ win0_12.index t = ![t.val, 0] ∧ win0_13.index t = ![t.val, 0] ∧ win0_14.index t = ![t.val, 0]
    ∧ win0_15.index t = ![t.val, 0] :=
  (by decide +kernel : ∀ t : Fin grid0.N, _)

/-- Row `r` of grid point `t`'s blocks is this row of the arrays. -/
def row (t : Fin cfg0.N) (r : Fin 512) : Fin 32768 := ⟨t.val * 512 + r.val, by have h : t.val < 64 := t.isLt; omega⟩

variable (c : Dev nD) (t : Fin cfg0.N)

theorem x_leaf (r : Fin 512) (d : Fin 1024) : iblk m c 0 t (ix2 r d) = m ((c : Thread nD τ).loc main_arg0) (ix2 (row t r) d) := by
  unfold row; blk_point [iblk, V, idx t]

/-- The rows before the block: sixteen rows, ending at the row before the block's first one. -/
theorem prev_leaf (r : Fin 16) (d : Fin 1024) : iblk m c 1 t (ix2 r d)
    = m ((c : Thread nD τ).loc main_arg0) (ix2 ⟨(32 * t.val - 1) * 16 + r.val, by have h : t.val < 64 := t.isLt; omega⟩ d) := by
  blk_point [iblk, V, idx t]

/-- The rows after the block. -/
theorem next_leaf (r : Fin 16) (d : Fin 1024) : iblk m c 2 t (ix2 r d)
    = m ((c : Thread nD τ).loc main_arg0) (ix2 ⟨min (32 * t.val + 32) 2047 * 16 + r.val, by have h : t.val < 64 := t.isLt; omega⟩ d) := by
  blk_point [iblk, V, idx t]

theorem g_leaf (d : Fin 1024) : iblk m c 3 t (ix2 0 d) = m ((c : Thread nD τ).loc main_arg1) (ix1 d) := by
  blk_point [iblk, V, idx t]

theorem w_leaf (d : Fin 1024) (n : Fin 5120) : iblk m c 4 t (ix2 d n) = m ((c : Thread nD τ).loc main_arg2) (ix2 d n) := by
  blk_point [iblk, V, idx t]

theorem cw_leaf (j : Fin 3) (n : Fin 1536) : iblk m c 5 t (ix2 j n) = m ((c : Thread nD τ).loc main_arg3) (ix2 j n) := by
  blk_point [iblk, V, idx t]

/-- The place of a block's row in its sequence. -/
theorem place_lt (r : Fin 512) : t.val % 8 * 512 + r.val < 4096 := by omega

theorem cos_leaf (r : Fin 512) (l : Fin 128) : iblk m c 6 t (ix2 r l)
    = m ((c : Thread nD τ).loc main_arg6) (ix2 ⟨t.val % 8 * 512 + r.val, place_lt t r⟩ ⟨l.val % 32, by omega⟩) := by
  blk_point [iblk, V, idx t]

/-- An entry of the sines' argument array. -/
def sinAt (R : Fin 4096) (d : Fin 32) : EReal := m ((c : Thread nD τ).loc main_arg7) (ix2 R d)

/-- An entry of the queries' gain. -/
def gainAt (d : Fin 64) : EReal := m ((c : Thread nD τ).loc main_arg4) (ix1 d)

theorem sin_halves (r : Fin 512) (l : Fin 128) : iblk m c 7 t (ix2 r l)
    = if h : l.val % 64 < 32 then (- sinAt m c ⟨t.val % 8 * 512 + r.val, place_lt t r⟩ ⟨l.val % 64, h⟩ : EReal)
      else sinAt m c ⟨t.val % 8 * 512 + r.val, place_lt t r⟩ ⟨l.val % 64 - 32, by omega⟩ := by
  have e : iblk m c 7 t (ix2 r l) = (V m c main_v8 : FVec Ideal S4096x128 .f32) (ix2 ⟨t.val % 8 * 512 + r.val, place_lt t r⟩ l) := by
    blk_point [iblk, idx t]
  rw [e]
  unfold sinAt
  entry_read
  pointwise

theorem sin_leaf (r : Fin 512) (l : Fin 128) : iblk m c 7 t (ix2 r l)
    = if l.val % 64 < 32 then (- sinAt m c ⟨t.val % 8 * 512 + r.val, place_lt t r⟩ ⟨l.val % 32, by omega⟩ : EReal)
      else sinAt m c ⟨t.val % 8 * 512 + r.val, place_lt t r⟩ ⟨l.val % 32, by omega⟩ := by
  rw [sin_halves]
  by_cases h : l.val % 64 < 32
  · rw [dif_pos h, if_pos h]
    exact congrArg (fun d => - sinAt m c _ d) (Fin.ext (by simp only []; omega))
  · rw [dif_neg h, if_neg h]
    exact congrArg (fun d => sinAt m c _ d) (Fin.ext (by simp only []; omega))

theorem qg_leaf (l : Fin 128) : iblk m c 8 t (ix2 0 l) = (gainAt m c ⟨l.val % 64, by omega⟩ * Ideal.ofBits FTy.f32 1043900987#32 : EReal) := by
  unfold gainAt
  blk_point [iblk, V, idx t]

theorem kg_leaf (l : Fin 128) : iblk m c 9 t (ix2 0 l) = m ((c : Thread nD τ).loc main_arg5) (ix1 ⟨l.val % 64, by omega⟩) := by
  blk_point [iblk, V, idx t]

theorem grp_word (x l : Fin 128) : iblk m c 10 t (ix2 x l) = FloatOps.ofBits (F := Ideal) .bf16 (lit0 (S128x128.rowMajor (ix2 x l))) := by
  blk_point [iblk, V, idx t]

theorem lit_at (x l : Fin 128) (i : Fin 16384) (h : i.val = x.val * 128 + l.val) :
    FloatOps.ofBits (F := Ideal) .bf16 (lit0 i) = if x.val / 64 = l.val / 64 then (1 : EReal) else 0 := by
  rw [lit_group, h]
  have h0 : (x.val * 128 + l.val) / 128 = x.val := by omega
  have h1 : (x.val * 128 + l.val) % 128 = l.val := by omega
  rw [h0, h1]
  by_cases h : x.val / 64 = l.val / 64
  · rw [if_pos h, if_pos h]; exact Ideal.ofBits_one_bf16
  · rw [if_neg h, if_neg h]; exact Ideal.ofBits_zero_bf16

/-- The group matrix: one where the two lanes lie in one head. -/
theorem grp_leaf (x l : Fin 128) : iblk m c 10 t (ix2 x l) = if x.val / 64 = l.val / 64 then (1 : EReal) else 0 := by
  refine (grp_word m c t x l).trans (lit_at x l _ ?_)
  exact Shape.rowMajor_val_two _

end Cert.InprojIdeal.Value
-- ==== Proof.InprojIdeal.Reference.lean ====
/-
The input projections' reference, entry by entry: its five results as functions of a row, a column and the neighbouring rows.
-/
module

public import proofs.«01_k».proof.Proof.Gen.InprojReferenceIdeal.Run
public import proofs.«01_k».proof.Proof.Gen.InprojReferenceIdeal.Read
public import proofs.«01_k».proof.Proof.Inproj.Row
public import Idealize.ShloMosaic.Lib.Pointwise
public import Idealize.ShloMosaic.Lib.KernelVsHost

@[expose] public section

set_option maxRecDepth 16384

noncomputable section

open Idealize.ShloMosaic

namespace Cert.InprojIdeal.Value

open Cert.InprojReferenceIdeal Cert.InprojReferenceIdeal.Read Cert.MergeRow Cert.InprojRow

/-- The projection of row `R`, column `n`. -/
def refProj (x0 : FVec Ideal S32768x1024 .f32) (x1 : FVec Ideal S1024 .f32) (x2 : FVec Ideal S1024x5120 .f32) (R : Fin 32768) (n : Fin 5120) : EReal :=
  proj (fun d => x0 (ix2 R d)) (fun d => x1 (ix1 d)) (fun d => x2 (ix2 d n))

/-- A lane of the short convolution at row `R`: the row before and the row after count only inside the sequence. -/
def refConv (x0 : FVec Ideal S32768x1024 .f32) (x1 : FVec Ideal S1024 .f32) (x2 : FVec Ideal S1024x5120 .f32) (x3 : FVec Ideal S3x1536 .f32)
    (R : Fin 32768) (n : Fin 1536) : EReal :=
  (if h : 1 ≤ R.val % 4096 then refProj x0 x1 x2 ⟨R.val - 1, by omega⟩ ⟨n.val, by omega⟩ else 0) * x3 (ix2 0 n)
    + refProj x0 x1 x2 R ⟨n.val, by omega⟩ * x3 (ix2 1 n)
    + (if h : R.val % 4096 < 4095 then refProj x0 x1 x2 ⟨R.val + 1, by omega⟩ ⟨n.val, by omega⟩ else 0) * x3 (ix2 2 n)

/-- A lane of a query or key head, its columns starting at `o`, turned by its row's angle. -/
def refHead (x0 : FVec Ideal S32768x1024 .f32) (x1 : FVec Ideal S1024 .f32) (x2 : FVec Ideal S1024x5120 .f32) (g : Fin 64 → EReal)
    (x6 x7 : FVec Ideal S4096x32 .f32) (o : ℕ) (ho : o ≤ 4608) (R : Fin 32768) (n : Fin 512) : EReal :=
  rope (fun d => headUnit (fun e => refProj x0 x1 x2 R ⟨o + (n.val / 64 * 64 + e.val), by omega⟩) (g d) d)
    (fun d => x6 (ix2 ⟨R.val % 4096, by omega⟩ d)) (fun d => x7 (ix2 ⟨R.val % 4096, by omega⟩ d)) ⟨n.val % 64, by omega⟩

variable (x0 : FVec Ideal S32768x1024 .f32) (x1 : FVec Ideal S1024 .f32) (x2 : FVec Ideal S1024x5120 .f32) (x3 : FVec Ideal S3x1536 .f32)
  (x4 x5 : FVec Ideal S64 .f32) (x6 x7 : FVec Ideal S4096x32 .f32)

theorem ref_proj (R : Fin 32768) (n : Fin 5120) : val_main_v13 (F := Ideal) x0 x1 x2 (ix2 R n) = refProj x0 x1 x2 R n := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem ref_v (R : Fin 32768) (n : Fin 512) : val_main_v107 (F := Ideal) x0 x1 x2 (ix2 R n) = refProj x0 x1 x2 R ⟨2560 + n.val, by omega⟩ := by
  pointwise [val_main_v107, val_main_v106]
  exact ref_proj _ _ _ _ _

theorem ref_gates (R : Fin 32768) (n : Fin 2048) : val_main_v109 (F := Ideal) x0 x1 x2 (ix2 R n) = refProj x0 x1 x2 R ⟨3072 + n.val, by omega⟩ := by
  pointwise [val_main_v109, val_main_v108]
  exact ref_proj _ _ _ _ _

theorem ref_q_unit (b : Fin 8) (s : Fin 4096) (h : Fin 8) (d : Fin 64) :
    val_main_v55 (F := Ideal) x0 x1 x2 x4 (ix4 b s h d)
      = headUnit (fun e => refProj x0 x1 x2 ⟨b.val * 4096 + s.val, by omega⟩ ⟨1536 + (h.val * 64 + e.val), by omega⟩)
        (x4 (ix1 d) * Ideal.ofBits FTy.f32 1043900987#32) d := by
  pointwise [val_main_v55, val_main_v54, val_main_v53, val_main_v52, val_main_v51, val_main_v50, val_main_v49, val_main_v48, val_main_v47,
    val_main_v46, val_main_v45, val_main_v44, val_main_v43, val_main_v42, val_main_v41, val_main_v40, val_main_v39, val_main_cst_2,
    val_main_cst_3, val_main_cst_4, val_main_cst_5]
  simp only [ref_proj]
  unfold headUnit eps
  exact mul_assoc _ _ _

theorem ref_k_unit (b : Fin 8) (s : Fin 4096) (h : Fin 8) (d : Fin 64) :
    val_main_v85 (F := Ideal) x0 x1 x2 x5 (ix4 b s h d)
      = headUnit (fun e => refProj x0 x1 x2 ⟨b.val * 4096 + s.val, by omega⟩ ⟨2048 + (h.val * 64 + e.val), by omega⟩) (x5 (ix1 d)) d := by
  pointwise [val_main_v85, val_main_v84, val_main_v83, val_main_v82, val_main_v81, val_main_v80, val_main_v79, val_main_v78, val_main_v77,
    val_main_v76, val_main_v75, val_main_v74, val_main_v73, val_main_v72, val_main_v71, val_main_cst_6, val_main_cst_7, val_main_cst_8]
  simp only [ref_proj]
  rfl

/-- A row's number from its sequence and its place there. -/
theorem row_split (R : Fin 32768) : (⟨R.val / 4096 * 4096 + R.val % 4096, by omega⟩ : Fin 32768) = R := Fin.ext (by simp only []; omega)

theorem ref_q (R : Fin 32768) (n : Fin 512) : val_main_v103 (F := Ideal) x0 x1 x2 x4 x6 x7 (ix2 R n)
    = refHead x0 x1 x2 (fun d => x4 (ix1 d) * Ideal.ofBits FTy.f32 1043900987#32) x6 x7 1536 (by omega) R n := by
  pointwise [val_main_v103, val_main_v102, val_main_v70, val_main_v69, val_main_v68, val_main_v67, val_main_v66, val_main_v65, val_main_v64,
    val_main_v63, val_main_v62, val_main_v61, val_main_v60, val_main_v59, val_main_v58, val_main_v57, val_main_v56]
  simp only [ref_q_unit, row_split]
  rfl

theorem ref_k (R : Fin 32768) (n : Fin 512) : val_main_v105 (F := Ideal) x0 x1 x2 x5 x6 x7 (ix2 R n)
    = refHead x0 x1 x2 (fun d => x5 (ix1 d)) x6 x7 2048 (by omega) R n := by
  pointwise [val_main_v105, val_main_v104, val_main_v100, val_main_v99, val_main_v98, val_main_v97, val_main_v96, val_main_v95, val_main_v94,
    val_main_v93, val_main_v92, val_main_v91, val_main_v90, val_main_v89, val_main_v88, val_main_v87, val_main_v86]
  simp only [ref_k_unit, row_split]
  rfl

theorem ref_conv (b : Fin 8) (s : Fin 4096) (n : Fin 1536) : val_main_v36 (F := Ideal) x0 x1 x2 x3 (ix3 b s n)
    = (if h : 1 ≤ s.val ∧ s.val - 1 < 4096 then refProj x0 x1 x2 ⟨b.val * 4096 + (s.val - 1), by omega⟩ ⟨n.val, by omega⟩ else 0) * x3 (ix2 0 n)
      + refProj x0 x1 x2 ⟨b.val * 4096 + s.val, by omega⟩ ⟨n.val, by omega⟩ * x3 (ix2 1 n)
      + (if h : 1 ≤ 2 + s.val ∧ 2 + s.val - 1 < 4096 then refProj x0 x1 x2 ⟨b.val * 4096 + (2 + s.val - 1), by omega⟩ ⟨n.val, by omega⟩ else 0)
        * x3 (ix2 2 n) := by
  pointwise [val_main_v36, val_main_v35, val_main_v34, val_main_v33, val_main_v32, val_main_v31,
    val_main_v30, val_main_v29, val_main_v28, val_main_v27, val_main_v26, val_main_v25, val_main_v24, val_main_v23, val_main_v22, val_main_v21,
    val_main_v20, val_main_v19, val_main_v18, val_main_v17, val_main_v16, val_main_call0_v0, val_main_c, val_main_v15, val_main_v14]
  have z : (FloatOps.sitofp FTy.f32 0#32 : Ideal .f32) = (0 : EReal) := sitofp_zero
  simp only [ref_proj, z]

theorem ref_u (s : Fin 3) (c : Fin 4) (R : Fin 32768) (l : Fin 128) : val_main_v101 (F := Ideal) x0 x1 x2 x3 (ix4 s c R l)
    = refConv x0 x1 x2 x3 R ⟨s.val * 512 + c.val * 128 + l.val, by omega⟩ := by
  pointwise [val_main_v101, val_main_v38, val_main_v37]
  rw [ref_conv]
  unfold refConv
  simp only [row_split]
  have hR := R.isLt
  refine congrArg₂ (· + ·) (congrArg (· + _) (congrArg (· * _) ?_)) (congrArg (· * _) ?_)
  · by_cases h : 1 ≤ R.val % 4096
    · rw [dif_pos (show _ ∧ _ from ⟨h, by omega⟩), dif_pos h]
      exact congrArg (fun k => refProj x0 x1 x2 k _) (Fin.ext (by simp only []; omega))
    · rw [dif_neg (fun hh => h hh.1), dif_neg h]
  · by_cases h : R.val % 4096 < 4095
    · rw [dif_pos (show _ ∧ _ from ⟨by omega, by omega⟩), dif_pos h]
      exact congrArg (fun k => refProj x0 x1 x2 k _) (Fin.ext (by simp only []; omega))
    · rw [dif_neg (fun hh => h (by have := hh.2; omega)), dif_neg h]

end Cert.InprojIdeal.Value
-- ==== Proof.InprojIdeal.Conv.lean ====
/-
The short convolution's blocks: each stored tile's lanes as sums over three neighbouring rows of the block extended by its halos.
-/
module

public import proofs.«01_k».proof.Proof.InprojIdeal.Blocks
public import proofs.«01_k».proof.Proof.InprojIdeal.Leaves
public import proofs.«01_k».proof.Proof.InprojIdeal.Reference

@[expose] public section

set_option maxRecDepth 16384

noncomputable section

open Idealize.ShloMosaic Idealize.ShloMosaic.TcCoe Idealize.SL.Sem

namespace Cert.InprojIdeal.Value

open Cert.InprojIdeal Cert.InprojIdeal.Gen Cert.MergeRow Cert.InprojRow

/-- A lane of the convolution at the block's row `r`: the extended block's rows `15 + r`, `16 + r`, `17 + r`, the masked ones as zero. -/
def convTile (b : Fin 544 → BitVec 1) (z : Fin 544 → EReal) (c0 c1 c2 : EReal) (r : Fin 512) : EReal :=
  Scalar.select (α := EReal) (b ⟨(16 + r.val + 544 - 1) % 544, by omega⟩) 0 (z ⟨(16 + r.val + 544 - 1) % 544, by omega⟩ * c0)
    + Scalar.select (α := EReal) (b ⟨16 + r.val, by omega⟩) 0 (z ⟨16 + r.val, by omega⟩ * c1)
    + Scalar.select (α := EReal) (b ⟨(16 + r.val + 544 - 543) % 544, by omega⟩) 0 (z ⟨(16 + r.val + 544 - 543) % 544, by omega⟩ * c2)

section tiles

variable (w : BitVec 32) (h : FVec Ideal S512x1024 .bf16) (x1 x2 : Vec Ideal S16x1024 .f32) (g : Vec Ideal S1x1024 .f32)
  (wt : Vec Ideal S1024x1536 .bf16) (b : IVec S544x512 1) (z : FVec Ideal S544x1536 .f32) (cw : Vec Ideal S3x512 .f32) (r : Fin 512) (l : Fin 128)

theorem u00_block : k0_pay9 (F := Ideal) (k0_pay7 w h (k0_pay2 x1) (k0_pay3 g) x2 g wt) 1#32 cw (ix4 0 0 r l)
    = convTile (fun R => k0_pay4 w (ix2 R ⟨l.val, by omega⟩)) (fun R => k0_pay5 h (k0_pay2 x1) (k0_pay3 g) x2 g wt (ix2 R ⟨l.val, by omega⟩))
      (cw (ix2 0 ⟨l.val, by omega⟩)) (cw (ix2 1 ⟨l.val, by omega⟩)) (cw (ix2 2 ⟨l.val, by omega⟩)) r := by
  pointwise [k0_pay9, k0_pay8, k0_pay7]
  rfl

theorem u01_block : k0_pay10 (F := Ideal) (k0_pay7 w h (k0_pay2 x1) (k0_pay3 g) x2 g wt) 1#32 cw (ix4 0 0 r l)
    = convTile (fun R => k0_pay4 w (ix2 R ⟨128 + l.val, by omega⟩)) (fun R => k0_pay5 h (k0_pay2 x1) (k0_pay3 g) x2 g wt (ix2 R ⟨128 + l.val, by omega⟩))
      (cw (ix2 0 ⟨128 + l.val, by omega⟩)) (cw (ix2 1 ⟨128 + l.val, by omega⟩)) (cw (ix2 2 ⟨128 + l.val, by omega⟩)) r := by
  pointwise [k0_pay10, k0_pay8, k0_pay7]
  rfl

theorem u02_block : k0_pay11 (F := Ideal) (k0_pay7 w h (k0_pay2 x1) (k0_pay3 g) x2 g wt) 1#32 cw (ix4 0 0 r l)
    = convTile (fun R => k0_pay4 w (ix2 R ⟨256 + l.val, by omega⟩)) (fun R => k0_pay5 h (k0_pay2 x1) (k0_pay3 g) x2 g wt (ix2 R ⟨256 + l.val, by omega⟩))
      (cw (ix2 0 ⟨256 + l.val, by omega⟩)) (cw (ix2 1 ⟨256 + l.val, by omega⟩)) (cw (ix2 2 ⟨256 + l.val, by omega⟩)) r := by
  pointwise [k0_pay11, k0_pay8, k0_pay7]
  rfl

theorem u03_block : k0_pay12 (F := Ideal) (k0_pay7 w h (k0_pay2 x1) (k0_pay3 g) x2 g wt) 1#32 cw (ix4 0 0 r l)
    = convTile (fun R => k0_pay4 w (ix2 R ⟨384 + l.val, by omega⟩)) (fun R => k0_pay5 h (k0_pay2 x1) (k0_pay3 g) x2 g wt (ix2 R ⟨384 + l.val, by omega⟩))
      (cw (ix2 0 ⟨384 + l.val, by omega⟩)) (cw (ix2 1 ⟨384 + l.val, by omega⟩)) (cw (ix2 2 ⟨384 + l.val, by omega⟩)) r := by
  pointwise [k0_pay12, k0_pay8, k0_pay7]
  rfl

theorem u10_block : k0_pay16 (F := Ideal) b (k0_pay13 z) (k0_pay14 (F := Ideal)) cw (ix4 0 0 r l)
    = convTile (fun R => b (ix2 R ⟨l.val, by omega⟩)) (fun R => z (ix2 R ⟨512 + l.val, by omega⟩)) (cw (ix2 0 ⟨l.val, by omega⟩)) (cw (ix2 1 ⟨l.val, by omega⟩)) (cw (ix2 2 ⟨l.val, by omega⟩)) r := by
  pointwise [k0_pay16, k0_pay15, k0_pay13, k0_pay14]
  rfl

theorem u11_block : k0_pay17 (F := Ideal) b (k0_pay13 z) (k0_pay14 (F := Ideal)) cw (ix4 0 0 r l)
    = convTile (fun R => b (ix2 R ⟨128 + l.val, by omega⟩)) (fun R => z (ix2 R ⟨512 + (128 + l.val), by omega⟩)) (cw (ix2 0 ⟨128 + l.val, by omega⟩)) (cw (ix2 1 ⟨128 + l.val, by omega⟩)) (cw (ix2 2 ⟨128 + l.val, by omega⟩)) r := by
  pointwise [k0_pay17, k0_pay15, k0_pay13, k0_pay14]
  rfl

theorem u12_block : k0_pay18 (F := Ideal) b (k0_pay13 z) (k0_pay14 (F := Ideal)) cw (ix4 0 0 r l)
    = convTile (fun R => b (ix2 R ⟨256 + l.val, by omega⟩)) (fun R => z (ix2 R ⟨512 + (256 + l.val), by omega⟩)) (cw (ix2 0 ⟨256 + l.val, by omega⟩)) (cw (ix2 1 ⟨256 + l.val, by omega⟩)) (cw (ix2 2 ⟨256 + l.val, by omega⟩)) r := by
  pointwise [k0_pay18, k0_pay15, k0_pay13, k0_pay14]
  rfl

theorem u13_block : k0_pay19 (F := Ideal) b (k0_pay13 z) (k0_pay14 (F := Ideal)) cw (ix4 0 0 r l)
    = convTile (fun R => b (ix2 R ⟨384 + l.val, by omega⟩)) (fun R => z (ix2 R ⟨512 + (384 + l.val), by omega⟩)) (cw (ix2 0 ⟨384 + l.val, by omega⟩)) (cw (ix2 1 ⟨384 + l.val, by omega⟩)) (cw (ix2 2 ⟨384 + l.val, by omega⟩)) r := by
  pointwise [k0_pay19, k0_pay15, k0_pay13, k0_pay14]
  rfl

theorem u20_block : k0_pay22 (F := Ideal) b (k0_pay20 z) cw (ix4 0 0 r l)
    = convTile (fun R => b (ix2 R ⟨l.val, by omega⟩)) (fun R => z (ix2 R ⟨1024 + l.val, by omega⟩)) (cw (ix2 0 ⟨l.val, by omega⟩)) (cw (ix2 1 ⟨l.val, by omega⟩)) (cw (ix2 2 ⟨l.val, by omega⟩)) r := by
  pointwise [k0_pay22, k0_pay21, k0_pay20]
  rfl

theorem u21_block : k0_pay23 (F := Ideal) b (k0_pay20 z) cw (ix4 0 0 r l)
    = convTile (fun R => b (ix2 R ⟨128 + l.val, by omega⟩)) (fun R => z (ix2 R ⟨1024 + (128 + l.val), by omega⟩)) (cw (ix2 0 ⟨128 + l.val, by omega⟩)) (cw (ix2 1 ⟨128 + l.val, by omega⟩)) (cw (ix2 2 ⟨128 + l.val, by omega⟩)) r := by
  pointwise [k0_pay23, k0_pay21, k0_pay20]
  rfl

theorem u22_block : k0_pay24 (F := Ideal) b (k0_pay20 z) cw (ix4 0 0 r l)
    = convTile (fun R => b (ix2 R ⟨256 + l.val, by omega⟩)) (fun R => z (ix2 R ⟨1024 + (256 + l.val), by omega⟩)) (cw (ix2 0 ⟨256 + l.val, by omega⟩)) (cw (ix2 1 ⟨256 + l.val, by omega⟩)) (cw (ix2 2 ⟨256 + l.val, by omega⟩)) r := by
  pointwise [k0_pay24, k0_pay21, k0_pay20]
  rfl

theorem u23_block : k0_pay25 (F := Ideal) b (k0_pay20 z) cw (ix4 0 0 r l)
    = convTile (fun R => b (ix2 R ⟨384 + l.val, by omega⟩)) (fun R => z (ix2 R ⟨1024 + (384 + l.val), by omega⟩)) (cw (ix2 0 ⟨384 + l.val, by omega⟩)) (cw (ix2 1 ⟨384 + l.val, by omega⟩)) (cw (ix2 2 ⟨384 + l.val, by omega⟩)) r := by
  pointwise [k0_pay25, k0_pay21, k0_pay20]
  rfl

end tiles

/-- The extended block's projections: the sixteen rows before, the block's rows, the sixteen rows after. -/
theorem ext_block (x0 : Vec Ideal S512x1024 .f32) (x1 x2 : Vec Ideal S16x1024 .f32) (g : Vec Ideal S1x1024 .f32) (w : Vec Ideal S1024x1536 .bf16)
    (R : Fin 544) (n : Fin 1536) : k0_pay5 (F := Ideal) (k0_pay1 x0 g) (k0_pay2 x1) (k0_pay3 g) x2 g w (ix2 R n)
      = if h : R.val < 16 then proj (fun d => x1 (ix2 ⟨R.val, h⟩ d)) (fun d => g (ix2 0 d)) (fun d => w (ix2 d n))
        else if h2 : R.val - 16 < 512 then proj (fun d => x0 (ix2 ⟨R.val - 16, h2⟩ d)) (fun d => g (ix2 0 d)) (fun d => w (ix2 d n))
        else proj (fun d => x2 (ix2 ⟨R.val - 16 - 512, by omega⟩ d)) (fun d => g (ix2 0 d)) (fun d => w (ix2 d n)) := by
  pointwise [k0_pay5, k0_pay1, k0_pay2, k0_pay3]
  by_cases h : R.val < 16
  · simp only [dif_pos h]; rfl
  · by_cases h2 : R.val - 16 < 512
    · simp only [dif_neg h, dif_pos h2]; rfl
    · simp only [dif_neg h, dif_neg h2]; rfl

/-- The mask: the rows before a sequence's first block and after its last one. -/
theorem mask_block : ∀ (p : Fin 8) (R : Fin 544), IntOp.ori
      (IntOp.andi (IntOp.cmpi CmpIPredicate.slt (BitVec.ofNat 32 R.val) 16#32) (Scalar.cmpi CmpIPredicate.eq (BitVec.ofNat 32 p.val) 0#32))
      (IntOp.andi (IntOp.cmpi CmpIPredicate.sge (BitVec.ofNat 32 R.val) 528#32) (Scalar.cmpi CmpIPredicate.eq (BitVec.ofNat 32 p.val) 7#32))
    = if (R.val < 16 ∧ p.val = 0) ∨ (528 ≤ R.val ∧ p.val = 7) then 1#1 else 0#1 := by decide +kernel

theorem mask_at (p : Fin 8) (R : Fin 544) (n : Fin 512) : k0_pay4 (BitVec.ofNat 32 p.val) (ix2 R n)
    = if (R.val < 16 ∧ p.val = 0) ∨ (528 ≤ R.val ∧ p.val = 7) then 1#1 else 0#1 := by
  pointwise [k0_pay4]
  exact mask_block p R

/-- The block's place in its sequence, as the kernel computes it. -/
def placeWord (i : ℕ) : BitVec 32 :=
  Scalar.select (Scalar.andi (Scalar.xori (Scalar.cmpi .slt (Scalar.remsi (BitVec.ofNat 32 i) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 i) (Scalar.select (Scalar.cmpi .eq 8#32 0#32) 1#32 8#32)) 0#32)) (Scalar.addi (Scalar.remsi (BitVec.ofNat 32 i) (Scalar.select (Scalar.cmpi .eq 8#32 0#32) 1#32 8#32)) (Scalar.select (Scalar.cmpi .eq 8#32 0#32) 1#32 8#32)) (Scalar.remsi (BitVec.ofNat 32 i) (Scalar.select (Scalar.cmpi .eq 8#32 0#32) 1#32 8#32))

theorem placeWord_eq : ∀ t : Fin cfg0.N, placeWord (grid0.coords t 0).val = BitVec.ofNat 32 (t.val % 8) :=
  (by decide +kernel : ∀ t : Fin grid0.N, _)

theorem select_if (P : Prop) [Decidable P] (x : EReal) : Scalar.select (α := EReal) (if P then 1#1 else 0#1) 0 x = if P then 0 else x := by
  by_cases h : P
  · simp [Scalar.select, h]
  · simp [Scalar.select, h]

variable (m : (l : Loc nD τ sig) → Buf (Elt Ideal) l) (c : Dev nD) (t : Fin cfg0.N)

/-- The arguments' projections. -/
abbrev projAt (R : Fin 32768) (n : Fin 5120) : EReal :=
  refProj (m ((c : Thread nD τ).loc main_arg0)) (m ((c : Thread nD τ).loc main_arg1)) (m ((c : Thread nD τ).loc main_arg2)) R n

/-- A lane of the convolution of the block is the reference's. -/
theorem conv_at (z : Fin 544 → EReal) (q : Fin 512) (r : Fin 512) (n : Fin 1536) (c0 c1 c2 : EReal)
    (hz : ∀ R : Fin 544, z R = if h : R.val < 16 then projAt m c ⟨(32 * t.val - 1) * 16 + R.val, by have h : t.val < 64 := t.isLt; omega⟩ ⟨n.val, by omega⟩
        else if h2 : R.val - 16 < 512 then projAt m c (row t ⟨R.val - 16, h2⟩) ⟨n.val, by omega⟩
        else projAt m c ⟨min (32 * t.val + 32) 2047 * 16 + (R.val - 16 - 512), by have h : t.val < 64 := t.isLt; omega⟩ ⟨n.val, by omega⟩)
    (h0 : c0 = m ((c : Thread nD τ).loc main_arg3) (ix2 0 n)) (h1 : c1 = m ((c : Thread nD τ).loc main_arg3) (ix2 1 n))
    (h2 : c2 = m ((c : Thread nD τ).loc main_arg3) (ix2 2 n)) :
    convTile (fun R => k0_pay4 (placeWord (grid0.coords t 0).val) (ix2 R q)) z c0 c1 c2 r
      = refConv (m ((c : Thread nD τ).loc main_arg0)) (m ((c : Thread nD τ).loc main_arg1)) (m ((c : Thread nD τ).loc main_arg2))
        (m ((c : Thread nD τ).loc main_arg3)) (row t r) n := by
  have ht : t.val < 64 := t.isLt
  have hr := r.isLt
  have hm : ∀ R : Fin 544, k0_pay4 (placeWord (grid0.coords t 0).val) (ix2 R q)
      = if (R.val < 16 ∧ t.val % 8 = 0) ∨ (528 ≤ R.val ∧ t.val % 8 = 7) then 1#1 else 0#1 := fun R => by
    rw [placeWord_eq]; exact mask_at ⟨t.val % 8, by omega⟩ R q
  unfold convTile refConv
  simp only [hm, select_if]
  refine congrArg₂ (· + ·) (congrArg₂ (· + ·) ?_ ?_) ?_
  · have e : (16 + r.val + 544 - 1) % 544 = 15 + r.val := by omega
    by_cases hp : 1 ≤ (row t r).val % 4096
    · rw [dif_pos hp, if_neg (by unfold row at hp; simp only [] at hp ⊢; omega), ← h0]
      refine congrArg (· * c0) ?_
      rw [hz]
      by_cases h : (16 + r.val + 544 - 1) % 544 < 16
      · rw [dif_pos h]
        exact congrArg (fun k => projAt m c k _) (Fin.ext (by unfold row at hp ⊢; simp only [] at hp ⊢; omega))
      · rw [dif_neg h, dif_pos (by simp only []; omega)]
        exact congrArg (fun k => projAt m c k _) (Fin.ext (by unfold row; simp only []; omega))
    · rw [dif_neg hp, if_pos (by unfold row at hp; simp only [] at hp ⊢; omega), zero_mul]
  · rw [if_neg (by omega), ← h1]
    refine congrArg (· * c1) ?_
    rw [hz, dif_neg (by simp only []; omega), dif_pos (by simp only []; omega)]
    exact congrArg (fun k => projAt m c k _) (Fin.ext (by unfold row; simp only []; omega))
  · have e : (16 + r.val + 544 - 543) % 544 = 17 + r.val := by omega
    by_cases hp : (row t r).val % 4096 < 4095
    · rw [dif_pos hp, if_neg (by unfold row at hp; simp only [] at hp ⊢; omega), ← h2]
      refine congrArg (· * c2) ?_
      rw [hz, dif_neg (by simp only []; omega)]
      by_cases h : (16 + r.val + 544 - 543) % 544 - 16 < 512
      · rw [dif_pos h]
        exact congrArg (fun k => projAt m c k _) (Fin.ext (by unfold row; simp only []; omega))
      · rw [dif_neg h]
        exact congrArg (fun k => projAt m c k _) (Fin.ext (by unfold row at hp ⊢; simp only [] at hp ⊢; omega))
    · rw [dif_neg hp, if_pos (by unfold row at hp; simp only [] at hp ⊢; omega), zero_mul]

end Cert.InprojIdeal.Value
-- ==== Proof.InprojIdeal.Value.lean ====
/-
The value of the input projections' kernel: the five result arrays it leaves are the reference's, at the exact instance.
-/
module

public import proofs.«01_k».proof.Proof.InprojIdeal.Blocks
public import proofs.«01_k».proof.Proof.InprojIdeal.Leaves
public import proofs.«01_k».proof.Proof.InprojIdeal.Reference
public import proofs.«01_k».proof.Proof.InprojIdeal.Conv
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.InprojIdeal.Value

open Cert.InprojIdeal Cert.InprojIdeal.Gen Cert.InprojReferenceIdeal.Read Cert.MergeRow Cert.InprojRow

variable (m : (l : Loc nD τ sig) → Buf (Elt Ideal) l) (c : Dev nD) (t : Fin cfg0.N)

/-- A projection after the convolution's columns, from a grid point's blocks. -/
theorem rest_at (r : Fin 512) (n : Fin 3584) (j : Fin 5120) (hj : j.val = 1536 + n.val) :
    k0_pay6 (F := Ideal) (k0_pay1 (iblk m c 0 t) (iblk m c 3 t)) (View.ld (iblk m c 4 t) r0_4) (ix2 r n)
      = refProj (m ((c : Thread nD τ).loc main_arg0)) (m ((c : Thread nD τ).loc main_arg1)) (m ((c : Thread nD τ).loc main_arg2)) (row t r) j := by
  have e : j = ⟨1536 + n.val, by omega⟩ := Fin.ext hj
  rw [rest_block, e]
  unfold refProj
  refine proj_congr (fun k => x_leaf m c t r k) (fun k => g_leaf m c t k) (fun k => ?_)
  pointwise [r0_4]
  exact w_leaf m c t k _

/-- The values' array after the run is the reference's. -/
theorem final_v : (dats m 0 c).arrAt 14 (cfgs 0).N
    = val_main_v107 (F := Ideal) (m ((c : Thread nD τ).loc main_arg0)) (m ((c : Thread nD τ).loc main_arg1)) (m ((c : Thread nD τ).loc main_arg2)) := by
  refine (dats m 0 c).arrAt_eq_of_covers 14 _ (by decide +kernel) fun t _ y => ?_
  blk_simp
  rw [after0_14]; frame_out
  idx_vars y
  unfold k0_pay55 k0_pay50
  frame_out
  rw [v_block]
  refine (rest_at m c t y0 _ ⟨2560 + y1.val, by omega⟩ (by simp only []; omega)).trans ?_
  refine (ref_v _ _ _ (row t y0) y1).symm.trans ?_
  unfold row
  blk_point [idx t]

/-- The gates' array after the run is the reference's. -/
theorem final_gates : (dats m 0 c).arrAt 15 (cfgs 0).N
    = val_main_v109 (F := Ideal) (m ((c : Thread nD τ).loc main_arg0)) (m ((c : Thread nD τ).loc main_arg1)) (m ((c : Thread nD τ).loc main_arg2)) := by
  refine (dats m 0 c).arrAt_eq_of_covers 15 _ (by decide +kernel) fun t _ y => ?_
  blk_simp
  rw [after0_15]; frame_out
  idx_vars y
  unfold k0_pay55 k0_pay50
  frame_out
  rw [gate_block]
  refine (rest_at m c t y0 _ ⟨3072 + y1.val, by omega⟩ (by simp only []; omega)).trans ?_
  refine (ref_gates _ _ _ (row t y0) y1).symm.trans ?_
  unfold row
  blk_point [idx t]

/-- A head's lane of a grid point's block is the reference's, where the gain of the norm and the weights are real. -/
theorem head_at (hg : ∀ i, ∃ r : ℝ, m ((c : Thread nD τ).loc main_arg1) i = (r : EReal))
    (hw : ∀ i, ∃ r : ℝ, m ((c : Thread nD τ).loc main_arg2) i = (r : EReal)) (gl : Vec Ideal S1x128 .f32) (gr : Fin 64 → EReal)
    (hgl : ∀ l : Fin 128, gl (ix2 0 l) = gr ⟨l.val % 64, by omega⟩) (o : ℕ) (ho : o ≤ 3456) (j : ℕ) (hj : j ≤ 4608) (n : Fin 512) (r : Fin 512) (l : Fin 128)
    (h1 : n.val % 128 = l.val) (h2 : 1536 + o = j + n.val / 128 * 128) :
    turned (k0_pay6 (F := Ideal) (k0_pay1 (iblk m c 0 t) (iblk m c 3 t)) (View.ld (iblk m c 4 t) r0_4)) (iblk m c 6 t) (iblk m c 7 t) k0_pay27
        (iblk m c 10 t) gl o ho r l
      = refHead (m ((c : Thread nD τ).loc main_arg0)) (m ((c : Thread nD τ).loc main_arg1)) (m ((c : Thread nD τ).loc main_arg2)) gr
        (m ((c : Thread nD τ).loc main_arg6)) (m ((c : Thread nD τ).loc main_arg7)) j hj (row t r) n := by
  have hn := n.isLt
  have hp : ∀ x : Fin 128, k0_pay6 (F := Ideal) (k0_pay1 (iblk m c 0 t) (iblk m c 3 t)) (View.ld (iblk m c 4 t) r0_4) (ix2 r ⟨o + x.val, by omega⟩)
      = projAt m c (row t r) ⟨1536 + (o + x.val), by omega⟩ := fun x => rest_at m c t r _ _ rfl
  have hreal : ∀ x : Fin 128, ∃ q : ℝ, k0_pay6 (F := Ideal) (k0_pay1 (iblk m c 0 t) (iblk m c 3 t)) (View.ld (iblk m c 4 t) r0_4)
      (ix2 r ⟨o + x.val, by omega⟩) = (q : EReal) := fun x => by
    rw [hp x]
    exact proj_real (fun k => hg _) (fun k => hw _)
  unfold turned refHead
  have el : (⟨n.val % 64, by omega⟩ : Fin 64) = ⟨l.val % 64, by omega⟩ := Fin.ext (by simp only []; omega)
  rw [el]
  have hplace : (⟨t.val % 8 * 512 + r.val, place_lt t r⟩ : Fin 4096) = ⟨(row t r).val % 4096, by omega⟩ :=
    Fin.ext (by unfold row; simp only []; omega)
  refine tileTurn_eq _ _ l (fun d => ?_) (first_half r l) ?_ ?_
  · rw [tileUnit_eq _ hreal (grp_leaf m c t)]
    have hd := d.isLt
    have hl := l.isLt
    have ed : (⟨(64 * (l.val / 64) + d.val) % 64, by omega⟩ : Fin 64) = d := Fin.ext (by show (64 * (l.val / 64) + d.val) % 64 = d.val; omega)
    simp only [hgl, ed]
    refine congrArg (fun f => headUnit f (gr d) d) (funext fun e => rest_at m c t r _ _ ?_)
    show j + (n.val / 64 * 64 + e.val) = 1536 + (o + (64 * ((64 * (l.val / 64) + d.val) / 64) + e.val))
    omega
  · rw [cos_leaf, hplace]
  · rw [sin_leaf, hplace]
    rfl

/-- The mask, the sines and the cosines as the stored heads read them. -/
theorem q_gain (l : Fin 128) : iblk m c 8 t (ix2 0 l)
    = (fun d : Fin 64 => (gainAt m c d * Ideal.ofBits FTy.f32 1043900987#32 : EReal)) ⟨l.val % 64, by omega⟩ :=
  qg_leaf m c t l

end Cert.InprojIdeal.Value
-- ==== Proof.InprojIdeal.Heads.lean ====
module

public import proofs.«01_k».proof.Proof.InprojIdeal.Value

/-!
# The queries and the keys of the input projections are the reference's

A grid point stores its rows' queries, and its rows' keys, as four tiles of 128 lanes, two heads to a tile. Each tile
is the reference's heads by `head_at`; the four tiles cover the window, and the windows cover the array.
-/

@[expose] public section

set_option maxRecDepth 16384

noncomputable section

open Idealize.ShloMosaic Idealize.ShloMosaic.TcCoe Idealize.SL.Sem
open Idealize.ShloMosaic.Pipeline (Dat)

namespace Cert.InprojIdeal.Value

open Cert.InprojIdeal Cert.InprojIdeal.Gen Cert.InprojReferenceIdeal.Read Cert.MergeRow Cert.InprojRow

variable (m : (l : Loc nD τ sig) → Buf (Elt Ideal) l) (c : Dev nD) (t : Fin cfg0.N)

/-! A load of a whole block is the block. -/

theorem whole_0 (x : Vec Ideal S512x1024 .f32) : View.ld x r0_0 = x := by frame_out
theorem whole_1 (x : Vec Ideal S1x1024 .f32) : View.ld x r0_1 = x := by frame_out
theorem whole_2 (x : Vec Ideal S16x1024 .f32) : View.ld x r0_2 = x := by frame_out
theorem whole_20 (x : Vec Ideal S512x128 .f32) : View.ld x r0_20 = x := by frame_out
theorem whole_21 (x : Vec Ideal S128x128 .bf16) : View.ld x r0_21 = x := by frame_out
theorem whole_22 (x : Vec Ideal S1x128 .f32) : View.ld x r0_22 = x := by frame_out

/-! Where a tile's lane lies in the window. -/

theorem emb_23 (r : Fin 512) (l : Fin 128) : r0_23.emb (ix2 r l) = ix2 r ⟨0 + l.val, by omega⟩ := by
  blk_point [r0_23]

theorem emb_24 (r : Fin 512) (l : Fin 128) : r0_24.emb (ix2 r l) = ix2 r ⟨128 + l.val, by omega⟩ := by
  blk_point [r0_24]

theorem emb_25 (r : Fin 512) (l : Fin 128) : r0_25.emb (ix2 r l) = ix2 r ⟨256 + l.val, by omega⟩ := by
  blk_point [r0_25]

theorem emb_26 (r : Fin 512) (l : Fin 128) : r0_26.emb (ix2 r l) = ix2 r ⟨384 + l.val, by omega⟩ := by
  blk_point [r0_26]

/-- The queries of a grid point's rows, by the reference. -/
def qRows (y : S512x512.Idx) : EReal :=
  refHead (m ((c : Thread nD τ).loc main_arg0)) (m ((c : Thread nD τ).loc main_arg1)) (m ((c : Thread nD τ).loc main_arg2))
    (fun d => gainAt m c d * Ideal.ofBits FTy.f32 1043900987#32) (m ((c : Thread nD τ).loc main_arg6)) (m ((c : Thread nD τ).loc main_arg7)) 1536 (by omega) (row t (y 0)) (y 1)

theorem qRows_ix2 (r : Fin 512) (n : Fin 512) : qRows m c t (ix2 r n) = refHead (m ((c : Thread nD τ).loc main_arg0)) (m ((c : Thread nD τ).loc main_arg1)) (m ((c : Thread nD τ).loc main_arg2))
    (fun d => gainAt m c d * Ideal.ofBits FTy.f32 1043900987#32) (m ((c : Thread nD τ).loc main_arg6)) (m ((c : Thread nD τ).loc main_arg7)) 1536 (by omega) (row t r) n := rfl

section q_tiles

variable (hg : ∀ i, ∃ r : ℝ, m ((c : Thread nD τ).loc main_arg1) i = (r : EReal))
    (hw : ∀ i, ∃ r : ℝ, m ((c : Thread nD τ).loc main_arg2) i = (r : EReal))

include hg hw

theorem q_tile0 (x : S512x128.Idx) : k0_pay30 (View.ld (iblk m c 6 t) r0_20) (k0_pay60 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay61 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay28 (k0_pay55 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 10 t) r0_21)) (k0_pay29 (View.ld (iblk m c 8 t) r0_22)) x
    = qRows m c t (r0_23.emb x) := by
  idx_vars x
  rw [emb_23, qRows_ix2]
  unfold k0_pay60 k0_pay61 k0_pay55 k0_pay50
  simp only [whole_0, whole_1, whole_20, whole_21, whole_22]
  refine (q0_block _ _ _ _ _ _ x0 x1).trans ?_
  exact head_at m c t hg hw (iblk m c 8 t) (fun d => gainAt m c d * Ideal.ofBits FTy.f32 1043900987#32) (q_gain m c t) 0 (by omega) 1536 (by omega) ⟨0 + x1.val, by omega⟩ x0 x1
    (by show (0 + x1.val) % 128 = x1.val; omega) (by show 1536 + 0 = 1536 + (0 + x1.val) / 128 * 128; omega)

theorem q_tile1 (x : S512x128.Idx) : k0_pay31 (k0_pay55 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 6 t) r0_20) (k0_pay60 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay61 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 10 t) r0_21) (View.ld (iblk m c 8 t) r0_22) x
    = qRows m c t (r0_24.emb x) := by
  idx_vars x
  rw [emb_24, qRows_ix2]
  unfold k0_pay60 k0_pay61 k0_pay55 k0_pay50
  simp only [whole_0, whole_1, whole_20, whole_21, whole_22]
  refine (q1_block _ _ _ _ _ _ x0 x1).trans ?_
  exact head_at m c t hg hw (iblk m c 8 t) (fun d => gainAt m c d * Ideal.ofBits FTy.f32 1043900987#32) (q_gain m c t) 128 (by omega) 1536 (by omega) ⟨128 + x1.val, by omega⟩ x0 x1
    (by show (128 + x1.val) % 128 = x1.val; omega) (by show 1536 + 128 = 1536 + (128 + x1.val) / 128 * 128; omega)

theorem q_tile2 (x : S512x128.Idx) : k0_pay36 (View.ld (iblk m c 6 t) r0_20) (k0_pay60 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay61 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 10 t) r0_21) (k0_pay32 (k0_pay55 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t))) (k0_pay34 (k0_pay55 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t))) (k0_pay35 (k0_pay55 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t))) (constant S512x128 .f32 0x00000000#32) (View.ld (iblk m c 8 t) r0_22) x
    = qRows m c t (r0_25.emb x) := by
  idx_vars x
  rw [emb_25, qRows_ix2]
  unfold k0_pay60 k0_pay61 k0_pay55 k0_pay50
  simp only [whole_0, whole_1, whole_20, whole_21, whole_22]
  refine (q2_block _ _ _ _ _ _ x0 x1).trans ?_
  exact head_at m c t hg hw (iblk m c 8 t) (fun d => gainAt m c d * Ideal.ofBits FTy.f32 1043900987#32) (q_gain m c t) 256 (by omega) 1536 (by omega) ⟨256 + x1.val, by omega⟩ x0 x1
    (by show (256 + x1.val) % 128 = x1.val; omega) (by show 1536 + 256 = 1536 + (256 + x1.val) / 128 * 128; omega)

theorem q_tile3 (x : S512x128.Idx) : k0_pay40 (View.ld (iblk m c 6 t) r0_20) (k0_pay60 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay61 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay37 (k0_pay55 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 10 t) r0_21) (View.ld (iblk m c 8 t) r0_22)) (k0_pay38 (k0_pay55 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 10 t) r0_21) (View.ld (iblk m c 8 t) r0_22)) (k0_pay39 (k0_pay55 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 10 t) r0_21) (View.ld (iblk m c 8 t) r0_22)) x
    = qRows m c t (r0_26.emb x) := by
  idx_vars x
  rw [emb_26, qRows_ix2]
  unfold k0_pay60 k0_pay61 k0_pay55 k0_pay50
  simp only [whole_0, whole_1, whole_20, whole_21, whole_22]
  refine (q3_block _ _ _ _ _ _ x0 x1).trans ?_
  exact head_at m c t hg hw (iblk m c 8 t) (fun d => gainAt m c d * Ideal.ofBits FTy.f32 1043900987#32) (q_gain m c t) 384 (by omega) 1536 (by omega) ⟨384 + x1.val, by omega⟩ x0 x1
    (by show (384 + x1.val) % 128 = x1.val; omega) (by show 1536 + 384 = 1536 + (384 + x1.val) / 128 * 128; omega)

/-- The window of the queries after a grid point's body. -/
theorem q_window (y : S512x512.Idx) : out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) y = qRows m c t y := by
  unfold out0_12
  refine View.canon_apply_of_pieces (Val := Elt Ideal) (qRows m c t) _ ?_ y (cover0_12 _ _ _ _ y)
  intro pc hpc
  rcases List.mem_cons.mp hpc with rfl | hpc
  · exact q_tile3 m c t hg hw
  rcases List.mem_cons.mp hpc with rfl | hpc
  · exact q_tile2 m c t hg hw
  rcases List.mem_cons.mp hpc with rfl | hpc
  · exact q_tile1 m c t hg hw
  rcases List.mem_singleton.mp hpc with rfl
  exact q_tile0 m c t hg hw

/-- The queries' array after the run is the reference's. -/
theorem final_q : (dats m 0 c).arrAt 12 (cfgs 0).N
    = val_main_v103 (F := Ideal) (m ((c : Thread nD τ).loc main_arg0)) (m ((c : Thread nD τ).loc main_arg1)) (m ((c : Thread nD τ).loc main_arg2))
        (m ((c : Thread nD τ).loc main_arg4)) (m ((c : Thread nD τ).loc main_arg6)) (m ((c : Thread nD τ).loc main_arg7)) := by
  refine (dats m 0 c).arrAt_eq_of_covers 12 _ (by decide +kernel) fun t _ y => ?_
  blk_simp
  rw [after0_12]
  refine (q_window m c t hg hw y).trans ?_
  idx_vars y
  rw [qRows_ix2]
  refine (ref_q _ _ _ _ _ _ (row t y0) y1).symm.trans ?_
  unfold row
  blk_point [idx t]

end q_tiles

/-- The keys of a grid point's rows, by the reference. -/
def kRows (y : S512x512.Idx) : EReal :=
  refHead (m ((c : Thread nD τ).loc main_arg0)) (m ((c : Thread nD τ).loc main_arg1)) (m ((c : Thread nD τ).loc main_arg2))
    (fun d => (m ((c : Thread nD τ).loc main_arg5)) (ix1 d)) (m ((c : Thread nD τ).loc main_arg6)) (m ((c : Thread nD τ).loc main_arg7)) 2048 (by omega) (row t (y 0)) (y 1)

theorem kRows_ix2 (r : Fin 512) (n : Fin 512) : kRows m c t (ix2 r n) = refHead (m ((c : Thread nD τ).loc main_arg0)) (m ((c : Thread nD τ).loc main_arg1)) (m ((c : Thread nD τ).loc main_arg2))
    (fun d => (m ((c : Thread nD τ).loc main_arg5)) (ix1 d)) (m ((c : Thread nD τ).loc main_arg6)) (m ((c : Thread nD τ).loc main_arg7)) 2048 (by omega) (row t r) n := rfl

section k_tiles

variable (hg : ∀ i, ∃ r : ℝ, m ((c : Thread nD τ).loc main_arg1) i = (r : EReal))
    (hw : ∀ i, ∃ r : ℝ, m ((c : Thread nD τ).loc main_arg2) i = (r : EReal))

include hg hw

theorem k_tile0 (x : S512x128.Idx) : k0_pay41 (k0_pay55 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 6 t) r0_20) (k0_pay60 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay61 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 10 t) r0_21) (View.ld (iblk m c 9 t) r0_22) x
    = kRows m c t (r0_23.emb x) := by
  idx_vars x
  rw [emb_23, kRows_ix2]
  unfold k0_pay60 k0_pay61 k0_pay55 k0_pay50
  simp only [whole_0, whole_1, whole_20, whole_21, whole_22]
  refine (k0_block _ _ _ _ _ _ x0 x1).trans ?_
  exact head_at m c t hg hw (iblk m c 9 t) (fun d => (m ((c : Thread nD τ).loc main_arg5)) (ix1 d)) (kg_leaf m c t) 512 (by omega) 2048 (by omega) ⟨0 + x1.val, by omega⟩ x0 x1
    (by show (0 + x1.val) % 128 = x1.val; omega) (by show 1536 + 512 = 2048 + (0 + x1.val) / 128 * 128; omega)

theorem k_tile1 (x : S512x128.Idx) : k0_pay45 (View.ld (iblk m c 6 t) r0_20) (k0_pay60 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay61 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay42 (k0_pay55 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t))) (k0_pay43 (k0_pay55 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 10 t) r0_21)) (k0_pay44 (F := Ideal)) (View.ld (iblk m c 9 t) r0_22) x
    = kRows m c t (r0_24.emb x) := by
  idx_vars x
  rw [emb_24, kRows_ix2]
  unfold k0_pay60 k0_pay61 k0_pay55 k0_pay50
  simp only [whole_0, whole_1, whole_20, whole_21, whole_22]
  refine (k1_block _ _ _ _ _ _ x0 x1).trans ?_
  exact head_at m c t hg hw (iblk m c 9 t) (fun d => (m ((c : Thread nD τ).loc main_arg5)) (ix1 d)) (kg_leaf m c t) 640 (by omega) 2048 (by omega) ⟨128 + x1.val, by omega⟩ x0 x1
    (by show (128 + x1.val) % 128 = x1.val; omega) (by show 1536 + 640 = 2048 + (128 + x1.val) / 128 * 128; omega)

theorem k_tile2 (x : S512x128.Idx) : k0_pay46 (k0_pay55 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 6 t) r0_20) (k0_pay60 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay61 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 10 t) r0_21) (View.ld (iblk m c 9 t) r0_22) x
    = kRows m c t (r0_25.emb x) := by
  idx_vars x
  rw [emb_25, kRows_ix2]
  unfold k0_pay60 k0_pay61 k0_pay55 k0_pay50
  simp only [whole_0, whole_1, whole_20, whole_21, whole_22]
  refine (k2_block _ _ _ _ _ _ x0 x1).trans ?_
  exact head_at m c t hg hw (iblk m c 9 t) (fun d => (m ((c : Thread nD τ).loc main_arg5)) (ix1 d)) (kg_leaf m c t) 768 (by omega) 2048 (by omega) ⟨256 + x1.val, by omega⟩ x0 x1
    (by show (256 + x1.val) % 128 = x1.val; omega) (by show 1536 + 768 = 2048 + (256 + x1.val) / 128 * 128; omega)

theorem k_tile3 (x : S512x128.Idx) : k0_pay47 (k0_pay55 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 6 t) r0_20) (k0_pay60 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay61 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 10 t) r0_21) (View.ld (iblk m c 9 t) r0_22) x
    = kRows m c t (r0_26.emb x) := by
  idx_vars x
  rw [emb_26, kRows_ix2]
  unfold k0_pay60 k0_pay61 k0_pay55 k0_pay50
  simp only [whole_0, whole_1, whole_20, whole_21, whole_22]
  refine (k3_block _ _ _ _ _ _ x0 x1).trans ?_
  exact head_at m c t hg hw (iblk m c 9 t) (fun d => (m ((c : Thread nD τ).loc main_arg5)) (ix1 d)) (kg_leaf m c t) 896 (by omega) 2048 (by omega) ⟨384 + x1.val, by omega⟩ x0 x1
    (by show (384 + x1.val) % 128 = x1.val; omega) (by show 1536 + 896 = 2048 + (384 + x1.val) / 128 * 128; omega)

/-- The window of the keys after a grid point's body. -/
theorem k_window (y : S512x512.Idx) : out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) y = kRows m c t y := by
  unfold out0_13
  refine View.canon_apply_of_pieces (Val := Elt Ideal) (kRows m c t) _ ?_ y (cover0_13 _ _ _ _ y)
  intro pc hpc
  rcases List.mem_cons.mp hpc with rfl | hpc
  · exact k_tile3 m c t hg hw
  rcases List.mem_cons.mp hpc with rfl | hpc
  · exact k_tile2 m c t hg hw
  rcases List.mem_cons.mp hpc with rfl | hpc
  · exact k_tile1 m c t hg hw
  rcases List.mem_singleton.mp hpc with rfl
  exact k_tile0 m c t hg hw

/-- The keys' array after the run is the reference's. -/
theorem final_k : (dats m 0 c).arrAt 13 (cfgs 0).N
    = val_main_v105 (F := Ideal) (m ((c : Thread nD τ).loc main_arg0)) (m ((c : Thread nD τ).loc main_arg1)) (m ((c : Thread nD τ).loc main_arg2))
        (m ((c : Thread nD τ).loc main_arg5)) (m ((c : Thread nD τ).loc main_arg6)) (m ((c : Thread nD τ).loc main_arg7)) := by
  refine (dats m 0 c).arrAt_eq_of_covers 13 _ (by decide +kernel) fun t _ y => ?_
  blk_simp
  rw [after0_13]
  refine (k_window m c t hg hw y).trans ?_
  idx_vars y
  rw [kRows_ix2]
  refine (ref_k _ _ _ _ _ _ (row t y0) y1).symm.trans ?_
  unfold row
  blk_point [idx t]

end k_tiles

end Cert.InprojIdeal.Value
-- ==== Proof.InprojIdeal.ConvValue.lean ====
module

public import proofs.«01_k».proof.Proof.InprojIdeal.Heads

/-!
# The convolved columns of the input projections are the reference's

A grid point stores its rows' convolved columns as twelve tiles, of three parts by four tiles of 128 lanes. Each tile is
the reference's convolution by `conv_at`, once the extended block is known to hold the projections of the block's rows
and of the sixteen rows on either side.
-/

@[expose] public section

set_option maxRecDepth 16384

noncomputable section

open Idealize.ShloMosaic Idealize.ShloMosaic.TcCoe Idealize.SL.Sem
open Idealize.ShloMosaic.Pipeline (Dat)

namespace Cert.InprojIdeal.Value

open Cert.InprojIdeal Cert.InprojIdeal.Gen Cert.InprojReferenceIdeal.Read Cert.MergeRow Cert.InprojRow

variable (m : (l : Loc nD τ sig) → Buf (Elt Ideal) l) (c : Dev nD) (t : Fin cfg0.N)

/-- The projections of the extended block, before the mask. -/
def extAt (R : Fin 544) (n : Fin 1536) : EReal :=
  k0_pay5 (F := Ideal) (k0_pay1 (iblk m c 0 t) (iblk m c 3 t)) (k0_pay2 (iblk m c 1 t)) (k0_pay3 (iblk m c 3 t)) (iblk m c 2 t) (iblk m c 3 t)
    (View.ld (iblk m c 4 t) r0_3) (ix2 R n)

theorem w_conv (d : Fin 1024) (n : Fin 1536) : View.ld (iblk m c 4 t) r0_3 (ix2 d n) = m ((c : Thread nD τ).loc main_arg2) (ix2 d ⟨n.val, by omega⟩) := by
  pointwise [r0_3]
  exact w_leaf m c t d _

theorem ext_at (R : Fin 544) (n : Fin 1536) : extAt m c t R n
    = if h : R.val < 16 then projAt m c ⟨(32 * t.val - 1) * 16 + R.val, by have h : t.val < 64 := t.isLt; omega⟩ ⟨n.val, by omega⟩
        else if h2 : R.val - 16 < 512 then projAt m c (row t ⟨R.val - 16, h2⟩) ⟨n.val, by omega⟩
        else projAt m c ⟨min (32 * t.val + 32) 2047 * 16 + (R.val - 16 - 512), by have h : t.val < 64 := t.isLt; omega⟩ ⟨n.val, by omega⟩ := by
  unfold extAt
  refine (ext_block _ _ _ _ _ R n).trans ?_
  by_cases h : R.val < 16
  · rw [dif_pos h, dif_pos h]
    exact proj_congr (fun k => prev_leaf m c t ⟨R.val, h⟩ k) (fun k => g_leaf m c t k) (fun k => w_conv m c t k n)
  · rw [dif_neg h, dif_neg h]
    by_cases h2 : R.val - 16 < 512
    · rw [dif_pos h2, dif_pos h2]
      exact proj_congr (fun k => x_leaf m c t ⟨R.val - 16, h2⟩ k) (fun k => g_leaf m c t k) (fun k => w_conv m c t k n)
    · rw [dif_neg h2, dif_neg h2]
      exact proj_congr (fun k => next_leaf m c t ⟨R.val - 16 - 512, by omega⟩ k) (fun k => g_leaf m c t k) (fun k => w_conv m c t k n)

/-- The mask of a grid point. -/
def maskAt (R : Fin 544) (q : Fin 512) : BitVec 1 := k0_pay4 (placeWord (grid0.coords t 0).val) (ix2 R q)

/-- A lane of the convolution, its weights as the reference names them. -/
theorem tile_at (q : Fin 512) (r : Fin 512) (n : Fin 1536) (c0 c1 c2 : EReal)
    (h0 : c0 = m ((c : Thread nD τ).loc main_arg3) (ix2 0 n)) (h1 : c1 = m ((c : Thread nD τ).loc main_arg3) (ix2 1 n))
    (h2 : c2 = m ((c : Thread nD τ).loc main_arg3) (ix2 2 n)) :
    convTile (fun R => maskAt t R q) (fun R => extAt m c t R n) c0 c1 c2 r
      = refConv (m ((c : Thread nD τ).loc main_arg0)) (m ((c : Thread nD τ).loc main_arg1)) (m ((c : Thread nD τ).loc main_arg2))
        (m ((c : Thread nD τ).loc main_arg3)) (row t r) n :=
  conv_at m c t (fun R => extAt m c t R n) q r n c0 c1 c2 (fun R => ext_at m c t R n) h0 h1 h2

theorem cw_part0 (k : Fin 3) (n : Fin 512) : View.ld (iblk m c 5 t) r0_5 (ix2 k n) = m ((c : Thread nD τ).loc main_arg3) (ix2 k ⟨n.val, by omega⟩) := by
  pointwise [r0_5]
  exact cw_leaf m c t k _

theorem cw_part1 (k : Fin 3) (n : Fin 512) : View.ld (iblk m c 5 t) r0_10 (ix2 k n) = m ((c : Thread nD τ).loc main_arg3) (ix2 k ⟨512 + n.val, by omega⟩) := by
  pointwise [r0_10]
  exact cw_leaf m c t k _

theorem cw_part2 (k : Fin 3) (n : Fin 512) : View.ld (iblk m c 5 t) r0_15 (ix2 k n) = m ((c : Thread nD τ).loc main_arg3) (ix2 k ⟨1024 + n.val, by omega⟩) := by
  pointwise [r0_15]
  exact cw_leaf m c t k _

/-! The values that the tiles share, as the lemmas above name them. -/

theorem share_mask : (k0_pay53 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t))
    = k0_pay4 (placeWord (grid0.coords t 0).val) := rfl

theorem share_ext : (k0_pay54 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t))
    = k0_pay5 (F := Ideal) (k0_pay1 (iblk m c 0 t) (iblk m c 3 t)) (k0_pay2 (iblk m c 1 t)) (k0_pay3 (iblk m c 3 t)) (iblk m c 2 t) (iblk m c 3 t)
    (View.ld (iblk m c 4 t) r0_3) := by
  unfold k0_pay54 k0_pay52 k0_pay51 k0_pay50
  simp only [whole_0, whole_1, whole_2]
  rfl

theorem share_first : (k0_pay56 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t))
    = k0_pay7 (F := Ideal) (placeWord (grid0.coords t 0).val) (k0_pay1 (iblk m c 0 t) (iblk m c 3 t)) (k0_pay2 (iblk m c 1 t)) (k0_pay3 (iblk m c 3 t)) (iblk m c 2 t) (iblk m c 3 t)
    (View.ld (iblk m c 4 t) r0_3) := by
  unfold k0_pay56 k0_pay52 k0_pay51 k0_pay50
  simp only [whole_0, whole_1, whole_2]
  rfl

/-- The convolved columns of a grid point's rows, by the reference. -/
def uRows (y : S3x4x512x128.Idx) : EReal :=
  refConv (m ((c : Thread nD τ).loc main_arg0)) (m ((c : Thread nD τ).loc main_arg1)) (m ((c : Thread nD τ).loc main_arg2))
    (m ((c : Thread nD τ).loc main_arg3)) (row t (y 2)) ⟨(y 0).val * 512 + (y 1).val * 128 + (y 3).val, by
      have h0 : (y 0).val < 3 := (y 0).isLt
      have h1 : (y 1).val < 4 := (y 1).isLt
      have h3 : (y 3).val < 128 := (y 3).isLt
      omega⟩

theorem emb_6 (r : Fin 512) (l : Fin 128) : r0_6.emb (ix4 0 0 r l) = ix4 0 0 r l := by
  blk_point [r0_6]

theorem u_tile00 (x : S1x1x512x128.Idx) : k0_pay9 (k0_pay56 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) 1#32 (View.ld (iblk m c 5 t) r0_5) x
    = uRows m c t (r0_6.emb x) := by
  idx_vars x
  obtain rfl : x0 = 0 := Subsingleton.elim _ _
  obtain rfl : x1 = 0 := Subsingleton.elim _ _
  rw [emb_6]
  rw [share_first]
  refine (u00_block _ _ _ _ _ _ _ x2 x3).trans ?_
  refine (tile_at m c t ⟨x3.val, by omega⟩ x2 ⟨x3.val, by omega⟩ _ _ _ (cw_part0 m c t 0 _) (cw_part0 m c t 1 _) (cw_part0 m c t 2 _)).trans ?_
  unfold uRows
  refine congrArg (refConv _ _ _ _ (row t x2)) (Fin.ext ?_)
  show x3.val = 0 * 512 + 0 * 128 + x3.val
  omega

theorem emb_7 (r : Fin 512) (l : Fin 128) : r0_7.emb (ix4 0 0 r l) = ix4 0 1 r l := by
  blk_point [r0_7]

theorem u_tile01 (x : S1x1x512x128.Idx) : k0_pay10 (k0_pay56 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) 1#32 (View.ld (iblk m c 5 t) r0_5) x
    = uRows m c t (r0_7.emb x) := by
  idx_vars x
  obtain rfl : x0 = 0 := Subsingleton.elim _ _
  obtain rfl : x1 = 0 := Subsingleton.elim _ _
  rw [emb_7]
  rw [share_first]
  refine (u01_block _ _ _ _ _ _ _ x2 x3).trans ?_
  refine (tile_at m c t ⟨128 + x3.val, by omega⟩ x2 ⟨128 + x3.val, by omega⟩ _ _ _ (cw_part0 m c t 0 _) (cw_part0 m c t 1 _) (cw_part0 m c t 2 _)).trans ?_
  unfold uRows
  refine congrArg (refConv _ _ _ _ (row t x2)) (Fin.ext ?_)
  show 128 + x3.val = 0 * 512 + 1 * 128 + x3.val
  omega

theorem emb_8 (r : Fin 512) (l : Fin 128) : r0_8.emb (ix4 0 0 r l) = ix4 0 2 r l := by
  blk_point [r0_8]

theorem u_tile02 (x : S1x1x512x128.Idx) : k0_pay11 (k0_pay56 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) 1#32 (View.ld (iblk m c 5 t) r0_5) x
    = uRows m c t (r0_8.emb x) := by
  idx_vars x
  obtain rfl : x0 = 0 := Subsingleton.elim _ _
  obtain rfl : x1 = 0 := Subsingleton.elim _ _
  rw [emb_8]
  rw [share_first]
  refine (u02_block _ _ _ _ _ _ _ x2 x3).trans ?_
  refine (tile_at m c t ⟨256 + x3.val, by omega⟩ x2 ⟨256 + x3.val, by omega⟩ _ _ _ (cw_part0 m c t 0 _) (cw_part0 m c t 1 _) (cw_part0 m c t 2 _)).trans ?_
  unfold uRows
  refine congrArg (refConv _ _ _ _ (row t x2)) (Fin.ext ?_)
  show 256 + x3.val = 0 * 512 + 2 * 128 + x3.val
  omega

theorem emb_9 (r : Fin 512) (l : Fin 128) : r0_9.emb (ix4 0 0 r l) = ix4 0 3 r l := by
  blk_point [r0_9]

theorem u_tile03 (x : S1x1x512x128.Idx) : k0_pay12 (k0_pay56 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) 1#32 (View.ld (iblk m c 5 t) r0_5) x
    = uRows m c t (r0_9.emb x) := by
  idx_vars x
  obtain rfl : x0 = 0 := Subsingleton.elim _ _
  obtain rfl : x1 = 0 := Subsingleton.elim _ _
  rw [emb_9]
  rw [share_first]
  refine (u03_block _ _ _ _ _ _ _ x2 x3).trans ?_
  refine (tile_at m c t ⟨384 + x3.val, by omega⟩ x2 ⟨384 + x3.val, by omega⟩ _ _ _ (cw_part0 m c t 0 _) (cw_part0 m c t 1 _) (cw_part0 m c t 2 _)).trans ?_
  unfold uRows
  refine congrArg (refConv _ _ _ _ (row t x2)) (Fin.ext ?_)
  show 384 + x3.val = 0 * 512 + 3 * 128 + x3.val
  omega

theorem emb_11 (r : Fin 512) (l : Fin 128) : r0_11.emb (ix4 0 0 r l) = ix4 1 0 r l := by
  blk_point [r0_11]

theorem u_tile10 (x : S1x1x512x128.Idx) : k0_pay16 (k0_pay53 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay57 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay58 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 5 t) r0_10) x
    = uRows m c t (r0_11.emb x) := by
  idx_vars x
  obtain rfl : x0 = 0 := Subsingleton.elim _ _
  obtain rfl : x1 = 0 := Subsingleton.elim _ _
  rw [emb_11]
  unfold k0_pay58 k0_pay57
  rw [share_mask, share_ext]
  refine (u10_block _ _ _ x2 x3).trans ?_
  refine (tile_at m c t ⟨x3.val, by omega⟩ x2 ⟨512 + x3.val, by omega⟩ _ _ _ (cw_part1 m c t 0 _) (cw_part1 m c t 1 _) (cw_part1 m c t 2 _)).trans ?_
  unfold uRows
  refine congrArg (refConv _ _ _ _ (row t x2)) (Fin.ext ?_)
  show 512 + x3.val = 1 * 512 + 0 * 128 + x3.val
  omega

theorem emb_12 (r : Fin 512) (l : Fin 128) : r0_12.emb (ix4 0 0 r l) = ix4 1 1 r l := by
  blk_point [r0_12]

theorem u_tile11 (x : S1x1x512x128.Idx) : k0_pay17 (k0_pay53 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay57 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay58 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 5 t) r0_10) x
    = uRows m c t (r0_12.emb x) := by
  idx_vars x
  obtain rfl : x0 = 0 := Subsingleton.elim _ _
  obtain rfl : x1 = 0 := Subsingleton.elim _ _
  rw [emb_12]
  unfold k0_pay58 k0_pay57
  rw [share_mask, share_ext]
  refine (u11_block _ _ _ x2 x3).trans ?_
  refine (tile_at m c t ⟨128 + x3.val, by omega⟩ x2 ⟨512 + (128 + x3.val), by omega⟩ _ _ _ (cw_part1 m c t 0 _) (cw_part1 m c t 1 _) (cw_part1 m c t 2 _)).trans ?_
  unfold uRows
  refine congrArg (refConv _ _ _ _ (row t x2)) (Fin.ext ?_)
  show 512 + (128 + x3.val) = 1 * 512 + 1 * 128 + x3.val
  omega

theorem emb_13 (r : Fin 512) (l : Fin 128) : r0_13.emb (ix4 0 0 r l) = ix4 1 2 r l := by
  blk_point [r0_13]

theorem u_tile12 (x : S1x1x512x128.Idx) : k0_pay18 (k0_pay53 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay57 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay58 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 5 t) r0_10) x
    = uRows m c t (r0_13.emb x) := by
  idx_vars x
  obtain rfl : x0 = 0 := Subsingleton.elim _ _
  obtain rfl : x1 = 0 := Subsingleton.elim _ _
  rw [emb_13]
  unfold k0_pay58 k0_pay57
  rw [share_mask, share_ext]
  refine (u12_block _ _ _ x2 x3).trans ?_
  refine (tile_at m c t ⟨256 + x3.val, by omega⟩ x2 ⟨512 + (256 + x3.val), by omega⟩ _ _ _ (cw_part1 m c t 0 _) (cw_part1 m c t 1 _) (cw_part1 m c t 2 _)).trans ?_
  unfold uRows
  refine congrArg (refConv _ _ _ _ (row t x2)) (Fin.ext ?_)
  show 512 + (256 + x3.val) = 1 * 512 + 2 * 128 + x3.val
  omega

theorem emb_14 (r : Fin 512) (l : Fin 128) : r0_14.emb (ix4 0 0 r l) = ix4 1 3 r l := by
  blk_point [r0_14]

theorem u_tile13 (x : S1x1x512x128.Idx) : k0_pay19 (k0_pay53 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay57 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay58 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 5 t) r0_10) x
    = uRows m c t (r0_14.emb x) := by
  idx_vars x
  obtain rfl : x0 = 0 := Subsingleton.elim _ _
  obtain rfl : x1 = 0 := Subsingleton.elim _ _
  rw [emb_14]
  unfold k0_pay58 k0_pay57
  rw [share_mask, share_ext]
  refine (u13_block _ _ _ x2 x3).trans ?_
  refine (tile_at m c t ⟨384 + x3.val, by omega⟩ x2 ⟨512 + (384 + x3.val), by omega⟩ _ _ _ (cw_part1 m c t 0 _) (cw_part1 m c t 1 _) (cw_part1 m c t 2 _)).trans ?_
  unfold uRows
  refine congrArg (refConv _ _ _ _ (row t x2)) (Fin.ext ?_)
  show 512 + (384 + x3.val) = 1 * 512 + 3 * 128 + x3.val
  omega

theorem emb_16 (r : Fin 512) (l : Fin 128) : r0_16.emb (ix4 0 0 r l) = ix4 2 0 r l := by
  blk_point [r0_16]

theorem u_tile20 (x : S1x1x512x128.Idx) : k0_pay22 (k0_pay53 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay59 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 5 t) r0_15) x
    = uRows m c t (r0_16.emb x) := by
  idx_vars x
  obtain rfl : x0 = 0 := Subsingleton.elim _ _
  obtain rfl : x1 = 0 := Subsingleton.elim _ _
  rw [emb_16]
  unfold k0_pay59
  rw [share_mask, share_ext]
  refine (u20_block _ _ _ x2 x3).trans ?_
  refine (tile_at m c t ⟨x3.val, by omega⟩ x2 ⟨1024 + x3.val, by omega⟩ _ _ _ (cw_part2 m c t 0 _) (cw_part2 m c t 1 _) (cw_part2 m c t 2 _)).trans ?_
  unfold uRows
  refine congrArg (refConv _ _ _ _ (row t x2)) (Fin.ext ?_)
  show 1024 + x3.val = 2 * 512 + 0 * 128 + x3.val
  omega

theorem emb_17 (r : Fin 512) (l : Fin 128) : r0_17.emb (ix4 0 0 r l) = ix4 2 1 r l := by
  blk_point [r0_17]

theorem u_tile21 (x : S1x1x512x128.Idx) : k0_pay23 (k0_pay53 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay59 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 5 t) r0_15) x
    = uRows m c t (r0_17.emb x) := by
  idx_vars x
  obtain rfl : x0 = 0 := Subsingleton.elim _ _
  obtain rfl : x1 = 0 := Subsingleton.elim _ _
  rw [emb_17]
  unfold k0_pay59
  rw [share_mask, share_ext]
  refine (u21_block _ _ _ x2 x3).trans ?_
  refine (tile_at m c t ⟨128 + x3.val, by omega⟩ x2 ⟨1024 + (128 + x3.val), by omega⟩ _ _ _ (cw_part2 m c t 0 _) (cw_part2 m c t 1 _) (cw_part2 m c t 2 _)).trans ?_
  unfold uRows
  refine congrArg (refConv _ _ _ _ (row t x2)) (Fin.ext ?_)
  show 1024 + (128 + x3.val) = 2 * 512 + 1 * 128 + x3.val
  omega

theorem emb_18 (r : Fin 512) (l : Fin 128) : r0_18.emb (ix4 0 0 r l) = ix4 2 2 r l := by
  blk_point [r0_18]

theorem u_tile22 (x : S1x1x512x128.Idx) : k0_pay24 (k0_pay53 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay59 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 5 t) r0_15) x
    = uRows m c t (r0_18.emb x) := by
  idx_vars x
  obtain rfl : x0 = 0 := Subsingleton.elim _ _
  obtain rfl : x1 = 0 := Subsingleton.elim _ _
  rw [emb_18]
  unfold k0_pay59
  rw [share_mask, share_ext]
  refine (u22_block _ _ _ x2 x3).trans ?_
  refine (tile_at m c t ⟨256 + x3.val, by omega⟩ x2 ⟨1024 + (256 + x3.val), by omega⟩ _ _ _ (cw_part2 m c t 0 _) (cw_part2 m c t 1 _) (cw_part2 m c t 2 _)).trans ?_
  unfold uRows
  refine congrArg (refConv _ _ _ _ (row t x2)) (Fin.ext ?_)
  show 1024 + (256 + x3.val) = 2 * 512 + 2 * 128 + x3.val
  omega

theorem emb_19 (r : Fin 512) (l : Fin 128) : r0_19.emb (ix4 0 0 r l) = ix4 2 3 r l := by
  blk_point [r0_19]

theorem u_tile23 (x : S1x1x512x128.Idx) : k0_pay25 (k0_pay53 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay59 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 5 t) r0_15) x
    = uRows m c t (r0_19.emb x) := by
  idx_vars x
  obtain rfl : x0 = 0 := Subsingleton.elim _ _
  obtain rfl : x1 = 0 := Subsingleton.elim _ _
  rw [emb_19]
  unfold k0_pay59
  rw [share_mask, share_ext]
  refine (u23_block _ _ _ x2 x3).trans ?_
  refine (tile_at m c t ⟨384 + x3.val, by omega⟩ x2 ⟨1024 + (384 + x3.val), by omega⟩ _ _ _ (cw_part2 m c t 0 _) (cw_part2 m c t 1 _) (cw_part2 m c t 2 _)).trans ?_
  unfold uRows
  refine congrArg (refConv _ _ _ _ (row t x2)) (Fin.ext ?_)
  show 1024 + (384 + x3.val) = 2 * 512 + 3 * 128 + x3.val
  omega

/-- The window of the convolved columns after a grid point's body. -/
theorem u_window (y : S3x4x512x128.Idx) : out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) y = uRows m c t y := by
  unfold out0_11
  refine View.canon_apply_of_pieces (Val := Elt Ideal) (uRows m c t) _ ?_ y (cover0_11 _ _ _ _ _ _ _ _ _ _ _ _ y)
  intro pc hpc
  rcases List.mem_cons.mp hpc with rfl | hpc
  · exact u_tile23 m c t
  rcases List.mem_cons.mp hpc with rfl | hpc
  · exact u_tile22 m c t
  rcases List.mem_cons.mp hpc with rfl | hpc
  · exact u_tile21 m c t
  rcases List.mem_cons.mp hpc with rfl | hpc
  · exact u_tile20 m c t
  rcases List.mem_cons.mp hpc with rfl | hpc
  · exact u_tile13 m c t
  rcases List.mem_cons.mp hpc with rfl | hpc
  · exact u_tile12 m c t
  rcases List.mem_cons.mp hpc with rfl | hpc
  · exact u_tile11 m c t
  rcases List.mem_cons.mp hpc with rfl | hpc
  · exact u_tile10 m c t
  rcases List.mem_cons.mp hpc with rfl | hpc
  · exact u_tile03 m c t
  rcases List.mem_cons.mp hpc with rfl | hpc
  · exact u_tile02 m c t
  rcases List.mem_cons.mp hpc with rfl | hpc
  · exact u_tile01 m c t
  rcases List.mem_singleton.mp hpc with rfl
  exact u_tile00 m c t

/-- The convolved columns' array after the run is the reference's. -/
theorem final_u : (dats m 0 c).arrAt 11 (cfgs 0).N
    = val_main_v101 (F := Ideal) (m ((c : Thread nD τ).loc main_arg0)) (m ((c : Thread nD τ).loc main_arg1)) (m ((c : Thread nD τ).loc main_arg2))
        (m ((c : Thread nD τ).loc main_arg3)) := by
  refine (dats m 0 c).arrAt_eq_of_covers 11 _ (by decide +kernel) fun t _ y => ?_
  blk_simp
  rw [after0_11]
  refine (u_window m c t y).trans ?_
  idx_vars y
  unfold uRows
  refine (ref_u _ _ _ _ y0 y1 (row t y2) y3).symm.trans ?_
  unfold row
  blk_point [idx t]

end Cert.InprojIdeal.Value
-- ==== Proof.InprojIdeal.Finite.lean ====
/-
What the precondition of the input projections says at the exact instance: the gain of the norm before the projection
and the projection's weights are real numbers.
-/
module

public import proofs.«01_k».proof.Proof.Gen.Pre_inproj_inputs_finite
public import proofs.«01_k».proof.Proof.KernelIdeal.Finite

@[expose] public section

noncomputable section

open Idealize.ShloMosaic Idealize.SL.Sem

namespace Cert.InprojIdeal.Value

open Cert.Pre_inproj_inputs_finite

/-- The precondition, as statements about the arguments' entries. -/
theorem finite_args {x0 : FVec Ideal S32768x1024 .f32} {x1 : FVec Ideal S1024 .f32} {x2 : FVec Ideal S1024x5120 .f32} {x3 : FVec Ideal S3x1536 .f32}
    {x4 x5 : FVec Ideal S64 .f32} {x6 x7 : FVec Ideal S4096x32 .f32}
    (h1 : (fn (F := Ideal) x0 x1 x2 x3 x4 x5 x6 x7).1 = fun _ => 1#1)
    (h2 : (fn (F := Ideal) x0 x1 x2 x3 x4 x5 x6 x7).2 = fun _ => 1#1) :
    (∀ i, ∃ r : ℝ, x1 i = (r : EReal)) ∧ (∀ i, ∃ r : ℝ, x2 i = (r : EReal)) :=
  ⟨fun i => Cert.KernelIdeal.Value.real_of_olt _ (congrFun h1 i),
    fun i => Cert.KernelIdeal.Value.real_of_olt _ (congrFun h2 i)⟩

end Cert.InprojIdeal.Value
-- ==== Proof.Filter.Join.lean ====
/-
A concatenation of three arrays read at an entry, once for each of the three.
-/
module

public import Idealize.ShloMosaic.Lib.Pipeline.ValueKit

@[expose] public section

noncomputable section

open Idealize.ShloMosaic

namespace Cert.FilterJoin

variable {α : Type} {t s0 s1 s2 : Shape} (a : Fin t.rank) (x0 : s0.Idx → α) (x1 : s1.Idx → α) (x2 : s2.Idx → α)
  (h : Shape.Concatenates [s0, s1, s2] t a) (j : t.Idx)

theorem first (hr : s0.rank = t.rank) (i : s0.Idx) (hi : ∀ b : Fin s0.rank, b.cast hr ≠ a → (i b).val = (j (b.cast hr)).val)
    (ha : (i (a.cast hr.symm)).val = (j a).val) : concatenate t a [⟨s0, x0⟩, ⟨s1, x1⟩, ⟨s2, x2⟩] h j = x0 i :=
  concatenate_apply_piece a [⟨s0, x0⟩, ⟨s1, x1⟩, ⟨s2, x2⟩] h j 0 (by simp) s0 x0 rfl hr 0 rfl i hi (by omega)

theorem second (h0 : s0.rank = t.rank) (hr : s1.rank = t.rank) (i : s1.Idx)
    (hi : ∀ b : Fin s1.rank, b.cast hr ≠ a → (i b).val = (j (b.cast hr)).val)
    (ha : s0.size (a.cast h0.symm) + (i (a.cast hr.symm)).val = (j a).val) : concatenate t a [⟨s0, x0⟩, ⟨s1, x1⟩, ⟨s2, x2⟩] h j = x1 i :=
  concatenate_apply_piece a [⟨s0, x0⟩, ⟨s1, x1⟩, ⟨s2, x2⟩] h j 1 (by simp) s1 x1 rfl hr (s0.size (a.cast h0.symm)) (by simp [h0]) i hi ha

theorem third (h0 : s0.rank = t.rank) (h1 : s1.rank = t.rank) (hr : s2.rank = t.rank) (i : s2.Idx)
    (hi : ∀ b : Fin s2.rank, b.cast hr ≠ a → (i b).val = (j (b.cast hr)).val)
    (ha : s0.size (a.cast h0.symm) + s1.size (a.cast h1.symm) + (i (a.cast hr.symm)).val = (j a).val) :
    concatenate t a [⟨s0, x0⟩, ⟨s1, x1⟩, ⟨s2, x2⟩] h j = x2 i :=
  concatenate_apply_piece a [⟨s0, x0⟩, ⟨s1, x1⟩, ⟨s2, x2⟩] h j 2 (by simp) s2 x2 rfl hr (s0.size (a.cast h0.symm) + s1.size (a.cast h1.symm))
    (by simp [h0, h1]) i hi ha

end Cert.FilterJoin
-- ==== Proof.FilterIdeal.Pad.lean ====
/-
The first layer's weights laid into the first rows of a wider matrix, read at an entry.
-/
module

public import proofs.«01_k».proof.Proof.Gen.FilterIdeal.Frame
public import Idealize.ShloMosaic.Lib.Routing.OpsSet
public import Idealize.ShloMosaic.Lib.Routing.OpsPair
public import Idealize.ShloMosaic.Lib.Pipeline.ValueKit

@[expose] public section

set_option maxRecDepth 16384

noncomputable section

open Idealize.ShloMosaic

namespace Cert.FilterIdeal.Value

open Cert.FilterIdeal Cert.FilterIdeal.Gen

/-- Update `(k, j)` lands at row `k`, column `j`. -/
theorem lands (idx : IVec S1 32) (h : ∀ i, (idx i).toInt = 0) (p : S33x64.Idx) (r : Fin 128) (n : Fin 64) :
    scatter_S128x64_S1_S33x64_01_n_0_0.resultIdx? p idx = some (ix2 r n) ↔ (p 0).val = r.val ∧ (p 1).val = n.val := by
  have w0 : scatter_S128x64_S1_S33x64_01_n_0_0.window p 0 = (p 0).val := by
    unfold ScatterDims.window
    rw [dif_pos (by decide)]
    rfl
  have w1 : scatter_S128x64_S1_S33x64_01_n_0_0.window p 1 = (p 1).val := by
    unfold ScatterDims.window
    rw [dif_pos (by decide)]
    rfl
  have s0 : scatter_S128x64_S1_S33x64_01_n_0_0.start p idx 0 = 0 := by
    unfold ScatterDims.start
    rw [dif_pos (by decide)]
    exact h _
  have s1 : scatter_S128x64_S1_S33x64_01_n_0_0.start p idx 1 = 0 := by
    unfold ScatterDims.start
    rw [dif_neg (by decide)]
  refine (Routing.resultIdx?_ix2 (R := 128) (C := 64) scatter_S128x64_S1_S33x64_01_n_0_0 p idx r n).trans ?_
  rw [w0, w1, s0, s1]
  omega

theorem pad_head (x : FVec Ideal S128x64 .f32) (idx : IVec S1 32) (h : ∀ i, (idx i).toInt = 0) (u : FVec Ideal S33x64 .f32) (k : Fin 33) (n : Fin 64) :
    Host.scatter scatter_S128x64_S1_S33x64_01_n_0_0 (fun _ b => b) x idx u (ix2 ⟨k.val, by omega⟩ n) = u (ix2 k n) := by
  refine Routing.scatter_set_hit _ _ _ _ _ _ (fun p hp => ?_) (ix2 k n) ((lands idx h _ _ _).2 ⟨rfl, rfl⟩)
  have e := (lands idx h p _ _).1 hp
  refine congrArg u (funext fun a => ?_)
  match a with
  | ⟨0, _⟩ => exact Fin.ext e.1
  | ⟨1, _⟩ => exact Fin.ext e.2

theorem pad_tail (x : FVec Ideal S128x64 .f32) (idx : IVec S1 32) (h : ∀ i, (idx i).toInt = 0) (u : FVec Ideal S33x64 .f32) (r : Fin 128) (hr : 33 ≤ r.val)
    (n : Fin 64) : Host.scatter scatter_S128x64_S1_S33x64_01_n_0_0 (fun _ b => b) x idx u (ix2 r n) = x (ix2 r n) := by
  refine Routing.scatter_set_miss _ _ _ _ _ fun p hp => ?_
  have e := ((lands idx h p _ _).1 hp).1
  have hp0 : (p 0).val < 33 := (p 0).isLt
  omega

end Cert.FilterIdeal.Value
-- ==== Proof.FilterIdeal.Leaves.lean ====
/-
The filters' blocks read from the argument arrays: the rows of the positions' features, the second half of them in reverse after one row
of zeros, and the weights as the host lays them out.
-/
module

public import proofs.«01_k».proof.Proof.Gen.FilterIdeal.Frame
public import proofs.«01_k».proof.Proof.Filter.Join
public import proofs.«01_k».proof.Proof.FilterIdeal.Pad
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FilterIdeal.Value

open Cert.FilterIdeal Cert.FilterIdeal.Gen

variable (m : (l : Loc nD τ sig) → Buf (Elt Ideal) l)

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val / 8, 0, 0]
    ∧ win0_8.index t = ![0, 0] ∧ win0_9.index t = ![0, t.val, 0] :=
  (by decide +kernel : ∀ t : Fin grid0.N, _)

/-- Row `r` of grid point `t`'s blocks is this row of the arrays. -/
def row (t : Fin cfg0.N) (r : Fin 512) : Fin 8192 := ⟨t.val * 512 + r.val, by have h : t.val < 16 := t.isLt; omega⟩

/-- The direction a grid point's rows belong to. -/
def dir (t : Fin cfg0.N) : Fin 2 := ⟨t.val / 8, by have h : t.val < 16 := t.isLt; omega⟩

variable (c : Dev nD) (t : Fin cfg0.N)

theorem zz_leaf (r : Fin 512) (k : Fin 128) : iblk m c 0 t (ix2 r k) = (V m c main_v6 : FVec Ideal S8192x128 .f32) (ix2 (row t r) k) := by
  unfold row; blk_point [iblk, idx t]

theorem w1_leaf (k : Fin 128) (j : Fin 64) : iblk m c 1 t (ix2 k j) = (V m c main_v9 : FVec Ideal S128x64 .f32) (ix2 k j) := by
  blk_point [iblk, idx t]

theorem b1_leaf (j : Fin 64) : iblk m c 2 t (ix2 0 j) = m ((c : Thread nD τ).loc main_arg3) (ix1 j) := by
  blk_point [iblk, V, idx t]

theorem f1_leaf (j : Fin 64) : iblk m c 3 t (ix2 0 j) = m ((c : Thread nD τ).loc main_arg4) (ix1 j) := by
  blk_point [iblk, V, idx t]

theorem w2_leaf (k j : Fin 64) : iblk m c 4 t (ix2 k j) = m ((c : Thread nD τ).loc main_arg5) (ix2 k j) := by
  blk_point [iblk, V, idx t]

theorem b2_leaf (j : Fin 64) : iblk m c 5 t (ix2 0 j) = m ((c : Thread nD τ).loc main_arg6) (ix1 j) := by
  blk_point [iblk, V, idx t]

theorem f2_leaf (j : Fin 64) : iblk m c 6 t (ix2 0 j) = m ((c : Thread nD τ).loc main_arg7) (ix1 j) := by
  blk_point [iblk, V, idx t]

theorem w3_leaf (k : Fin 64) (n : Fin 1024) : iblk m c 7 t (ix3 0 k n)
    = m ((c : Thread nD τ).loc main_arg8) (ix2 k ⟨n.val / 512 * 1024 + (dir t).val * 512 + n.val % 512, by omega⟩) := by
  unfold dir; blk_point [iblk, V, idx t]

/-- An entry of the decays' argument array. -/
def decayAt (ch : Fin 512) : EReal := m ((c : Thread nD τ).loc main_arg1) (ix1 ch)

theorem d_leaf (n : Fin 1024) : iblk m c 8 t (ix2 0 n) = (max (decayAt m c ⟨n.val % 512, by omega⟩) (-decayAt m c ⟨n.val % 512, by omega⟩) : EReal) := by
  have e : iblk m c 8 t (ix2 0 n) = (V m c main_v17 : FVec Ideal S1x1024 .f32) (ix2 0 n) := by
    blk_point [iblk, idx t]
  rw [e]
  unfold decayAt
  entry_read
  pointwise
  rfl

/-- The features beside a column of ones and columns of zeros. -/
def body (x : FVec Ideal S4096x33 .f32) : FVec Ideal S4096x128 .f32 :=
  concatenate S4096x128 1 [⟨S4096x33, x⟩,
    ⟨S4096x1, (broadcastInDim S4096x1 ![] bcast_S_S4096x1 (constant S_ .f32 0x3F800000#32) : FVec Ideal S4096x1 .f32)⟩,
    ⟨S4096x94, (broadcastInDim S4096x94 ![] bcast_S_S4096x94 (constant S_ .f32 0x00000000#32) : FVec Ideal S4096x94 .f32)⟩]
    concatenates_S4096x33_S4096x1_S4096x94_S4096x128_d1

/-- Those rows, a row of zeros, and the rows but the first in reverse. -/
def rows (y : FVec Ideal S4096x128 .f32) : FVec Ideal S8192x128 .f32 :=
  concatenate S8192x128 0 [⟨S4096x128, y⟩,
    ⟨S1x128, (broadcastInDim S1x128 ![] bcast_S_S1x128 (constant S_ .f32 0x00000000#32) : FVec Ideal S1x128 .f32)⟩,
    ⟨S4095x128, (Host.reverse [0] (extractStridedSlice S4095x128 ![1, 0] y slices_S4096x128_S4095x128_1_0) : FVec Ideal S4095x128 .f32)⟩]
    concatenates_S4096x128_S1x128_S4095x128_S8192x128_d0

theorem rows_value : (V m c main_v6 : FVec Ideal S8192x128 .f32) = rows (body (m ((c : Thread nD τ).loc main_arg0))) := by
  show StableHlo.after hostOps0 (fun b => m (c, b)) main_v6 = _
  rfl

theorem pad_value : (V m c main_v9 : FVec Ideal S128x64 .f32)
    = Host.scatter scatter_S128x64_S1_S33x64_01_n_0_0 (fun _ b => b) (broadcastInDim S128x64 ![] bcast_S_S128x64 (constant S_ .f32 0x00000000#32) : FVec Ideal S128x64 .f32)
        (broadcastInDim S1 ![] bcast_S_S1 (constantI S_ 32 0#32)) (m ((c : Thread nD τ).loc main_arg2) : FVec Ideal S33x64 .f32) := by
  entry_read
  rfl

end Cert.FilterIdeal.Value
-- ==== Proof.FilterIdeal.Rows.lean ====
/-
The kernel's rows of features read at an entry: the positions' features, then zeros, then the positions in reverse.
-/
module

public import proofs.«01_k».proof.Proof.FilterIdeal.Leaves

@[expose] public section

set_option maxRecDepth 16384

noncomputable section

open Idealize.ShloMosaic

namespace Cert.FilterIdeal.Value

open Cert.FilterIdeal Cert.FilterIdeal.Gen

theorem ones_at (i : S4096x1.Idx) : (broadcastInDim S4096x1 ![] bcast_S_S4096x1 (constant S_ .f32 0x3F800000#32) : FVec Ideal S4096x1 .f32) i = (1 : EReal) := by
  show Ideal.ofBits FTy.f32 0x3F800000#32 = (1 : EReal)
  exact Ideal.ofBits_one_f32

theorem gap_at (i : S1x128.Idx) : (broadcastInDim S1x128 ![] bcast_S_S1x128 (constant S_ .f32 0x00000000#32) : FVec Ideal S1x128 .f32) i = (0 : EReal) := by
  show Ideal.ofBits FTy.f32 0x00000000#32 = (0 : EReal)
  exact Ideal.ofBits_zero_f32

theorem pads_at (i : S128x64.Idx) : (broadcastInDim S128x64 ![] bcast_S_S128x64 (constant S_ .f32 0x00000000#32) : FVec Ideal S128x64 .f32) i = (0 : EReal) := by
  show Ideal.ofBits FTy.f32 0x00000000#32 = (0 : EReal)
  exact Ideal.ofBits_zero_f32

variable (x : FVec Ideal S4096x33 .f32) (y : FVec Ideal S4096x128 .f32)

theorem body_feature (R : Fin 4096) (k : Fin 33) : body x (ix2 R ⟨k.val, by omega⟩) = x (ix2 R k) := by
  unfold body
  refine FilterJoin.first (t := S4096x128) (s0 := S4096x33) (s1 := S4096x1) (s2 := S4096x94) 1 _ _ _ _ _ rfl (ix2 R k) (fun b hb => ?_) ?_
  · match b with
    | ⟨0, _⟩ => rfl
    | ⟨1, _⟩ => exact absurd rfl hb
  · rfl

theorem body_one (R : Fin 4096) : body x (ix2 R 33) = (1 : EReal) := by
  unfold body
  refine Eq.trans (FilterJoin.second (t := S4096x128) (s0 := S4096x33) (s1 := S4096x1) (s2 := S4096x94) 1 _ _ _ _ _ rfl rfl (ix2 R 0) (fun b hb => ?_) ?_) (ones_at _)
  · match b with
    | ⟨0, _⟩ => rfl
    | ⟨1, _⟩ => exact absurd rfl hb
  · rfl

theorem rows_fwd (R : Fin 8192) (h : R.val < 4096) (k : Fin 128) : rows y (ix2 R k) = y (ix2 ⟨R.val, h⟩ k) := by
  unfold rows
  refine FilterJoin.first (t := S8192x128) (s0 := S4096x128) (s1 := S1x128) (s2 := S4095x128) 0 _ _ _ _ _ rfl (ix2 ⟨R.val, h⟩ k) (fun b hb => ?_) ?_
  · match b with
    | ⟨0, _⟩ => exact absurd rfl hb
    | ⟨1, _⟩ => rfl
  · rfl

theorem rows_gap (R : Fin 8192) (h : R.val = 4096) (k : Fin 128) : rows y (ix2 R k) = (0 : EReal) := by
  unfold rows
  refine Eq.trans (FilterJoin.second (t := S8192x128) (s0 := S4096x128) (s1 := S1x128) (s2 := S4095x128) 0 _ _ _ _ _ rfl rfl (ix2 0 k) (fun b hb => ?_) ?_) (gap_at _)
  · match b with
    | ⟨0, _⟩ => exact absurd rfl hb
    | ⟨1, _⟩ => rfl
  · exact h.symm

theorem reversed (i : Fin 4095) (k : Fin 128) : (Host.reverse [0] (extractStridedSlice S4095x128 ![1, 0] y slices_S4096x128_S4095x128_1_0)
      : FVec Ideal S4095x128 .f32) (ix2 i k) = y (ix2 ⟨4095 - i.val, by omega⟩ k) := by
  have e : (Host.reverse [0] (extractStridedSlice S4095x128 ![1, 0] y slices_S4096x128_S4095x128_1_0) : FVec Ideal S4095x128 .f32) (ix2 i k)
      = extractStridedSlice S4095x128 ![1, 0] y slices_S4096x128_S4095x128_1_0 (ix2 i.rev k) := by
    generalize extractStridedSlice S4095x128 ![1, 0] y slices_S4096x128_S4095x128_1_0 = v
    refine congrArg v (funext fun a => ?_)
    match a with
    | ⟨0, _⟩ => rfl
    | ⟨1, _⟩ => rfl
  refine e.trans (extractStridedSlice_apply ![1, 0] y slices_S4096x128_S4095x128_1_0 (ix2 i.rev k) (ix2 ⟨4095 - i.val, by omega⟩ k) fun a => ?_)
  match a with
  | ⟨0, _⟩ => show 4095 - i.val = 1 + i.rev.val; rw [Fin.val_rev]; omega
  | ⟨1, _⟩ => show k.val = 0 + k.val; omega

theorem rows_bwd (R : Fin 8192) (h : 4096 < R.val) (k : Fin 128) : rows y (ix2 R k) = y (ix2 ⟨8192 - R.val, by omega⟩ k) := by
  unfold rows
  refine Eq.trans (FilterJoin.third (t := S8192x128) (s0 := S4096x128) (s1 := S1x128) (s2 := S4095x128) 0 _ _ _ _ _ rfl rfl rfl (ix2 ⟨R.val - 4097, by omega⟩ k) (fun b hb => ?_) ?_) ?_
  · match b with
    | ⟨0, _⟩ => exact absurd rfl hb
    | ⟨1, _⟩ => rfl
  · show 4096 + 1 + (R.val - 4097) = R.val
    omega
  · rw [reversed]
    exact congrArg (fun q => y (ix2 q k)) (Fin.ext (by show 4095 - (R.val - 4097) = 8192 - R.val; omega))

end Cert.FilterIdeal.Value
-- ==== Proof.FilterIdeal.Block.lean ====
/-
One block of the filters: what the kernel's value is, entry by entry, from the blocks it reads.
-/
module

public import proofs.«01_k».proof.Proof.Gen.FilterIdeal.Frame
public import proofs.«01_k».proof.Proof.Filter.Row
public import Idealize.ShloMosaic.Lib.Pipeline.ValueKit
public import Idealize.ShloMosaic.Lib.Pointwise

@[expose] public section

set_option maxRecDepth 16384

noncomputable section

open Idealize.ShloMosaic

namespace Cert.FilterIdeal.Value

open Cert.FilterIdeal Cert.FilterIdeal.Gen Cert.FilterRow

/-- The second layer's product at an entry. -/
theorem hidden_block (zz : Vec Ideal S512x128 .f32) (w1 : Vec Ideal S128x64 .f32) (f1 b1 : Vec Ideal S1x64 .f32) (w2 : Vec Ideal S64x64 .f32)
    (r : Fin 512) (j : Fin 64) : k0_pay9 (F := Ideal) zz w1 f1 b1 w2 (ix2 r j)
      = dot3 (fun i => unit (dot3 (fun k => zz (ix2 r k)) fun k => w1 (ix2 k i)) (b1 (ix2 0 i)) (f1 (ix2 0 i))) fun i => w2 (ix2 i j) := by
  pointwise [k0_pay9, k0_pay8]
  rfl

/-- An entry of the last layer's product, with its decay. -/
theorem last_block (zz : Vec Ideal S512x128 .f32) (v : FVec Ideal S512x64 .f32) (f2 b2 : Vec Ideal S1x64 .f32) (w3 : Vec Ideal S1x64x1024 .f32)
    (d : Vec Ideal S1x1024 .f32) (r : Fin 512) (n : Fin 1024) : k0_pay10 (F := Ideal) (k0_pay8 zz) v f2 b2 w3 d (ix2 r n)
      = dot3 (fun j => unit (v (ix2 r j)) (b2 (ix2 0 j)) (f2 (ix2 0 j))) (fun k => w3 (ix3 0 k n))
          * (Ideal.exp (-zz (ix2 r 0) * d (ix2 0 n)) * zz (ix2 r 33)) := by
  pointwise [k0_pay10, k0_pay8]
  simp only [zero_sub]
  rfl

/-- An entry of the block's taps. -/
theorem tap_block (zz : Vec Ideal S512x128 .f32) (w1 : Vec Ideal S128x64 .f32) (f1 b1 : Vec Ideal S1x64 .f32) (w2 : Vec Ideal S64x64 .f32)
    (f2 b2 : Vec Ideal S1x64 .f32) (w3 : Vec Ideal S1x64x1024 .f32) (d : Vec Ideal S1x1024 .f32) (r : Fin 512) (n : Fin 1024) :
    k0_pay10 (F := Ideal) (k0_pay8 zz) (k0_pay9 zz w1 f1 b1 w2) f2 b2 w3 d (ix2 r n)
      = tap3 (fun k => zz (ix2 r k)) (fun k j => w1 (ix2 k j)) (fun j => b1 (ix2 0 j)) (fun j => f1 (ix2 0 j)) (fun k j => w2 (ix2 k j))
          (fun j => b2 (ix2 0 j)) (fun j => f2 (ix2 0 j)) (fun k => w3 (ix3 0 k n)) (d (ix2 0 n)) := by
  rw [last_block]
  simp only [hidden_block]
  rfl

end Cert.FilterIdeal.Value
-- ==== Proof.FilterIdeal.Reference.lean ====
/-
The filters' reference read at an entry: a tap of one position's row, the second direction's positions in reverse.
-/
module

public import proofs.«01_k».proof.Proof.Gen.FilterReferenceIdeal.Run
public import proofs.«01_k».proof.Proof.Gen.FilterReferenceIdeal.Read
public import proofs.«01_k».proof.Proof.Filter.Row
public import proofs.«01_k».proof.Proof.Filter.Join
public import Idealize.ShloMosaic.Lib.Pipeline.ValueKit
public import Idealize.ShloMosaic.Lib.Pointwise

@[expose] public section

set_option maxRecDepth 16384

noncomputable section

open Idealize.ShloMosaic

namespace Cert.FilterIdeal.Value

open Cert.FilterReferenceIdeal Cert.FilterReferenceIdeal.Read Cert.FilterRow

variable (x0 : FVec Ideal S4096x33 .f32) (x1 : FVec Ideal S512 .f32) (x2 : FVec Ideal S33x64 .f32) (x3 x4 : FVec Ideal S64 .f32)
  (x5 : FVec Ideal S64x64 .f32) (x6 x7 : FVec Ideal S64 .f32) (x8 : FVec Ideal S64x2048 .f32)

/-- A tap at a position, of a column of the last layer's weights. -/
def refTap (R : Fin 4096) (j : Fin 2048) (ch : Fin 512) : EReal :=
  tap (layer2 (layer1 (fun k => x0 (ix2 R k)) (fun k j => x2 (ix2 k j)) (fun j => x3 (ix1 j)) (fun j => x4 (ix1 j))) (fun k j => x5 (ix2 k j))
    (fun j => x6 (ix1 j)) (fun j => x7 (ix1 j))) (fun k => x8 (ix2 k j)) (x0 (ix2 R 0)) (max (x1 (ix1 ch)) (-x1 (ix1 ch)))

theorem ref_hidden (R : Fin 4096) (j : Fin 64) : val_main_v16 (F := Ideal) x0 x2 x3 x4 x5 x6 x7 (ix2 R j)
    = layer2 (layer1 (fun k => x0 (ix2 R k)) (fun k j => x2 (ix2 k j)) (fun j => x3 (ix1 j)) (fun j => x4 (ix1 j))) (fun k j => x5 (ix2 k j))
        (fun j => x6 (ix1 j)) (fun j => x7 (ix1 j)) j := by
  pointwise [val_main_v16, val_main_v15, val_main_v14, val_main_v13, val_main_v12, val_main_v11, val_main_v10, val_main_v9, val_main_v8,
    val_main_v7, val_main_v6, val_main_v5, val_main_v4, val_main_v3, val_main_v2, val_main_v1]
  rfl

theorem ref_tap (R : Fin 4096) (o d : Fin 2) (ch : Fin 512) : val_main_v28 (F := Ideal) x0 x1 x2 x3 x4 x5 x6 x7 x8 (ix4 R o d ch)
    = refTap x0 x1 x2 x3 x4 x5 x6 x7 x8 R ⟨o.val * 1024 + d.val * 512 + ch.val, by omega⟩ ch := by
  pointwise [val_main_v28, val_main_v27, val_main_v26, val_main_v25, val_main_v24, val_main_v23, val_main_v22, val_main_v21, val_main_v20,
    val_main_v19, val_main_v18, val_main_v17, val_main_v0]
  simp only [ref_hidden]
  rfl

/-- A direction's column of the last layer's weights. -/
def col (d : Fin 2) (n : Fin 1024) : Fin 2048 := ⟨n.val / 512 * 1024 + d.val * 512 + n.val % 512, by omega⟩

/-- The reference's result at an entry. -/
def refAt (a : Fin 8) (R : Fin 8192) (l : Fin 128) : EReal :=
  if h : R.val < 4096 then refTap x0 x1 x2 x3 x4 x5 x6 x7 x8 ⟨R.val, h⟩ (col 0 ⟨a.val * 128 + l.val, by omega⟩) ⟨(a.val * 128 + l.val) % 512, by omega⟩
  else if h' : R.val = 4096 then 0
  else refTap x0 x1 x2 x3 x4 x5 x6 x7 x8 ⟨8192 - R.val, by omega⟩ (col 1 ⟨a.val * 128 + l.val, by omega⟩) ⟨(a.val * 128 + l.val) % 512, by omega⟩

theorem ref_fwd (R : Fin 4096) (o : Fin 2) (ch : Fin 512) : val_main_v30 (F := Ideal) x0 x1 x2 x3 x4 x5 x6 x7 x8 (ix3 R o ch)
    = refTap x0 x1 x2 x3 x4 x5 x6 x7 x8 R ⟨o.val * 1024 + ch.val, by omega⟩ ch := by
  pointwise [val_main_v30, val_main_v29]
  refine (ref_tap x0 x1 x2 x3 x4 x5 x6 x7 x8 R o 0 ch).trans ?_
  exact congrArg (fun j => refTap x0 x1 x2 x3 x4 x5 x6 x7 x8 R j ch) (Fin.ext (by show o.val * 1024 + 0 * 512 + ch.val = o.val * 1024 + ch.val; omega))

theorem ref_bwd (R : Fin 4096) (o : Fin 2) (ch : Fin 512) : val_main_v32 (F := Ideal) x0 x1 x2 x3 x4 x5 x6 x7 x8 (ix3 R o ch)
    = refTap x0 x1 x2 x3 x4 x5 x6 x7 x8 R ⟨o.val * 1024 + 512 + ch.val, by omega⟩ ch := by
  pointwise [val_main_v32, val_main_v31]
  refine (ref_tap x0 x1 x2 x3 x4 x5 x6 x7 x8 R o 1 ch).trans ?_
  exact congrArg (fun j => refTap x0 x1 x2 x3 x4 x5 x6 x7 x8 R j ch) (Fin.ext (by show o.val * 1024 + 1 * 512 + ch.val = o.val * 1024 + 512 + ch.val; omega))

/-- The reversed second direction. -/
theorem ref_rev (i : Fin 4095) (o : Fin 2) (ch : Fin 512) : val_main_v36 (F := Ideal) x0 x1 x2 x3 x4 x5 x6 x7 x8 (ix3 i o ch)
    = val_main_v32 (F := Ideal) x0 x1 x2 x3 x4 x5 x6 x7 x8 (ix3 ⟨4095 - i.val, by omega⟩ o ch) := by
  have e : val_main_v36 (F := Ideal) x0 x1 x2 x3 x4 x5 x6 x7 x8 (ix3 i o ch)
      = val_main_v35 (F := Ideal) x0 x1 x2 x3 x4 x5 x6 x7 x8 (ix3 i.rev o ch) := by
    unfold val_main_v36
    generalize val_main_v35 (F := Ideal) x0 x1 x2 x3 x4 x5 x6 x7 x8 = y
    refine congrArg y (funext fun a => ?_)
    match a with
    | ⟨0, _⟩ => rfl
    | ⟨1, _⟩ => rfl
    | ⟨2, _⟩ => rfl
  rw [e, val_main_v35_apply]
  generalize val_main_v32 (F := Ideal) x0 x1 x2 x3 x4 x5 x6 x7 x8 = y
  refine congrArg y (funext fun a => ?_)
  match a with
  | ⟨0, _⟩ => exact Fin.ext (by show 1 + i.rev.val = 4095 - i.val; rw [Fin.val_rev]; omega)
  | ⟨1, _⟩ => rfl
  | ⟨2, _⟩ => rfl

theorem ref_gap (i : S1x2x512.Idx) : val_main_v34 (F := Ideal) i = 0 := by
  pointwise [val_main_v34, val_main_cst]

theorem ref_both (R : Fin 8192) (o : Fin 2) (ch : Fin 512) : val_main_v37 (F := Ideal) x0 x1 x2 x3 x4 x5 x6 x7 x8 (ix3 R o ch)
    = if h : R.val < 4096 then val_main_v30 (F := Ideal) x0 x1 x2 x3 x4 x5 x6 x7 x8 (ix3 ⟨R.val, h⟩ o ch)
      else if h' : R.val = 4096 then 0
      else val_main_v32 (F := Ideal) x0 x1 x2 x3 x4 x5 x6 x7 x8 (ix3 ⟨8192 - R.val, by omega⟩ o ch) := by
  unfold val_main_v37
  by_cases h : R.val < 4096
  · rw [dif_pos h]
    refine FilterJoin.first (t := S8192x2x512) (s0 := S4096x2x512) (s1 := S1x2x512) (s2 := S4095x2x512) 0 _ _ _ _ _ rfl (ix3 ⟨R.val, h⟩ o ch) (fun b hb => ?_) ?_
    · match b with
      | ⟨0, _⟩ => exact absurd rfl hb
      | ⟨1, _⟩ => rfl
      | ⟨2, _⟩ => rfl
    · rfl
  · rw [dif_neg h]
    by_cases h' : R.val = 4096
    · rw [dif_pos h']
      refine Eq.trans (FilterJoin.second (t := S8192x2x512) (s0 := S4096x2x512) (s1 := S1x2x512) (s2 := S4095x2x512) 0 _ _ _ _ _ rfl rfl (ix3 0 o ch) (fun b hb => ?_) ?_) (ref_gap _)
      · match b with
        | ⟨0, _⟩ => exact absurd rfl hb
        | ⟨1, _⟩ => rfl
        | ⟨2, _⟩ => rfl
      · exact h'.symm
    · rw [dif_neg h']
      refine Eq.trans (FilterJoin.third (t := S8192x2x512) (s0 := S4096x2x512) (s1 := S1x2x512) (s2 := S4095x2x512) 0 _ _ _ _ _ rfl rfl rfl (ix3 ⟨R.val - 4097, by omega⟩ o ch) (fun b hb => ?_) ?_) ?_
      · match b with
        | ⟨0, _⟩ => exact absurd rfl hb
        | ⟨1, _⟩ => rfl
        | ⟨2, _⟩ => rfl
      · show 4096 + 1 + (R.val - 4097) = R.val
        omega
      · rw [ref_rev]
        exact congrArg (fun q => val_main_v32 (F := Ideal) x0 x1 x2 x3 x4 x5 x6 x7 x8 (ix3 q o ch)) (Fin.ext (by show 4095 - (R.val - 4097) = 8192 - R.val; omega))

/-- The reference's result, entry by entry. -/
theorem ref_at (a : Fin 8) (R : Fin 8192) (l : Fin 128) : val_main_v39 (F := Ideal) x0 x1 x2 x3 x4 x5 x6 x7 x8 (ix3 a R l)
    = refAt x0 x1 x2 x3 x4 x5 x6 x7 x8 a R l := by
  rw [val_main_v39_apply, val_main_v38_apply]
  have e : idx_main_v38 (idx_main_v39 (ix3 a R l)) = ix3 R ⟨(a.val * 128 + l.val) / 512, by omega⟩ ⟨(a.val * 128 + l.val) % 512, by omega⟩ := by
    funext q
    match q with
    | ⟨0, _⟩ => exact Fin.ext (by show ((R.val * 8 + a.val) * 128 + l.val) / 1024 = R.val; omega)
    | ⟨1, _⟩ => exact Fin.ext (by show ((R.val * 8 + a.val) * 128 + l.val) / 512 % 2 = (a.val * 128 + l.val) / 512; omega)
    | ⟨2, _⟩ => exact Fin.ext (by show ((R.val * 8 + a.val) * 128 + l.val) % 512 = (a.val * 128 + l.val) % 512; omega)
  rw [e, ref_both]
  unfold refAt
  by_cases h : R.val < 4096
  · rw [dif_pos h, dif_pos h, ref_fwd]
    exact congrArg (fun j => refTap x0 x1 x2 x3 x4 x5 x6 x7 x8 _ j _) (Fin.ext (by
      show (a.val * 128 + l.val) / 512 * 1024 + (a.val * 128 + l.val) % 512 = (a.val * 128 + l.val) / 512 * 1024 + 0 * 512 + (a.val * 128 + l.val) % 512; omega))
  · rw [dif_neg h, dif_neg h]
    by_cases h' : R.val = 4096
    · rw [dif_pos h', dif_pos h']
    · rw [dif_neg h', dif_neg h', ref_bwd]
      exact congrArg (fun j => refTap x0 x1 x2 x3 x4 x5 x6 x7 x8 _ j _) (Fin.ext (by
        show (a.val * 128 + l.val) / 512 * 1024 + 512 + (a.val * 128 + l.val) % 512 = (a.val * 128 + l.val) / 512 * 1024 + 1 * 512 + (a.val * 128 + l.val) % 512; omega))

end Cert.FilterIdeal.Value
-- ==== Proof.FilterIdeal.Value.lean ====
/-
The kernel's filters: every lane of every grid point's block is the reference's tap, so the array after the run is the reference's.
-/
module

public import proofs.«01_k».proof.Proof.Gen.FilterIdeal.Value
public import proofs.«01_k».proof.Proof.FilterIdeal.Rows
public import proofs.«01_k».proof.Proof.FilterIdeal.Block
public import proofs.«01_k».proof.Proof.FilterIdeal.Reference

@[expose] public section

set_option maxRecDepth 16384

noncomputable section

open Idealize.ShloMosaic Idealize.ShloMosaic.TcCoe Idealize.SL.Sem
open Idealize.ShloMosaic.Pipeline (Dat)

namespace Cert.FilterIdeal.Value

open Cert.FilterIdeal Cert.FilterIdeal.Gen Cert.FilterRow
open Cert.FilterReferenceIdeal.Read Cert.FilterReferenceIdeal.Value

variable (m : (l : Loc nD τ sig) → Buf (Elt Ideal) l) (c : Dev nD) (t : Fin cfg0.N)

theorem start_at (i : S1.Idx) : ((broadcastInDim S1 ![] bcast_S_S1 (constantI S_ 32 0#32) : IVec S1 32) i).toInt = 0 := by
  show (0#32 : BitVec 32).toInt = 0
  decide

theorem w1_head (k : Fin 33) (j : Fin 64) : iblk m c 1 t (ix2 ⟨k.val, by omega⟩ j) = m ((c : Thread nD τ).loc main_arg2) (ix2 k j) := by
  rw [w1_leaf, pad_value]
  exact pad_head _ _ start_at _ k j

theorem w1_tail (k : Fin 128) (j : Fin 64) (hk : 33 ≤ k.val) : iblk m c 1 t (ix2 k j) = (0 : EReal) := by
  rw [w1_leaf, pad_value]
  exact (pad_tail _ _ start_at _ k hk j).trans (pads_at _)

/-- A lane of a grid point's rows. -/
def tapAt (r : Fin 512) (n : Fin 1024) : EReal :=
  tap3 (fun k => iblk m c 0 t (ix2 r k)) (fun k j => iblk m c 1 t (ix2 k j)) (fun j => iblk m c 2 t (ix2 0 j)) (fun j => iblk m c 3 t (ix2 0 j))
    (fun k j => iblk m c 4 t (ix2 k j)) (fun j => iblk m c 5 t (ix2 0 j)) (fun j => iblk m c 6 t (ix2 0 j)) (fun k => iblk m c 7 t (ix3 0 k n))
    (iblk m c 8 t (ix2 0 n))

/-- A row holding a position's features gives the reference's tap of that position. -/
theorem tap_of_row (h8 : ∀ i, ∃ r : ℝ, m ((c : Thread nD τ).loc main_arg8) i = (r : EReal)) (r : Fin 512) (n : Fin 1024) (R : Fin 4096)
    (hR : ∀ k, iblk m c 0 t (ix2 r k) = body (m ((c : Thread nD τ).loc main_arg0)) (ix2 R k)) :
    tapAt m c t r n = refTap (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) R (col (dir t) n)
      ⟨n.val % 512, by omega⟩ := by
  unfold tapAt
  refine (tap3_eq _ _ _ _ _ _ _ _ _ (fun k => m ((c : Thread nD τ).loc main_arg0) (ix2 R k)) (fun k j => m ((c : Thread nD τ).loc main_arg2) (ix2 k j))
    (fun k => ?_) ?_ (fun k j => w1_head m c t k j) (fun k j hk => w1_tail m c t k j hk) (fun k => ?_)).trans ?_
  · exact (hR _).trans (body_feature _ R k)
  · exact (hR 33).trans (body_one _ R)
  · rw [w3_leaf]; exact h8 _
  · simp only [b1_leaf, f1_leaf, w2_leaf, b2_leaf, f2_leaf, w3_leaf, d_leaf]
    rfl

theorem tap_at (h8 : ∀ i, ∃ r : ℝ, m ((c : Thread nD τ).loc main_arg8) i = (r : EReal)) (a : Fin 8) (r : Fin 512) (l : Fin 128) :
    tapAt m c t r ⟨a.val * 128 + l.val, by omega⟩
      = refAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) a (row t r) l := by
  have ht : t.val < 16 := t.isLt
  have hr := r.isLt
  have hv : (row t r).val = t.val * 512 + r.val := rfl
  have hz : ∀ k, iblk m c 0 t (ix2 r k) = rows (body (m ((c : Thread nD τ).loc main_arg0))) (ix2 (row t r) k) := fun k => by
    rw [zz_leaf, rows_value]
  unfold refAt
  by_cases h : (row t r).val < 4096
  · rw [dif_pos h, tap_of_row m c t h8 r _ ⟨(row t r).val, h⟩ (fun k => (hz k).trans (rows_fwd _ _ h k))]
    have hd : dir t = 0 := Fin.ext (by show t.val / 8 = 0; omega)
    rw [hd]
  · rw [dif_neg h]
    by_cases h' : (row t r).val = 4096
    · rw [dif_pos h']
      unfold tapAt
      exact tap3_zero _ _ _ _ _ _ _ _ _ ((hz 33).trans (rows_gap _ _ h' 33))
    · rw [dif_neg h', tap_of_row m c t h8 r _ ⟨8192 - (row t r).val, by omega⟩ (fun k => (hz k).trans (rows_bwd _ _ (by omega) k))]
      have hd : dir t = 1 := Fin.ext (by show t.val / 8 = 1; omega)
      rw [hd]

/-- A lane of the block a grid point leaves. -/
theorem out_at (a : Fin 8) (r : Fin 512) (l : Fin 128) : out0_9 (iblk m c 0 t) (iblk m c 1 t) (iblk m c 2 t) (iblk m c 3 t) (iblk m c 4 t) (iblk m c 5 t)
    (iblk m c 6 t) (iblk m c 7 t) (iblk m c 8 t) (ix3 a r l) = tapAt m c t r ⟨a.val * 128 + l.val, by omega⟩ := by
  unfold_out out0_9
  frame_out
  refine (canon9_eq _ _ _ _ _ _ _ _ _ _).trans ?_
  refine Eq.trans ?_ (tap_block _ _ _ _ _ _ _ _ _ r ⟨a.val * 128 + l.val, by omega⟩)
  refine congrArg (k0_pay10 (F := Ideal) _ _ _ _ _ _) (funext fun q => ?_)
  match q with
  | ⟨0, _⟩ => rfl
  | ⟨1, _⟩ => rfl

/-- The filters' array after the run is the reference's. -/
theorem final (h8 : ∀ i, ∃ r : ℝ, m ((c : Thread nD τ).loc main_arg8) i = (r : EReal)) : (dats m 0 c).arrAt 9 (cfgs 0).N
    = val_main_v39 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9]
  idx_vars y
  refine (out_at m c t y0 y1 y2).trans ?_
  refine (tap_at m c t h8 y0 y1 y2).trans ?_
  refine (ref_at _ _ _ _ _ _ _ _ _ y0 (row t y1) y2).symm.trans ?_
  unfold row
  blk_point [idx t]

end Cert.FilterIdeal.Value
-- ==== Proof.FilterIdeal.Finite.lean ====
/-
What the precondition of the filters says at the exact instance: the positions' features and the three weight matrices are real
numbers.
-/
module

public import proofs.«01_k».proof.Proof.Gen.Pre_filter_inputs_finite
public import proofs.«01_k».proof.Proof.KernelIdeal.Finite

@[expose] public section

noncomputable section

open Idealize.ShloMosaic Idealize.SL.Sem

namespace Cert.FilterIdeal.Value

open Cert.Pre_filter_inputs_finite

/-- The precondition, as statements about the arguments' entries. -/
theorem finite_args {x0 : FVec Ideal S4096x33 .f32} {x1 : FVec Ideal S512 .f32} {x2 : FVec Ideal S33x64 .f32} {x3 x4 : FVec Ideal S64 .f32}
    {x5 : FVec Ideal S64x64 .f32} {x6 x7 : FVec Ideal S64 .f32} {x8 : FVec Ideal S64x2048 .f32}
    (h : fn (F := Ideal) x0 x1 x2 x3 x4 x5 x6 x7 x8 = fun _ => 1#1) (i : S64x2048.Idx) : ∃ r : ℝ, x8 i = (r : EReal) :=
  Cert.KernelIdeal.Value.real_of_olt _ (congrFun h i)

end Cert.FilterIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Dense
public import proofs.«01_k».proof.Proof.Gen.Dense.Skeleton
public import proofs.«01_k».proof.Proof.Gen.Dense.Launch
public import proofs.«01_k».proof.Proof.Gen.Dense.Points
public import proofs.«01_k».proof.Proof.Gen.Dense.Frame
public import proofs.«01_k».proof.Proof.Gen.DenseIdeal
public import proofs.«01_k».proof.Proof.Gen.DenseIdeal.Skeleton
public import proofs.«01_k».proof.Proof.Gen.DenseIdeal.Launch
public import proofs.«01_k».proof.Proof.Gen.DenseIdeal.Points
public import proofs.«01_k».proof.Proof.Gen.DenseIdeal.Frame
public import proofs.«01_k».proof.Proof.Gen.DenseReferenceIdeal
public import proofs.«01_k».proof.Proof.Gen.Pre_attention_inputs_finite
public import proofs.«01_k».proof.Proof.Gen.ReferenceIdeal.Run
public import proofs.«01_k».proof.Proof.Gen.ReferenceIdeal.Read
public import proofs.«01_k».proof.Proof.Gen.DenseReferenceIdeal.Run
public import proofs.«01_k».proof.Proof.Gen.DenseReferenceIdeal.Read
public import proofs.«01_k».proof.Proof.Gen.DenseIdeal.Value
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.RouterReferenceIdeal
public import proofs.«01_k».proof.Proof.Gen.RouterReferenceIdeal.Run
public import proofs.«01_k».proof.Proof.Gen.RouterReferenceIdeal.Read
public import proofs.«01_k».proof.Proof.Gen.MergeIdeal.Value
public import proofs.«01_k».proof.Proof.Gen.RouterIdeal.Value
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojReferenceIdeal
public import proofs.«01_k».proof.Proof.Gen.InprojReferenceIdeal.Run
public import proofs.«01_k».proof.Proof.Gen.InprojReferenceIdeal.Read
public import proofs.«01_k».proof.Proof.Gen.InprojIdeal.Value
public import proofs.«01_k».proof.Proof.Gen.Pre_inproj_inputs_finite
public import proofs.«01_k».proof.Proof.Gen.Filter
public import proofs.«01_k».proof.Proof.Gen.Filter.Skeleton
public import proofs.«01_k».proof.Proof.Gen.Filter.Launch
public import proofs.«01_k».proof.Proof.Gen.Filter.Points
public import proofs.«01_k».proof.Proof.Gen.Filter.Frame
public import proofs.«01_k».proof.Proof.Gen.FilterIdeal
public import proofs.«01_k».proof.Proof.Gen.FilterIdeal.Skeleton
public import proofs.«01_k».proof.Proof.Gen.FilterIdeal.Launch
public import proofs.«01_k».proof.Proof.Gen.FilterIdeal.Points
public import proofs.«01_k».proof.Proof.Gen.FilterIdeal.Frame
public import proofs.«01_k».proof.Proof.Gen.FilterReferenceIdeal
public import proofs.«01_k».proof.Proof.Gen.FilterReferenceIdeal.Run
public import proofs.«01_k».proof.Proof.Gen.FilterReferenceIdeal.Read
public import proofs.«01_k».proof.Proof.Gen.FilterIdeal.Value
public import proofs.«01_k».proof.Proof.Gen.Pre_filter_inputs_finite
public import proofs.«01_k».proof.Proof.Kernel.AttFrame
public import proofs.«01_k».proof.Proof.KernelIdeal.AttFrame
public import proofs.«01_k».proof.Proof.KernelIdeal.Value
public import proofs.«01_k».proof.Proof.DenseIdeal.Value
public import proofs.«01_k».proof.Proof.MergeIdeal.Value
public import proofs.«01_k».proof.Proof.RouterIdeal.Value
public import proofs.«01_k».proof.Proof.InprojIdeal.ConvValue
public import proofs.«01_k».proof.Proof.InprojIdeal.Finite
public import proofs.«01_k».proof.Proof.FilterIdeal.Value
public import proofs.«01_k».proof.Proof.FilterIdeal.Finite
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The attention: the kernel's result array and the reference's are equal on finite values and lambda vectors. -/
theorem attention_value : Cert.algebraic_KernelIdeal_ReferenceIdeal_pre_attention_inputs_finite := by
  pair_intro
  · run_from Cert.KernelIdeal.Gen.run_main m g
  · run_from Cert.ReferenceIdeal.Value.run m' g'
    obtain ⟨p2, p3, p4, p5, p6⟩ := hpre c
    obtain ⟨h2, h3, h4, h5, h6⟩ := Cert.KernelIdeal.Value.finite_args p2 p3 p4 p5 p6
    refine (Cert.ReferenceIdeal.Read.val_main_v52_eq m' c).trans ?_
    rw [Cert.KernelIdeal.Value.final m c h2 h3 h4 h5 h6]
    obtain ⟨a0, a1, a2, a3, a4, a5, a6, a7⟩ := hagree c
    rw [a0, a1, a2, a3, a4, a5, a6, a7]

/-- The attention's reference leaves its arguments unchanged and every counter at zero. -/
theorem reference_frame : Cert.quiescent_ReferenceIdeal := fun m g _ =>
  (θ_run _ _ _).mono (fun r h => ⟨fun c => (h c).2, sem_eq_zero_of_no_sems (by decide) r.2⟩) (Cert.ReferenceIdeal.Value.run m g)

/-- The feed-forward's reference leaves its arguments unchanged and every counter at zero. -/
theorem dense_reference_frame : Cert.quiescent_DenseReferenceIdeal := fun m g _ =>
  (θ_run _ _ _).mono (fun r h => ⟨fun c => (h c).2, sem_eq_zero_of_no_sems (by decide) r.2⟩) (Cert.DenseReferenceIdeal.Value.run m g)

/-- The dense feed-forward: the kernel's result array and the reference's are equal. -/
theorem dense_value : Cert.algebraic_DenseIdeal_DenseReferenceIdeal := by
  pair_intro
  · run_from Cert.DenseIdeal.Gen.run_main m g
  · run_from Cert.DenseReferenceIdeal.Value.run m' g'
    exact (Cert.DenseReferenceIdeal.Read.val_main_v9_eq _ _ _ _ _).trans (Cert.DenseIdeal.Value.final m c).symm

/-- The merge's reference leaves its arguments unchanged and every counter at zero. -/
theorem merge_reference_frame : Cert.quiescent_MergeReferenceIdeal := fun m g _ =>
  (θ_run _ _ _).mono (fun r h => ⟨fun c => (h c).2.2, sem_eq_zero_of_no_sems (by decide) r.2⟩) (Cert.MergeReferenceIdeal.Value.run m g)

/-- The merge: the kernel's two result arrays and the reference's are equal. -/
theorem merge_value : Cert.algebraic_MergeIdeal_MergeReferenceIdeal := by
  pair_intro
  · run_from Cert.MergeIdeal.Gen.run_main m g
  · run_from Cert.MergeReferenceIdeal.Value.run m' g'
    all_goals obtain ⟨a0, a1, a2, a3, a4, a5, a6, a7⟩ := hagree c
    · refine (Cert.MergeReferenceIdeal.Read.val_main_v20_eq _ _ _ _ _ _ _).trans ?_
      rw [Cert.MergeIdeal.Value.final_stream m c]
    · refine (Cert.MergeReferenceIdeal.Read.val_main_v34_eq m' c).trans ?_
      rw [Cert.MergeIdeal.Value.final_norm m c, a0, a1, a2, a3, a4, a5, a6, a7]

/-- The router merge's reference leaves its arguments unchanged and every counter at zero. -/
theorem router_reference_frame : Cert.quiescent_RouterReferenceIdeal := fun m g _ =>
  (θ_run _ _ _).mono (fun r h => ⟨fun c => (h c).2.2.2, sem_eq_zero_of_no_sems (by decide) r.2⟩) (Cert.RouterReferenceIdeal.Value.run m g)

/-- The merge with the router: the kernel's three result arrays and the reference's are equal. -/
theorem router_value : Cert.algebraic_RouterIdeal_RouterReferenceIdeal := by
  pair_intro
  · run_from Cert.RouterIdeal.Gen.run_main m g
  · run_from Cert.RouterReferenceIdeal.Value.run m' g'
    all_goals obtain ⟨a0, a1, a2, a3, a4, a5, a6, a7, a8⟩ := hagree c
    · refine (Cert.RouterReferenceIdeal.Read.val_main_v20_eq _ _ _ _ _ _ _).trans ?_
      rw [Cert.RouterIdeal.Value.final_stream m c]
    · refine (Cert.RouterReferenceIdeal.Read.val_main_v33_eq m' c).trans ?_
      rw [Cert.RouterIdeal.Value.final_norm m c, a0, a1, a2, a3, a4, a5, a6, a7]
    · refine (Cert.RouterReferenceIdeal.Read.val_main_v35_eq m' c).trans ?_
      rw [Cert.RouterIdeal.Value.final_logits m c]
      simp only [a0, a1, a2, a3, a4, a5, a6, a7, a8]

/-- The input projections' reference leaves its arguments unchanged and every counter at zero. -/
theorem inproj_reference_frame : Cert.quiescent_InprojReferenceIdeal := fun m g _ =>
  (θ_run _ _ _).mono (fun r h => ⟨fun c => (h c).2.2.2.2.2, sem_eq_zero_of_no_sems (by decide) r.2⟩) (Cert.InprojReferenceIdeal.Value.run m g)

set_option maxHeartbeats 4000000 in
/-- The input projections: the kernel's five result arrays and the reference's are equal where the norm's gain and the weights are finite. -/
theorem inproj_value : Cert.algebraic_InprojIdeal_InprojReferenceIdeal_pre_inproj_inputs_finite := by
  pair_intro
  · run_from Cert.InprojIdeal.Gen.run_main m g
  · run_from Cert.InprojReferenceIdeal.Value.run m' g'
    all_goals obtain ⟨p1, p2⟩ := hpre c
    all_goals obtain ⟨h1, h2⟩ := Cert.InprojIdeal.Value.finite_args p1 p2
    all_goals obtain ⟨a0, a1, a2, a3, a4, a5, a6, a7⟩ := hagree c
    · refine (Cert.InprojReferenceIdeal.Read.val_main_v101_eq m' c).trans ?_
      rw [Cert.InprojIdeal.Value.final_u m c]
      simp only [a0, a1, a2, a3]
    · refine (Cert.InprojReferenceIdeal.Read.val_main_v103_eq m' c).trans ?_
      rw [Cert.InprojIdeal.Value.final_q m c h1 h2]
      simp only [a0, a1, a2, a4, a6, a7]
    · refine (Cert.InprojReferenceIdeal.Read.val_main_v105_eq m' c).trans ?_
      rw [Cert.InprojIdeal.Value.final_k m c h1 h2]
      simp only [a0, a1, a2, a5, a6, a7]
    · refine (Cert.InprojReferenceIdeal.Read.val_main_v107_eq _ _ _).trans ?_
      rw [Cert.InprojIdeal.Value.final_v m c]
    · refine (Cert.InprojReferenceIdeal.Read.val_main_v109_eq _ _ _).trans ?_
      rw [Cert.InprojIdeal.Value.final_gates m c]

/-- The filters' reference leaves its arguments unchanged and every counter at zero. -/
theorem filter_reference_frame : Cert.quiescent_FilterReferenceIdeal := fun m g _ =>
  (θ_run _ _ _).mono (fun r h => ⟨fun c => (h c).2, sem_eq_zero_of_no_sems (by decide) r.2⟩) (Cert.FilterReferenceIdeal.Value.run m g)

/-- The filters: the kernel's result array and the reference's are equal where the last layer's weights are finite. -/
theorem filter_value : Cert.algebraic_FilterIdeal_FilterReferenceIdeal_pre_filter_inputs_finite := by
  pair_intro
  · run_from Cert.FilterIdeal.Gen.run_main m g
  · run_from Cert.FilterReferenceIdeal.Value.run m' g'
    refine (Cert.FilterReferenceIdeal.Read.val_main_v39_eq m' c).trans ?_
    rw [Cert.FilterIdeal.Value.final m c (Cert.FilterIdeal.Value.finite_args (hpre c))]
    obtain ⟨a0, a1, a2, a3, a4, a5, a6, a7, a8⟩ := hagree c
    rw [a0, a1, a2, a3, a4, a5, a6, a7, a8]

theorem claim : Cert.Claim := ⟨Cert.Kernel.Gen.facts, Cert.KernelIdeal.Gen.facts, Cert.ReferenceIdeal.Gen.facts, Cert.Dense.Gen.facts, Cert.DenseIdeal.Gen.facts, Cert.DenseReferenceIdeal.Gen.facts, Cert.Merge.Gen.facts,
    Cert.MergeIdeal.Gen.facts, Cert.MergeReferenceIdeal.Gen.facts, Cert.Router.Gen.facts, Cert.RouterIdeal.Gen.facts, Cert.RouterReferenceIdeal.Gen.facts,
    Cert.Inproj.Gen.facts, Cert.InprojIdeal.Gen.facts, Cert.InprojReferenceIdeal.Gen.facts,
    Cert.Filter.Gen.facts, Cert.FilterIdeal.Gen.facts, Cert.FilterReferenceIdeal.Gen.facts,
    Cert.Pre_attention_inputs_finite.Gen.facts, Cert.Pre_inproj_inputs_finite.Gen.facts, Cert.Pre_filter_inputs_finite.Gen.facts,
  fun m ρ _ => Cert.Kernel.Gen.frame m ρ, fun m ρ _ => Cert.KernelIdeal.Gen.frame m ρ, fun m ρ _ => Cert.KernelIdeal.Gen.frame m ρ,
  reference_frame, fun m g _ => reference_frame m g trivial,
  fun m ρ _ => Cert.Dense.Gen.frame m ρ, fun m ρ _ => Cert.DenseIdeal.Gen.frame m ρ, dense_reference_frame,
  fun m ρ _ => Cert.Merge.Gen.frame m ρ, fun m ρ _ => Cert.MergeIdeal.Gen.frame m ρ, merge_reference_frame,
  fun m ρ _ => Cert.Router.Gen.frame m ρ, fun m ρ _ => Cert.RouterIdeal.Gen.frame m ρ, router_reference_frame,
  fun m ρ _ => Cert.Inproj.Gen.frame m ρ, fun m ρ _ => Cert.InprojIdeal.Gen.frame m ρ, fun m ρ _ => Cert.InprojIdeal.Gen.frame m ρ,
  inproj_reference_frame, fun m g _ => inproj_reference_frame m g trivial,
  fun m ρ _ => Cert.Filter.Gen.frame m ρ, fun m ρ _ => Cert.FilterIdeal.Gen.frame m ρ, fun m ρ _ => Cert.FilterIdeal.Gen.frame m ρ,
  filter_reference_frame, fun m g _ => filter_reference_frame m g trivial,
  trivial, attention_value, trivial, dense_value, trivial, merge_value, trivial, router_value, trivial, inproj_value, trivial, filter_value⟩

end Cert.Proof

end
